-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4x4x256x256 : Shape := ⟨4, ![4, 4, 256, 256]⟩
abbrev S4x4 : Shape := ⟨2, ![4, 4]⟩
abbrev S_ : Shape := ⟨0, ![]⟩
abbrev S8x128 : Shape := ⟨2, ![8, 128]⟩
abbrev S2x3x8x128 : Shape := ⟨4, ![2, 3, 8, 128]⟩
abbrev S2x3 : Shape := ⟨2, ![2, 3]⟩
abbrev S256x256 : Shape := ⟨2, ![256, 256]⟩
abbrev S256x1024 : Shape := ⟨2, ![256, 1024]⟩
abbrev S1x1x256x256 : Shape := ⟨4, ![1, 1, 256, 256]⟩
abbrev S1x1 : Shape := ⟨2, ![1, 1]⟩
abbrev S1x256x2048 : Shape := ⟨3, ![1, 256, 2048]⟩
abbrev S1 : Shape := ⟨1, ![1]⟩
abbrev S1x1x1 : Shape := ⟨3, ![1, 1, 1]⟩
abbrev S1x1x8x128 : Shape := ⟨4, ![1, 1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S256x2048, .bf16⟩
  | .local _ .vmem, ⟨4, _⟩ => ⟨S4x4x256x256, .bf16⟩
  | .local _ .vmem, ⟨5, _⟩ => ⟨S4x4x256x256, .bf16⟩
  | .local _ .vmem, ⟨6, _⟩ => ⟨S8x128, .f32⟩
  | .local _ .vmem, ⟨7, _⟩ => ⟨S2x3x8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  (ofTc nBuf bufTy 3 79 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch9 : Ref sig .tc := ⟨.vmem, 6, rfl⟩
abbrev cc0_scratch10 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v18 : BitVec 32 := Scalar.subi v2 c1_i32_13
  let c16_i32_14 : BitVec 32 := 16#32
  let v19 : BitVec 32 := Scalar.addi v18 c16_i32_14
  let c16_i32_15 : BitVec 32 := 16#32
  let v20 : BitVec 32 := Scalar.remsi v19 c16_i32_15
  let c256_i32 : BitVec 32 := 256#32
  let v21 : BitVec 32 := Scalar.muli v20 c256_i32
  let v22 : Index := Scalar.indexCast v21
  let c0_16 : Index := 0#32
  ![v22.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v27 : BitVec 32 := Scalar.addi v2 c1_i32_19
  let c16_i32_20 : BitVec 32 := 16#32
  let v28 : BitVec 32 := Scalar.remsi v27 c16_i32_20
  let c256_i32_21 : BitVec 32 := 256#32
  let v29 : BitVec 32 := Scalar.muli v28 c256_i32_21
  let v30 : Index := Scalar.indexCast v29
  let c0_22 : Index := 0#32
  ![v30.toNat, 0]
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_62 : BitVec 32 := 1#32
  let v75 : BitVec 32 := Scalar.muli v7 c1_i32_62
  let v76 : BitVec 32 := Scalar.addi c0_i32_63 v75
  v76.toNat
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_76 : BitVec 32 := 1#32
  let v85 : BitVec 32 := Scalar.muli v5 c1_i32_76
  let v86 : BitVec 32 := Scalar.addi c0_i32_77 v85
  v86.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_90 : BitVec 32 := 1#32
  let v95 : BitVec 32 := Scalar.muli v7 c1_i32_90
  let v96 : BitVec 32 := Scalar.addi c0_i32_91 v95
  v96.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_104 : BitVec 32 := 1#32
  let v105 : BitVec 32 := Scalar.muli v5 c1_i32_104
  let v106 : BitVec 32 := Scalar.addi c0_i32_105 v105
  v106.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_118 : BitVec 32 := 1#32
  let v115 : BitVec 32 := Scalar.muli v7 c1_i32_118
  let v116 : BitVec 32 := Scalar.addi c0_i32_119 v115
  v116.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_132 : BitVec 32 := 1#32
  let v125 : BitVec 32 := Scalar.muli v5 c1_i32_132
  let v126 : BitVec 32 := Scalar.addi c0_i32_133 v125
  v126.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_145 : BitVec 32 := 1#32
  let v135 : BitVec 32 := Scalar.muli v7 c1_i32_145
  let v136 : BitVec 32 := Scalar.addi c0_i32_146 v135
  v136.toNat
def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_159 : BitVec 32 := 1#32
  let v145 : BitVec 32 := Scalar.muli v5 c1_i32_159
  let v146 : BitVec 32 := Scalar.addi c0_i32_160 v145
  v146.toNat
def k0_off3 (d0 : Dev nD) (c0_i32_166 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_165 : BitVec 32 := 2#32
  let v155 : BitVec 32 := Scalar.subi v2 c2_i32_165
  let v156 : BitVec 32 := Scalar.subi v155 c0_i32_166
  let c32_i32 : BitVec 32 := 32#32
  let v157 : BitVec 32 := Scalar.addi v156 c32_i32
  let c16_i32_167 : BitVec 32 := 16#32
  let v158 : BitVec 32 := Scalar.remsi v157 c16_i32_167
  let c256_i32_168 : BitVec 32 := 256#32
  let v159 : BitVec 32 := Scalar.muli v158 c256_i32_168
  let v160 : Index := Scalar.indexCast v159
  let c0_169 : Index := 0#32
  ![v160.toNat, 0]
def k0_off4 (d0 : Dev nD) (c0_i32_174 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_173 : BitVec 32 := 2#32
  let v165 : BitVec 32 := Scalar.addi v2 c2_i32_173
  let v166 : BitVec 32 := Scalar.addi v165 c0_i32_174
  let c16_i32_175 : BitVec 32 := 16#32
  let v167 : BitVec 32 := Scalar.remsi v166 c16_i32_175
  let c256_i32_176 : BitVec 32 := 256#32
  let v168 : BitVec 32 := Scalar.muli v167 c256_i32_176
  let v169 : Index := Scalar.indexCast v168
  let c0_177 : Index := 0#32
  ![v169.toNat, 0]
def k0_dev11 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_259 : BitVec 32 := 1#32
  let v220 : BitVec 32 := Scalar.muli v7 c1_i32_259
  let v221 : BitVec 32 := Scalar.addi c0_i32_260 v220
  v221.toNat
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_273 : BitVec 32 := 1#32
  let v230 : BitVec 32 := Scalar.muli v5 c1_i32_273
  let v231 : BitVec 32 := Scalar.addi c0_i32_274 v230
  v231.toNat
def k0_dev13 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_357 : BitVec 32 := 1#32
  let v286 : BitVec 32 := Scalar.muli v7 c1_i32_357
  let v287 : BitVec 32 := Scalar.addi c0_i32_358 v286
  v287.toNat
def k0_dev14 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_371 : BitVec 32 := 1#32
  let v296 : BitVec 32 := Scalar.muli v5 c1_i32_371
  let v297 : BitVec 32 := Scalar.addi c0_i32_372 v296
  v297.toNat
def k0_dev15 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_455 : BitVec 32 := 1#32
  let v352 : BitVec 32 := Scalar.muli v7 c1_i32_455
  let v353 : BitVec 32 := Scalar.addi c0_i32_456 v352
  v353.toNat
def k0_dev16 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_469 : BitVec 32 := 1#32
  let v362 : BitVec 32 := Scalar.muli v5 c1_i32_469
  let v363 : BitVec 32 := Scalar.addi c0_i32_470 v362
  v363.toNat
def k0_dev17 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_553 : BitVec 32 := 1#32
  let v418 : BitVec 32 := Scalar.muli v7 c1_i32_553
  let v419 : BitVec 32 := Scalar.addi c0_i32_554 v418
  v419.toNat
def k0_dev18 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_567 : BitVec 32 := 1#32
  let v428 : BitVec 32 := Scalar.muli v5 c1_i32_567
  let v429 : BitVec 32 := Scalar.addi c0_i32_568 v428
  v429.toNat
def k0_dev19 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_574 : BitVec 32 := 1#32
  let v438 : BitVec 32 := Scalar.muli v5 c1_i32_574
  let v439 : BitVec 32 := Scalar.addi c0_i32_575 v438
  v439.toNat
def k0_dev20 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_577 : BitVec 32 := 1#32
  let v440 : BitVec 32 := Scalar.muli v7 c1_i32_577
  let v441 : BitVec 32 := Scalar.addi c0_i32_578 v440
  v441.toNat
def k0_dev21 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_674 : BitVec 32 := 1#32
  let v507 : BitVec 32 := Scalar.muli v7 c1_i32_674
  let v508 : BitVec 32 := Scalar.addi c0_i32_675 v507
  v508.toNat
def k0_dev22 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_688 : BitVec 32 := 1#32
  let v517 : BitVec 32 := Scalar.muli v5 c1_i32_688
  let v518 : BitVec 32 := Scalar.addi c0_i32_689 v517
  v518.toNat
def k0_dev23 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_772 : BitVec 32 := 1#32
  let v573 : BitVec 32 := Scalar.muli v7 c1_i32_772
  let v574 : BitVec 32 := Scalar.addi c0_i32_773 v573
  v574.toNat
def k0_dev24 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_786 : BitVec 32 := 1#32
  let v583 : BitVec 32 := Scalar.muli v5 c1_i32_786
  let v584 : BitVec 32 := Scalar.addi c0_i32_787 v583
  v584.toNat
def k0_dev25 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_870 : BitVec 32 := 1#32
  let v639 : BitVec 32 := Scalar.muli v7 c1_i32_870
  let v640 : BitVec 32 := Scalar.addi c0_i32_871 v639
  v640.toNat
def k0_dev26 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_884 : BitVec 32 := 1#32
  let v649 : BitVec 32 := Scalar.muli v5 c1_i32_884
  let v650 : BitVec 32 := Scalar.addi c0_i32_885 v649
  v650.toNat
def k0_dev27 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_968 : BitVec 32 := 1#32
  let v705 : BitVec 32 := Scalar.muli v7 c1_i32_968
  let v706 : BitVec 32 := Scalar.addi c0_i32_969 v705
  v706.toNat
def k0_dev28 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_982 : BitVec 32 := 1#32
  let v715 : BitVec 32 := Scalar.muli v5 c1_i32_982
  let v716 : BitVec 32 := Scalar.addi c0_i32_983 v715
  v716.toNat
def k0_dev29 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_989 : BitVec 32 := 1#32
  let v725 : BitVec 32 := Scalar.muli v5 c1_i32_989
  let v726 : BitVec 32 := Scalar.addi c0_i32_990 v725
  v726.toNat
def k0_dev30 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_992 : BitVec 32 := 1#32
  let v727 : BitVec 32 := Scalar.muli v7 c1_i32_992
  let v728 : BitVec 32 := Scalar.addi c0_i32_993 v727
  v728.toNat
def k0_dev31 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1093 : BitVec 32 := 1#32
  let v794 : BitVec 32 := Scalar.muli v7 c1_i32_1093
  let v795 : BitVec 32 := Scalar.addi c0_i32_1094 v794
  v795.toNat
def k0_dev32 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1107 : BitVec 32 := 1#32
  let v804 : BitVec 32 := Scalar.muli v5 c1_i32_1107
  let v805 : BitVec 32 := Scalar.addi c0_i32_1108 v804
  v805.toNat
def k0_dev33 (d0 : Dev nD) : Nat :=
  let c0_i32_1192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1191 : BitVec 32 := 1#32
  let v860 : BitVec 32 := Scalar.muli v7 c1_i32_1191
  let v861 : BitVec 32 := Scalar.addi c0_i32_1192 v860
  v861.toNat
def k0_dev34 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1205 : BitVec 32 := 1#32
  let v870 : BitVec 32 := Scalar.muli v5 c1_i32_1205
  let v871 : BitVec 32 := Scalar.addi c0_i32_1206 v870
  v871.toNat
def k0_dev35 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1289 : BitVec 32 := 1#32
  let v926 : BitVec 32 := Scalar.muli v7 c1_i32_1289
  let v927 : BitVec 32 := Scalar.addi c0_i32_1290 v926
  v927.toNat
def k0_dev36 (d0 : Dev nD) : Nat :=
  let c0_i32_1304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1303 : BitVec 32 := 1#32
  let v936 : BitVec 32 := Scalar.muli v5 c1_i32_1303
  let v937 : BitVec 32 := Scalar.addi c0_i32_1304 v936
  v937.toNat
def k0_dev37 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1387 : BitVec 32 := 1#32
  let v992 : BitVec 32 := Scalar.muli v7 c1_i32_1387
  let v993 : BitVec 32 := Scalar.addi c0_i32_1388 v992
  v993.toNat
def k0_dev38 (d0 : Dev nD) : Nat :=
  let c0_i32_1402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1401 : BitVec 32 := 1#32
  let v1002 : BitVec 32 := Scalar.muli v5 c1_i32_1401
  let v1003 : BitVec 32 := Scalar.addi c0_i32_1402 v1002
  v1003.toNat
def k0_dev39 (d0 : Dev nD) : Nat :=
  let c0_i32_1409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1408 : BitVec 32 := 1#32
  let v1012 : BitVec 32 := Scalar.muli v5 c1_i32_1408
  let v1013 : BitVec 32 := Scalar.addi c0_i32_1409 v1012
  v1013.toNat
def k0_dev40 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1411 : BitVec 32 := 1#32
  let v1014 : BitVec 32 := Scalar.muli v7 c1_i32_1411
  let v1015 : BitVec 32 := Scalar.addi c0_i32_1412 v1014
  v1015.toNat
def k0_dev41 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1512 : BitVec 32 := 1#32
  let v1081 : BitVec 32 := Scalar.muli v7 c1_i32_1512
  let v1082 : BitVec 32 := Scalar.addi c0_i32_1513 v1081
  v1082.toNat
def k0_dev42 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1526 : BitVec 32 := 1#32
  let v1091 : BitVec 32 := Scalar.muli v5 c1_i32_1526
  let v1092 : BitVec 32 := Scalar.addi c0_i32_1527 v1091
  v1092.toNat
def k0_dev43 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1610 : BitVec 32 := 1#32
  let v1147 : BitVec 32 := Scalar.muli v7 c1_i32_1610
  let v1148 : BitVec 32 := Scalar.addi c0_i32_1611 v1147
  v1148.toNat
def k0_dev44 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1624 : BitVec 32 := 1#32
  let v1157 : BitVec 32 := Scalar.muli v5 c1_i32_1624
  let v1158 : BitVec 32 := Scalar.addi c0_i32_1625 v1157
  v1158.toNat
def k0_dev45 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1708 : BitVec 32 := 1#32
  let v1213 : BitVec 32 := Scalar.muli v7 c1_i32_1708
  let v1214 : BitVec 32 := Scalar.addi c0_i32_1709 v1213
  v1214.toNat
def k0_dev46 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1722 : BitVec 32 := 1#32
  let v1223 : BitVec 32 := Scalar.muli v5 c1_i32_1722
  let v1224 : BitVec 32 := Scalar.addi c0_i32_1723 v1223
  v1224.toNat
def k0_dev47 (d0 : Dev nD) : Nat :=
  let c0_i32_1807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1806 : BitVec 32 := 1#32
  let v1279 : BitVec 32 := Scalar.muli v7 c1_i32_1806
  let v1280 : BitVec 32 := Scalar.addi c0_i32_1807 v1279
  v1280.toNat
def k0_dev48 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1820 : BitVec 32 := 1#32
  let v1289 : BitVec 32 := Scalar.muli v5 c1_i32_1820
  let v1290 : BitVec 32 := Scalar.addi c0_i32_1821 v1289
  v1290.toNat
def k0_dev49 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1827 : BitVec 32 := 1#32
  let v1299 : BitVec 32 := Scalar.muli v5 c1_i32_1827
  let v1300 : BitVec 32 := Scalar.addi c0_i32_1828 v1299
  v1300.toNat
def k0_dev50 (d0 : Dev nD) : Nat :=
  let c0_i32_1831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1830 : BitVec 32 := 1#32
  let v1301 : BitVec 32 := Scalar.muli v7 c1_i32_1830
  let v1302 : BitVec 32 := Scalar.addi c0_i32_1831 v1301
  v1302.toNat
def k0_dev51 (d0 : Dev nD) : Nat :=
  let c0_i32_1931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1930 : BitVec 32 := 1#32
  let v1368 : BitVec 32 := Scalar.muli v7 c1_i32_1930
  let v1369 : BitVec 32 := Scalar.addi c0_i32_1931 v1368
  v1369.toNat
def k0_dev52 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1944 : BitVec 32 := 1#32
  let v1378 : BitVec 32 := Scalar.muli v5 c1_i32_1944
  let v1379 : BitVec 32 := Scalar.addi c0_i32_1945 v1378
  v1379.toNat
def k0_dev53 (d0 : Dev nD) : Nat :=
  let c0_i32_2029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2028 : BitVec 32 := 1#32
  let v1434 : BitVec 32 := Scalar.muli v7 c1_i32_2028
  let v1435 : BitVec 32 := Scalar.addi c0_i32_2029 v1434
  v1435.toNat
def k0_dev54 (d0 : Dev nD) : Nat :=
  let c0_i32_2043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2042 : BitVec 32 := 1#32
  let v1444 : BitVec 32 := Scalar.muli v5 c1_i32_2042
  let v1445 : BitVec 32 := Scalar.addi c0_i32_2043 v1444
  v1445.toNat
def k0_dev55 (d0 : Dev nD) : Nat :=
  let c0_i32_2127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2126 : BitVec 32 := 1#32
  let v1500 : BitVec 32 := Scalar.muli v7 c1_i32_2126
  let v1501 : BitVec 32 := Scalar.addi c0_i32_2127 v1500
  v1501.toNat
def k0_dev56 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2140 : BitVec 32 := 1#32
  let v1510 : BitVec 32 := Scalar.muli v5 c1_i32_2140
  let v1511 : BitVec 32 := Scalar.addi c0_i32_2141 v1510
  v1511.toNat
def k0_dev57 (d0 : Dev nD) : Nat :=
  let c0_i32_2225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2224 : BitVec 32 := 1#32
  let v1566 : BitVec 32 := Scalar.muli v7 c1_i32_2224
  let v1567 : BitVec 32 := Scalar.addi c0_i32_2225 v1566
  v1567.toNat
def k0_dev58 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2238 : BitVec 32 := 1#32
  let v1576 : BitVec 32 := Scalar.muli v5 c1_i32_2238
  let v1577 : BitVec 32 := Scalar.addi c0_i32_2239 v1576
  v1577.toNat
def k0_dev59 (d0 : Dev nD) : Nat :=
  let c0_i32_2246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2245 : BitVec 32 := 1#32
  let v1586 : BitVec 32 := Scalar.muli v5 c1_i32_2245
  let v1587 : BitVec 32 := Scalar.addi c0_i32_2246 v1586
  v1587.toNat
def k0_dev60 (d0 : Dev nD) : Nat :=
  let c0_i32_2249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2248 : BitVec 32 := 1#32
  let v1588 : BitVec 32 := Scalar.muli v7 c1_i32_2248
  let v1589 : BitVec 32 := Scalar.addi c0_i32_2249 v1588
  v1589.toNat
def k0_dev61 (d0 : Dev nD) : Nat :=
  let c0_i32_2349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2348 : BitVec 32 := 1#32
  let v1655 : BitVec 32 := Scalar.muli v7 c1_i32_2348
  let v1656 : BitVec 32 := Scalar.addi c0_i32_2349 v1655
  v1656.toNat
def k0_dev62 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2362 : BitVec 32 := 1#32
  let v1665 : BitVec 32 := Scalar.muli v5 c1_i32_2362
  let v1666 : BitVec 32 := Scalar.addi c0_i32_2363 v1665
  v1666.toNat
def k0_dev63 (d0 : Dev nD) : Nat :=
  let c0_i32_2447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2446 : BitVec 32 := 1#32
  let v1721 : BitVec 32 := Scalar.muli v7 c1_i32_2446
  let v1722 : BitVec 32 := Scalar.addi c0_i32_2447 v1721
  v1722.toNat
def k0_dev64 (d0 : Dev nD) : Nat :=
  let c0_i32_2461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2460 : BitVec 32 := 1#32
  let v1731 : BitVec 32 := Scalar.muli v5 c1_i32_2460
  let v1732 : BitVec 32 := Scalar.addi c0_i32_2461 v1731
  v1732.toNat
def k0_dev65 (d0 : Dev nD) : Nat :=
  let c0_i32_2545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2544 : BitVec 32 := 1#32
  let v1787 : BitVec 32 := Scalar.muli v7 c1_i32_2544
  let v1788 : BitVec 32 := Scalar.addi c0_i32_2545 v1787
  v1788.toNat
def k0_dev66 (d0 : Dev nD) : Nat :=
  let c0_i32_2559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2558 : BitVec 32 := 1#32
  let v1797 : BitVec 32 := Scalar.muli v5 c1_i32_2558
  let v1798 : BitVec 32 := Scalar.addi c0_i32_2559 v1797
  v1798.toNat
def k0_dev67 (d0 : Dev nD) : Nat :=
  let c0_i32_2643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2642 : BitVec 32 := 1#32
  let v1853 : BitVec 32 := Scalar.muli v7 c1_i32_2642
  let v1854 : BitVec 32 := Scalar.addi c0_i32_2643 v1853
  v1854.toNat
def k0_dev68 (d0 : Dev nD) : Nat :=
  let c0_i32_2657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2656 : BitVec 32 := 1#32
  let v1863 : BitVec 32 := Scalar.muli v5 c1_i32_2656
  let v1864 : BitVec 32 := Scalar.addi c0_i32_2657 v1863
  v1864.toNat
def k0_dev69 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2663 : BitVec 32 := 1#32
  let v1873 : BitVec 32 := Scalar.muli v5 c1_i32_2663
  let v1874 : BitVec 32 := Scalar.addi c0_i32_2664 v1873
  v1874.toNat
def k0_dev70 (d0 : Dev nD) : Nat :=
  let c0_i32_2667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2666 : BitVec 32 := 1#32
  let v1875 : BitVec 32 := Scalar.muli v7 c1_i32_2666
  let v1876 : BitVec 32 := Scalar.addi c0_i32_2667 v1875
  v1876.toNat
def k0_dev71 (d0 : Dev nD) : Nat :=
  let c0_i32_2767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2766 : BitVec 32 := 1#32
  let v1942 : BitVec 32 := Scalar.muli v7 c1_i32_2766
  let v1943 : BitVec 32 := Scalar.addi c0_i32_2767 v1942
  v1943.toNat
def k0_dev72 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2780 : BitVec 32 := 1#32
  let v1952 : BitVec 32 := Scalar.muli v5 c1_i32_2780
  let v1953 : BitVec 32 := Scalar.addi c0_i32_2781 v1952
  v1953.toNat
def k0_dev73 (d0 : Dev nD) : Nat :=
  let c0_i32_2865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2864 : BitVec 32 := 1#32
  let v2008 : BitVec 32 := Scalar.muli v7 c1_i32_2864
  let v2009 : BitVec 32 := Scalar.addi c0_i32_2865 v2008
  v2009.toNat
def k0_dev74 (d0 : Dev nD) : Nat :=
  let c0_i32_2879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2878 : BitVec 32 := 1#32
  let v2018 : BitVec 32 := Scalar.muli v5 c1_i32_2878
  let v2019 : BitVec 32 := Scalar.addi c0_i32_2879 v2018
  v2019.toNat
def k0_dev75 (d0 : Dev nD) : Nat :=
  let c0_i32_2963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2962 : BitVec 32 := 1#32
  let v2074 : BitVec 32 := Scalar.muli v7 c1_i32_2962
  let v2075 : BitVec 32 := Scalar.addi c0_i32_2963 v2074
  v2075.toNat
def k0_dev76 (d0 : Dev nD) : Nat :=
  let c0_i32_2977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2976 : BitVec 32 := 1#32
  let v2084 : BitVec 32 := Scalar.muli v5 c1_i32_2976
  let v2085 : BitVec 32 := Scalar.addi c0_i32_2977 v2084
  v2085.toNat
def k0_dev77 (d0 : Dev nD) : Nat :=
  let c0_i32_3061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3060 : BitVec 32 := 1#32
  let v2140 : BitVec 32 := Scalar.muli v7 c1_i32_3060
  let v2141 : BitVec 32 := Scalar.addi c0_i32_3061 v2140
  v2141.toNat
def k0_dev78 (d0 : Dev nD) : Nat :=
  let c0_i32_3075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3074 : BitVec 32 := 1#32
  let v2150 : BitVec 32 := Scalar.muli v5 c1_i32_3074
  let v2151 : BitVec 32 := Scalar.addi c0_i32_3075 v2150
  v2151.toNat
def k0_dev79 (d0 : Dev nD) : Nat :=
  let c0_i32_3082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3081 : BitVec 32 := 1#32
  let v2160 : BitVec 32 := Scalar.muli v5 c1_i32_3081
  let v2161 : BitVec 32 := Scalar.addi c0_i32_3082 v2160
  v2161.toNat
def k0_dev80 (d0 : Dev nD) : Nat :=
  let c0_i32_3085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3084 : BitVec 32 := 1#32
  let v2162 : BitVec 32 := Scalar.muli v7 c1_i32_3084
  let v2163 : BitVec 32 := Scalar.addi c0_i32_3085 v2162
  v2163.toNat
def k0_dev81 (d0 : Dev nD) : Nat :=
  let c0_i32_3185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3184 : BitVec 32 := 1#32
  let v2229 : BitVec 32 := Scalar.muli v7 c1_i32_3184
  let v2230 : BitVec 32 := Scalar.addi c0_i32_3185 v2229
  v2230.toNat
def k0_dev82 (d0 : Dev nD) : Nat :=
  let c0_i32_3199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3198 : BitVec 32 := 1#32
  let v2239 : BitVec 32 := Scalar.muli v5 c1_i32_3198
  let v2240 : BitVec 32 := Scalar.addi c0_i32_3199 v2239
  v2240.toNat
def k0_dev83 (d0 : Dev nD) : Nat :=
  let c0_i32_3283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3282 : BitVec 32 := 1#32
  let v2295 : BitVec 32 := Scalar.muli v7 c1_i32_3282
  let v2296 : BitVec 32 := Scalar.addi c0_i32_3283 v2295
  v2296.toNat
def k0_dev84 (d0 : Dev nD) : Nat :=
  let c0_i32_3297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3296 : BitVec 32 := 1#32
  let v2305 : BitVec 32 := Scalar.muli v5 c1_i32_3296
  let v2306 : BitVec 32 := Scalar.addi c0_i32_3297 v2305
  v2306.toNat
def k0_dev85 (d0 : Dev nD) : Nat :=
  let c0_i32_3381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3380 : BitVec 32 := 1#32
  let v2361 : BitVec 32 := Scalar.muli v7 c1_i32_3380
  let v2362 : BitVec 32 := Scalar.addi c0_i32_3381 v2361
  v2362.toNat
def k0_dev86 (d0 : Dev nD) : Nat :=
  let c0_i32_3395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3394 : BitVec 32 := 1#32
  let v2371 : BitVec 32 := Scalar.muli v5 c1_i32_3394
  let v2372 : BitVec 32 := Scalar.addi c0_i32_3395 v2371
  v2372.toNat
def k0_dev87 (d0 : Dev nD) : Nat :=
  let c0_i32_3479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3478 : BitVec 32 := 1#32
  let v2427 : BitVec 32 := Scalar.muli v7 c1_i32_3478
  let v2428 : BitVec 32 := Scalar.addi c0_i32_3479 v2427
  v2428.toNat
def k0_dev88 (d0 : Dev nD) : Nat :=
  let c0_i32_3493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3492 : BitVec 32 := 1#32
  let v2437 : BitVec 32 := Scalar.muli v5 c1_i32_3492
  let v2438 : BitVec 32 := Scalar.addi c0_i32_3493 v2437
  v2438.toNat
def k0_dev89 (d0 : Dev nD) : Nat :=
  let c0_i32_3500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3499 : BitVec 32 := 1#32
  let v2447 : BitVec 32 := Scalar.muli v5 c1_i32_3499
  let v2448 : BitVec 32 := Scalar.addi c0_i32_3500 v2447
  v2448.toNat
def k0_dev90 (d0 : Dev nD) : Nat :=
  let c0_i32_3503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3502 : BitVec 32 := 1#32
  let v2449 : BitVec 32 := Scalar.muli v7 c1_i32_3502
  let v2450 : BitVec 32 := Scalar.addi c0_i32_3503 v2449
  v2450.toNat
def k0_dev91 (d0 : Dev nD) : Nat :=
  let c0_i32_3603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3602 : BitVec 32 := 1#32
  let v2516 : BitVec 32 := Scalar.muli v7 c1_i32_3602
  let v2517 : BitVec 32 := Scalar.addi c0_i32_3603 v2516
  v2517.toNat
def k0_dev92 (d0 : Dev nD) : Nat :=
  let c0_i32_3617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3616 : BitVec 32 := 1#32
  let v2526 : BitVec 32 := Scalar.muli v5 c1_i32_3616
  let v2527 : BitVec 32 := Scalar.addi c0_i32_3617 v2526
  v2527.toNat
def k0_dev93 (d0 : Dev nD) : Nat :=
  let c0_i32_3701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3700 : BitVec 32 := 1#32
  let v2582 : BitVec 32 := Scalar.muli v7 c1_i32_3700
  let v2583 : BitVec 32 := Scalar.addi c0_i32_3701 v2582
  v2583.toNat
def k0_dev94 (d0 : Dev nD) : Nat :=
  let c0_i32_3715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3714 : BitVec 32 := 1#32
  let v2592 : BitVec 32 := Scalar.muli v5 c1_i32_3714
  let v2593 : BitVec 32 := Scalar.addi c0_i32_3715 v2592
  v2593.toNat
def k0_dev95 (d0 : Dev nD) : Nat :=
  let c0_i32_3799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3798 : BitVec 32 := 1#32
  let v2648 : BitVec 32 := Scalar.muli v7 c1_i32_3798
  let v2649 : BitVec 32 := Scalar.addi c0_i32_3799 v2648
  v2649.toNat
def k0_dev96 (d0 : Dev nD) : Nat :=
  let c0_i32_3813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3812 : BitVec 32 := 1#32
  let v2658 : BitVec 32 := Scalar.muli v5 c1_i32_3812
  let v2659 : BitVec 32 := Scalar.addi c0_i32_3813 v2658
  v2659.toNat
def k0_dev97 (d0 : Dev nD) : Nat :=
  let c0_i32_3897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3896 : BitVec 32 := 1#32
  let v2714 : BitVec 32 := Scalar.muli v7 c1_i32_3896
  let v2715 : BitVec 32 := Scalar.addi c0_i32_3897 v2714
  v2715.toNat
def k0_dev98 (d0 : Dev nD) : Nat :=
  let c0_i32_3911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3910 : BitVec 32 := 1#32
  let v2724 : BitVec 32 := Scalar.muli v5 c1_i32_3910
  let v2725 : BitVec 32 := Scalar.addi c0_i32_3911 v2724
  v2725.toNat
def k0_dev99 (d0 : Dev nD) : Nat :=
  let c0_i32_3918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3917 : BitVec 32 := 1#32
  let v2734 : BitVec 32 := Scalar.muli v5 c1_i32_3917
  let v2735 : BitVec 32 := Scalar.addi c0_i32_3918 v2734
  v2735.toNat
def k0_dev100 (d0 : Dev nD) : Nat :=
  let c0_i32_3921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3920 : BitVec 32 := 1#32
  let v2736 : BitVec 32 := Scalar.muli v7 c1_i32_3920
  let v2737 : BitVec 32 := Scalar.addi c0_i32_3921 v2736
  v2737.toNat
def k0_dev101 (d0 : Dev nD) : Nat :=
  let c0_i32_4021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4020 : BitVec 32 := 1#32
  let v2803 : BitVec 32 := Scalar.muli v7 c1_i32_4020
  let v2804 : BitVec 32 := Scalar.addi c0_i32_4021 v2803
  v2804.toNat
def k0_dev102 (d0 : Dev nD) : Nat :=
  let c0_i32_4035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4034 : BitVec 32 := 1#32
  let v2813 : BitVec 32 := Scalar.muli v5 c1_i32_4034
  let v2814 : BitVec 32 := Scalar.addi c0_i32_4035 v2813
  v2814.toNat
def k0_dev103 (d0 : Dev nD) : Nat :=
  let c0_i32_4119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4118 : BitVec 32 := 1#32
  let v2869 : BitVec 32 := Scalar.muli v7 c1_i32_4118
  let v2870 : BitVec 32 := Scalar.addi c0_i32_4119 v2869
  v2870.toNat
def k0_dev104 (d0 : Dev nD) : Nat :=
  let c0_i32_4133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4132 : BitVec 32 := 1#32
  let v2879 : BitVec 32 := Scalar.muli v5 c1_i32_4132
  let v2880 : BitVec 32 := Scalar.addi c0_i32_4133 v2879
  v2880.toNat
def k0_dev105 (d0 : Dev nD) : Nat :=
  let c0_i32_4217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4216 : BitVec 32 := 1#32
  let v2935 : BitVec 32 := Scalar.muli v7 c1_i32_4216
  let v2936 : BitVec 32 := Scalar.addi c0_i32_4217 v2935
  v2936.toNat
def k0_dev106 (d0 : Dev nD) : Nat :=
  let c0_i32_4231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4230 : BitVec 32 := 1#32
  let v2945 : BitVec 32 := Scalar.muli v5 c1_i32_4230
  let v2946 : BitVec 32 := Scalar.addi c0_i32_4231 v2945
  v2946.toNat
def k0_dev107 (d0 : Dev nD) : Nat :=
  let c0_i32_4315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4314 : BitVec 32 := 1#32
  let v3001 : BitVec 32 := Scalar.muli v7 c1_i32_4314
  let v3002 : BitVec 32 := Scalar.addi c0_i32_4315 v3001
  v3002.toNat
def k0_dev108 (d0 : Dev nD) : Nat :=
  let c0_i32_4329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4328 : BitVec 32 := 1#32
  let v3011 : BitVec 32 := Scalar.muli v5 c1_i32_4328
  let v3012 : BitVec 32 := Scalar.addi c0_i32_4329 v3011
  v3012.toNat
def k0_dev109 (d0 : Dev nD) : Nat :=
  let c0_i32_4336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4335 : BitVec 32 := 1#32
  let v3021 : BitVec 32 := Scalar.muli v5 c1_i32_4335
  let v3022 : BitVec 32 := Scalar.addi c0_i32_4336 v3021
  v3022.toNat
def k0_dev110 (d0 : Dev nD) : Nat :=
  let c0_i32_4339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4338 : BitVec 32 := 1#32
  let v3023 : BitVec 32 := Scalar.muli v7 c1_i32_4338
  let v3024 : BitVec 32 := Scalar.addi c0_i32_4339 v3023
  v3024.toNat
def k0_dev111 (d0 : Dev nD) : Nat :=
  let c0_i32_4439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4438 : BitVec 32 := 1#32
  let v3090 : BitVec 32 := Scalar.muli v7 c1_i32_4438
  let v3091 : BitVec 32 := Scalar.addi c0_i32_4439 v3090
  v3091.toNat
def k0_dev112 (d0 : Dev nD) : Nat :=
  let c0_i32_4453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4452 : BitVec 32 := 1#32
  let v3100 : BitVec 32 := Scalar.muli v5 c1_i32_4452
  let v3101 : BitVec 32 := Scalar.addi c0_i32_4453 v3100
  v3101.toNat
def k0_dev113 (d0 : Dev nD) : Nat :=
  let c0_i32_4537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4536 : BitVec 32 := 1#32
  let v3156 : BitVec 32 := Scalar.muli v7 c1_i32_4536
  let v3157 : BitVec 32 := Scalar.addi c0_i32_4537 v3156
  v3157.toNat
def k0_dev114 (d0 : Dev nD) : Nat :=
  let c0_i32_4551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4550 : BitVec 32 := 1#32
  let v3166 : BitVec 32 := Scalar.muli v5 c1_i32_4550
  let v3167 : BitVec 32 := Scalar.addi c0_i32_4551 v3166
  v3167.toNat
def k0_dev115 (d0 : Dev nD) : Nat :=
  let c0_i32_4635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4634 : BitVec 32 := 1#32
  let v3222 : BitVec 32 := Scalar.muli v7 c1_i32_4634
  let v3223 : BitVec 32 := Scalar.addi c0_i32_4635 v3222
  v3223.toNat
def k0_dev116 (d0 : Dev nD) : Nat :=
  let c0_i32_4649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4648 : BitVec 32 := 1#32
  let v3232 : BitVec 32 := Scalar.muli v5 c1_i32_4648
  let v3233 : BitVec 32 := Scalar.addi c0_i32_4649 v3232
  v3233.toNat
def k0_dev117 (d0 : Dev nD) : Nat :=
  let c0_i32_4733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4732 : BitVec 32 := 1#32
  let v3288 : BitVec 32 := Scalar.muli v7 c1_i32_4732
  let v3289 : BitVec 32 := Scalar.addi c0_i32_4733 v3288
  v3289.toNat
def k0_dev118 (d0 : Dev nD) : Nat :=
  let c0_i32_4747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4746 : BitVec 32 := 1#32
  let v3298 : BitVec 32 := Scalar.muli v5 c1_i32_4746
  let v3299 : BitVec 32 := Scalar.addi c0_i32_4747 v3298
  v3299.toNat
def k0_dev119 (d0 : Dev nD) : Nat :=
  let c0_i32_4754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4753 : BitVec 32 := 1#32
  let v3308 : BitVec 32 := Scalar.muli v5 c1_i32_4753
  let v3309 : BitVec 32 := Scalar.addi c0_i32_4754 v3308
  v3309.toNat
def k0_dev120 (d0 : Dev nD) : Nat :=
  let c0_i32_4757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4756 : BitVec 32 := 1#32
  let v3310 : BitVec 32 := Scalar.muli v7 c1_i32_4756
  let v3311 : BitVec 32 := Scalar.addi c0_i32_4757 v3310
  v3311.toNat
def k0_dev121 (d0 : Dev nD) : Nat :=
  let c0_i32_4857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4856 : BitVec 32 := 1#32
  let v3377 : BitVec 32 := Scalar.muli v7 c1_i32_4856
  let v3378 : BitVec 32 := Scalar.addi c0_i32_4857 v3377
  v3378.toNat
def k0_dev122 (d0 : Dev nD) : Nat :=
  let c0_i32_4871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4870 : BitVec 32 := 1#32
  let v3387 : BitVec 32 := Scalar.muli v5 c1_i32_4870
  let v3388 : BitVec 32 := Scalar.addi c0_i32_4871 v3387
  v3388.toNat
def k0_dev123 (d0 : Dev nD) : Nat :=
  let c0_i32_4955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4954 : BitVec 32 := 1#32
  let v3443 : BitVec 32 := Scalar.muli v7 c1_i32_4954
  let v3444 : BitVec 32 := Scalar.addi c0_i32_4955 v3443
  v3444.toNat
def k0_dev124 (d0 : Dev nD) : Nat :=
  let c0_i32_4969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4968 : BitVec 32 := 1#32
  let v3453 : BitVec 32 := Scalar.muli v5 c1_i32_4968
  let v3454 : BitVec 32 := Scalar.addi c0_i32_4969 v3453
  v3454.toNat
def k0_dev125 (d0 : Dev nD) : Nat :=
  let c0_i32_5053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5052 : BitVec 32 := 1#32
  let v3509 : BitVec 32 := Scalar.muli v7 c1_i32_5052
  let v3510 : BitVec 32 := Scalar.addi c0_i32_5053 v3509
  v3510.toNat
def k0_dev126 (d0 : Dev nD) : Nat :=
  let c0_i32_5067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5066 : BitVec 32 := 1#32
  let v3519 : BitVec 32 := Scalar.muli v5 c1_i32_5066
  let v3520 : BitVec 32 := Scalar.addi c0_i32_5067 v3519
  v3520.toNat
def k0_dev127 (d0 : Dev nD) : Nat :=
  let c0_i32_5151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5150 : BitVec 32 := 1#32
  let v3575 : BitVec 32 := Scalar.muli v7 c1_i32_5150
  let v3576 : BitVec 32 := Scalar.addi c0_i32_5151 v3575
  v3576.toNat
def k0_dev128 (d0 : Dev nD) : Nat :=
  let c0_i32_5165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5164 : BitVec 32 := 1#32
  let v3585 : BitVec 32 := Scalar.muli v5 c1_i32_5164
  let v3586 : BitVec 32 := Scalar.addi c0_i32_5165 v3585
  v3586.toNat
def k0_dev129 (d0 : Dev nD) : Nat :=
  let c0_i32_5172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5171 : BitVec 32 := 1#32
  let v3595 : BitVec 32 := Scalar.muli v5 c1_i32_5171
  let v3596 : BitVec 32 := Scalar.addi c0_i32_5172 v3595
  v3596.toNat
def k0_dev130 (d0 : Dev nD) : Nat :=
  let c0_i32_5175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5174 : BitVec 32 := 1#32
  let v3597 : BitVec 32 := Scalar.muli v7 c1_i32_5174
  let v3598 : BitVec 32 := Scalar.addi c0_i32_5175 v3597
  v3598.toNat
def k0_dev131 (d0 : Dev nD) : Nat :=
  let c0_i32_5275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5274 : BitVec 32 := 1#32
  let v3664 : BitVec 32 := Scalar.muli v7 c1_i32_5274
  let v3665 : BitVec 32 := Scalar.addi c0_i32_5275 v3664
  v3665.toNat
def k0_dev132 (d0 : Dev nD) : Nat :=
  let c0_i32_5289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5288 : BitVec 32 := 1#32
  let v3674 : BitVec 32 := Scalar.muli v5 c1_i32_5288
  let v3675 : BitVec 32 := Scalar.addi c0_i32_5289 v3674
  v3675.toNat
def k0_dev133 (d0 : Dev nD) : Nat :=
  let c0_i32_5373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5372 : BitVec 32 := 1#32
  let v3730 : BitVec 32 := Scalar.muli v7 c1_i32_5372
  let v3731 : BitVec 32 := Scalar.addi c0_i32_5373 v3730
  v3731.toNat
def k0_dev134 (d0 : Dev nD) : Nat :=
  let c0_i32_5387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5386 : BitVec 32 := 1#32
  let v3740 : BitVec 32 := Scalar.muli v5 c1_i32_5386
  let v3741 : BitVec 32 := Scalar.addi c0_i32_5387 v3740
  v3741.toNat
def k0_dev135 (d0 : Dev nD) : Nat :=
  let c0_i32_5471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5470 : BitVec 32 := 1#32
  let v3796 : BitVec 32 := Scalar.muli v7 c1_i32_5470
  let v3797 : BitVec 32 := Scalar.addi c0_i32_5471 v3796
  v3797.toNat
def k0_dev136 (d0 : Dev nD) : Nat :=
  let c0_i32_5485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5484 : BitVec 32 := 1#32
  let v3806 : BitVec 32 := Scalar.muli v5 c1_i32_5484
  let v3807 : BitVec 32 := Scalar.addi c0_i32_5485 v3806
  v3807.toNat
def k0_dev137 (d0 : Dev nD) : Nat :=
  let c0_i32_5569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5568 : BitVec 32 := 1#32
  let v3862 : BitVec 32 := Scalar.muli v7 c1_i32_5568
  let v3863 : BitVec 32 := Scalar.addi c0_i32_5569 v3862
  v3863.toNat
def k0_dev138 (d0 : Dev nD) : Nat :=
  let c0_i32_5583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5582 : BitVec 32 := 1#32
  let v3872 : BitVec 32 := Scalar.muli v5 c1_i32_5582
  let v3873 : BitVec 32 := Scalar.addi c0_i32_5583 v3872
  v3873.toNat
def k0_dev139 (d0 : Dev nD) : Nat :=
  let c0_i32_5687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5686 : BitVec 32 := 1#32
  let v3947 : BitVec 32 := Scalar.muli v7 c1_i32_5686
  let v3948 : BitVec 32 := Scalar.addi c0_i32_5687 v3947
  v3948.toNat
def k0_dev140 (d0 : Dev nD) : Nat :=
  let c0_i32_5701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5700 : BitVec 32 := 1#32
  let v3957 : BitVec 32 := Scalar.muli v5 c1_i32_5700
  let v3958 : BitVec 32 := Scalar.addi c0_i32_5701 v3957
  v3958.toNat
def k0_dev141 (d0 : Dev nD) : Nat :=
  let c0_i32_5785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5784 : BitVec 32 := 1#32
  let v4013 : BitVec 32 := Scalar.muli v7 c1_i32_5784
  let v4014 : BitVec 32 := Scalar.addi c0_i32_5785 v4013
  v4014.toNat
def k0_dev142 (d0 : Dev nD) : Nat :=
  let c0_i32_5799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5798 : BitVec 32 := 1#32
  let v4023 : BitVec 32 := Scalar.muli v5 c1_i32_5798
  let v4024 : BitVec 32 := Scalar.addi c0_i32_5799 v4023
  v4024.toNat
def k0_dev143 (d0 : Dev nD) : Nat :=
  let c0_i32_5883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5882 : BitVec 32 := 1#32
  let v4079 : BitVec 32 := Scalar.muli v7 c1_i32_5882
  let v4080 : BitVec 32 := Scalar.addi c0_i32_5883 v4079
  v4080.toNat
def k0_dev144 (d0 : Dev nD) : Nat :=
  let c0_i32_5897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5896 : BitVec 32 := 1#32
  let v4089 : BitVec 32 := Scalar.muli v5 c1_i32_5896
  let v4090 : BitVec 32 := Scalar.addi c0_i32_5897 v4089
  v4090.toNat
def k0_dev145 (d0 : Dev nD) : Nat :=
  let c0_i32_5981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5980 : BitVec 32 := 1#32
  let v4145 : BitVec 32 := Scalar.muli v7 c1_i32_5980
  let v4146 : BitVec 32 := Scalar.addi c0_i32_5981 v4145
  v4146.toNat
def k0_dev146 (d0 : Dev nD) : Nat :=
  let c0_i32_5995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5994 : BitVec 32 := 1#32
  let v4155 : BitVec 32 := Scalar.muli v5 c1_i32_5994
  let v4156 : BitVec 32 := Scalar.addi c0_i32_5995 v4155
  v4156.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_6000 : BitVec 32 := 256#32
  let v4165 : BitVec 32 := Scalar.muli v2 c256_i32_6000
  let v4166 : Index := Scalar.indexCast v4165
  let c0_6001 : Index := 0#32
  ![v4166.toNat, 0]
def k0_dev147 (d0 : Dev nD) : Nat :=
  let c0_i32_6270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6262 : BitVec 32 := 1#32
  let v4322 : BitVec 32 := Scalar.xori v2 c1_i32_6262
  let c1_i32_6269 : BitVec 32 := 1#32
  let v4323 : BitVec 32 := Scalar.muli v4322 c1_i32_6269
  let v4324 : BitVec 32 := Scalar.addi c0_i32_6270 v4323
  v4324.toNat
def k0_dev148 (d0 : Dev nD) : Nat :=
  let c0_i32_6281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_6273 : BitVec 32 := 2#32
  let v4331 : BitVec 32 := Scalar.xori v2 c2_i32_6273
  let c1_i32_6280 : BitVec 32 := 1#32
  let v4332 : BitVec 32 := Scalar.muli v4331 c1_i32_6280
  let v4333 : BitVec 32 := Scalar.addi c0_i32_6281 v4332
  v4333.toNat
def k0_dev149 (d0 : Dev nD) : Nat :=
  let c0_i32_6292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6284 : BitVec 32 := 3#32
  let v4340 : BitVec 32 := Scalar.xori v2 c3_i32_6284
  let c1_i32_6291 : BitVec 32 := 1#32
  let v4341 : BitVec 32 := Scalar.muli v4340 c1_i32_6291
  let v4342 : BitVec 32 := Scalar.addi c0_i32_6292 v4341
  v4342.toNat
def k0_dev150 (d0 : Dev nD) : Nat :=
  let c0_i32_6376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6368 : BitVec 32 := 4#32
  let v4392 : BitVec 32 := Scalar.xori v2 c4_i32_6368
  let c1_i32_6375 : BitVec 32 := 1#32
  let v4393 : BitVec 32 := Scalar.muli v4392 c1_i32_6375
  let v4394 : BitVec 32 := Scalar.addi c0_i32_6376 v4393
  v4394.toNat
def k0_dev151 (d0 : Dev nD) : Nat :=
  let c0_i32_6387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_6379 : BitVec 32 := 8#32
  let v4401 : BitVec 32 := Scalar.xori v2 c8_i32_6379
  let c1_i32_6386 : BitVec 32 := 1#32
  let v4402 : BitVec 32 := Scalar.muli v4401 c1_i32_6386
  let v4403 : BitVec 32 := Scalar.addi c0_i32_6387 v4402
  v4403.toNat
def k0_dev152 (d0 : Dev nD) : Nat :=
  let c0_i32_6398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_6390 : BitVec 32 := 12#32
  let v4410 : BitVec 32 := Scalar.xori v2 c12_i32_6390
  let c1_i32_6397 : BitVec 32 := 1#32
  let v4411 : BitVec 32 := Scalar.muli v4410 c1_i32_6397
  let v4412 : BitVec 32 := Scalar.addi c0_i32_6398 v4411
  v4412.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Prog.lean ====
/- The kernel's body, written as fifteen turns of two rings followed by an exchange of maxima, and
   the statement that the printed body is this program. `true` names the ring that sends to the
   right neighbour (columns 0 to 1023), `false` the one that sends to the left neighbour. -/
module

public import proofs.«01_k».proof.Proof.Gen.KernelIdeal
public import Idealize.ShloMosaic.Lib.Pipeline.Regions

@[expose] public section

noncomputable section

namespace Cert.KernelIdeal.Body

open Idealize.ShloMosaic Idealize.ShloMosaic.TcCoe Idealize.SL.Sem
open Cert.KernelIdeal.Gen

variable {F : FTy → Type} [FloatOps F]

/-! ## Buffers, semaphores and devices -/

/-- The four slots of message `t`'s ring. -/
def slot (t : ℕ) : Fin 4 := ⟨t % 4, Nat.mod_lt _ (by decide)⟩

/-- A ring's buffer of four slots of four tiles. -/
def buf : Bool → Memref sig .tc .vmem S4x4x256x256 .bf16
  | true => Memref.whole cc0_scratch1
  | false => Memref.whole cc0_scratch2
/-- A ring's departure semaphores. -/
def sendS : Bool → DmaSems sig S4x4
  | true => cc0_scratch3
  | false => cc0_scratch5
/-- A ring's arrival semaphores. -/
def recvS : Bool → DmaSems sig S4x4
  | true => cc0_scratch4
  | false => cc0_scratch6
/-- A ring's credit semaphore. -/
def creditS : Bool → Sems sig S_
  | true => cc0_scratch7
  | false => cc0_scratch8
/-- The device a ring sends to. -/
def nb (d : Bool) (c : Dev nD) : Dev nD :=
  match d with
  | true => ⟨k0_dev3 c, k0_dev3_lt c⟩
  | false => ⟨k0_dev4 c, k0_dev4_lt c⟩

theorem inb_tile (σ j : Fin 4) : ∀ a, (![σ.val, j.val, 0, 0] : Fin 4 → Nat) a + S1x1x256x256.size a ≤ S4x4x256x256.size a := by
  revert σ j; decide
theorem inb_sem (σ j : Fin 4) : ∀ a, (![σ.val, j.val] : Fin 2 → Nat) a + S1x1.size a ≤ S4x4.size a := by
  revert σ j; decide
theorem inb_bsem (k : Fin 2) (i : Fin 3) : ∀ a, (![k.val, i.val] : Fin 2 → Nat) a + S1x1.size a ≤ S2x3.size a := by
  revert k i; decide
theorem inb_stage (k : Fin 2) (i : Fin 3) : ∀ a, (![k.val, i.val, 0, 0] : Fin 4 → Nat) a + S1x1x8x128.size a ≤ S2x3x8x128.size a := by
  revert k i; decide

/-- The rectangle of tile `j` of slot `σ`. -/
abbrev tileR (σ j : Fin 4) : Rect S4x4x256x256 :=
  Rect.unit (s := S4x4x256x256) ![σ.val, j.val, 0, 0] S1x1x256x256.size (inb_tile σ j)

theorem words_tile (σ j : Fin 4) : (tileR σ j).WholeWords (EltTy.packing .bf16) := by
  revert σ j; decide
theorem packed_tile (σ j : Fin 4) : (tileR σ j).PackedRows (EltTy.packing .bf16) := by
  revert σ j; decide

theorem buf_whole (d : Bool) : (buf d).IsWhole := by cases d <;> exact Memref.isWhole_whole _

/-- Tile `j` of slot `σ` of a ring's buffer. -/
def tile (d : Bool) (σ j : Fin 4) : Memref sig .tc .vmem S256x256 .bf16 :=
  ((buf d).slice (tileR σ j) (fun _ => rfl)).squeeze S256x256 squeezes_S1x1x256x256_S256x256

theorem tile_words (d : Bool) (σ j : Fin 4) : (tile d σ j).view.WordExact :=
  ((buf_whole d).wordExact_slice rfl _ (words_tile σ j)).reshape _ _

/-- A tile's semaphore in a table of four by four. -/
def semAt (S : DmaSems sig S4x4) (σ j : Fin 4) : DmaSem sig :=
  ((S.slice (Rect.unit (s := S4x4) ![σ.val, j.val] S1x1.size (inb_sem σ j))).squeeze S_ squeezes_S1x1_S_).sem

/-- The semaphore of exchange `k`, partner `i`, in a table of two by three. -/
def bsemAt (S : DmaSems sig S2x3) (k : Fin 2) (i : Fin 3) : DmaSem sig :=
  ((S.slice (Rect.unit (s := S2x3) ![k.val, i.val] S1x1.size (inb_bsem k i))).squeeze S_ squeezes_S1x1_S_).sem

/-- The rectangle of the landing place of exchange `k`, partner `i`. -/
abbrev stageR (k : Fin 2) (i : Fin 3) : Rect S2x3x8x128 :=
  Rect.unit (s := S2x3x8x128) ![k.val, i.val, 0, 0] S1x1x8x128.size (inb_stage k i)

/-- The landing place of exchange `k`, partner `i`. -/
def stageM (k : Fin 2) (i : Fin 3) : Memref sig .tc .vmem S8x128 .f32 :=
  ((Memref.whole cc0_scratch10).slice (stageR k i) (fun _ => rfl)).squeeze S8x128 squeezes_S1x1x8x128_S8x128

theorem stageM_words (k : Fin 2) (i : Fin 3) : (stageM k i).view.WordExact := (View.wordExact_bits rfl).reshape _ _

/-- The barrier's semaphore. -/
abbrev barS : Sems sig S_ := SemArray.scalar (sig.barrier 0 rfl)

/-- The running maximum. -/
abbrev amaxM : Memref sig .tc .vmem S8x128 .f32 := Memref.whole cc0_scratch9
/-- The weights, held through the kernel. -/
abbrev wbM : Memref sig .tc .vmem S256x2048 .bf16 := Memref.whole cc0_scratch0

/-- The partner of exchange `k` at index `i`. -/
def partner (k : Fin 2) (i : Fin 3) (c : Dev nD) : Dev nD :=
  match k, i with
  | 0, 0 => ⟨k0_dev147 c, k0_dev147_lt c⟩
  | 0, 1 => ⟨k0_dev148 c, k0_dev148_lt c⟩
  | 0, 2 => ⟨k0_dev149 c, k0_dev149_lt c⟩
  | 1, 0 => ⟨k0_dev150 c, k0_dev150_lt c⟩
  | 1, 1 => ⟨k0_dev151 c, k0_dev151_lt c⟩
  | 1, 2 => ⟨k0_dev152 c, k0_dev152_lt c⟩

/-! ## Values -/

/-- The columns of the weights a ring works on. -/
theorem inb_half (d : Bool) : ∀ a, (![0, bif d then 0 else 1024] : Fin 2 → Nat) a + S256x1024.size a ≤ S256x2048.size a := by
  revert d; decide
theorem slices_j (j : Fin 4) : S256x1024.Slices ![0, 256 * j.val] S256x256 := by revert j; decide

/-- A product of 256 rows of `x` with half of the weights. -/
def part (xb : Vec F S256x256 .bf16) (wh : Vec F S256x1024 .bf16) : FVec F S256x1024 .f32 :=
  matmul dot_S256x256_S256x1024_S256x1024_1_0_0_1_n_n none (shapeCast S256x256 xb shapeCasts_S256x256_S256x256) wh
    (constant S256x1024 .f32 0x00000000#32)
/-- Columns `256 j` to `256 j + 255` of a product. -/
def cut (j : Fin 4) (p : FVec F S256x1024 .f32) : FVec F S256x256 .f32 :=
  extractStridedSlice S256x256 ![0, 256 * j.val] p (slices_j j)
/-- A tile rounded to the ring's type. -/
def pack (a : FVec F S256x256 .f32) : FVec F S1x1x256x256 .bf16 :=
  shapeCast S1x1x256x256 (truncf .bf16 a bitsLt_bf16_f32) shapeCasts_S256x256_S1x1x256x256
/-- The tile a device starts a ring with. -/
def start (j : Fin 4) (p : FVec F S256x1024 .f32) : FVec F S1x1x256x256 .bf16 := pack (cut j p)
/-- The tile a device sends on: what it received and its own product. -/
def onward (j : Fin 4) (p : FVec F S256x1024 .f32) (a : Vec F S1x1x256x256 .bf16) : FVec F S1x1x256x256 .bf16 :=
  pack (addf (extf .f32 (shapeCast S256x256 a shapeCasts_S1x1x256x256_S256x256) bitsLt_bf16_f32) (cut j p))
/-- The last sum of a ring, from the four tiles received and the device's own product. -/
def total (p : FVec F S256x1024 .f32) (a0 a1 a2 a3 : Vec F S1x1x256x256 .bf16) : FVec F S256x1024 .f32 :=
  addf (extf .f32 (concatenate S256x1024 1
    [⟨S256x256, shapeCast S256x256 a0 shapeCasts_S1x1x256x256_S256x256⟩, ⟨S256x256, shapeCast S256x256 a1 shapeCasts_S1x1x256x256_S256x256⟩,
     ⟨S256x256, shapeCast S256x256 a2 shapeCasts_S1x1x256x256_S256x256⟩, ⟨S256x256, shapeCast S256x256 a3 shapeCasts_S1x1x256x256_S256x256⟩]
    concatenates_S256x256_S256x256_S256x256_S256x256_S256x1024_d1) bitsLt_bf16_f32) p
/-- The two halves side by side, negative entries replaced by zero. -/
def relu (yl yr : FVec F S256x1024 .f32) : FVec F S256x2048 .f32 :=
  maximumf (concatenate S256x2048 1 [⟨S256x1024, yl⟩, ⟨S256x1024, yr⟩] concatenates_S256x1024_S256x1024_S256x2048_d1)
    (broadcast S256x2048 (Scalar.ofBits .f32 0x00000000#32))
/-- The largest entry of a block, repeated over a tile. -/
def blockMax (y : FVec F S256x2048 .f32) : FVec F S8x128 .f32 :=
  shapeCast S8x128 (broadcast S8x128 (extractAt ![0, 0, 0] (shapeCast S1x1x1
    (multiReduction .maximumf [1, 2] S1 (shapeCast S1x256x2048 y shapeCasts_S256x2048_S1x256x2048) 0xFF800000#32 reduces_S1x256x2048_S1 (.inl rfl) rfl)
    shapeCasts_S1_S1x1x1) inpos_S1x1x1_p0_0_0)) shapeCasts_S8x128_S8x128
/-- The maximum of four tiles. -/
def max4 (a : Vec F S8x128 .f32) (b0 b1 b2 : Vec F S1x1x8x128 .f32) : FVec F S8x128 .f32 :=
  shapeCast S8x128 (maximumf (maximumf (maximumf a (shapeCast S8x128 b0 shapeCasts_S1x1x8x128_S8x128))
    (shapeCast S8x128 b1 shapeCasts_S1x1x8x128_S8x128)) (shapeCast S8x128 b2 shapeCasts_S1x1x8x128_S8x128)) shapeCasts_S8x128_S8x128
/-- The rounded output, from the block and the largest entry of all. -/
def quant (y : FVec F S256x2048 .f32) (m : Vec F S1x1 .f32) : FVec F S256x2048 .f32 :=
  let sc : F .f32 := Scalar.divf (extractAt ![0, 0] m inpos_S1x1_p0_0) (Scalar.ofBits .f32 0x42FE0000#32)
  mulf (minimumf (broadcast S256x2048 (Scalar.ofBits .f32 0x42FE0000#32)) (maximumf (broadcast S256x2048 (Scalar.ofBits .f32 0xC2FE0000#32))
    (roundeven (divf y (broadcast S256x2048 sc))))) (broadcast S256x2048 sc)
/-- The weights as kept. -/
def keep (w : Vec F S256x2048 .bf16) : FVec F S256x2048 .bf16 :=
  shapeCast S256x2048 (shapeCast S256x2048 w shapeCasts_S256x2048_S256x2048) shapeCasts_S256x2048_S256x2048

/-! ## The program -/

/-- The program type of a body. -/
abbrev Pg (F : FTy → Type) (α : Type) := Prog (TpuEff nD τ sig (Elt F) Λ₀ .tc) α

/-- Read 256 rows of `x` from the given offset. -/
def readX (x : Memref sig .tc .vmem S4096x256 .bf16) (off : Fin 2 → Nat) (h : ∀ a, off a + S256x256.size a ≤ S4096x256.size a) :
    Pg F (Vec F S256x256 .bf16) :=
  Prog.lift (.load x (Rect.unit (s := S4096x256) off S256x256.size h).toLoadRect (View.loadsAt_vmem h_S256x256))
/-- Read half of the kept weights. -/
def readW (d : Bool) : Pg F (Vec F S256x1024 .bf16) :=
  Prog.lift (.load wbM (Rect.unit (s := S256x2048) ![0, bif d then 0 else 1024] S256x1024.size (inb_half d)).toLoadRect (View.loadsAt_vmem h_S256x1024))
/-- Read a tile of a ring's buffer. -/
def readT (d : Bool) (σ j : Fin 4) : Pg F (Vec F S1x1x256x256 .bf16) :=
  Prog.lift (.load (buf d) (tileR σ j).toLoadRect (View.loadsAt_vmem h_S1x1x256x256))
/-- Write a tile of a ring's buffer. -/
def writeT (d : Bool) (σ j : Fin 4) (v : FVec F S1x1x256x256 .bf16) : Pg F PUnit :=
  Prog.lift (.store (buf d) (tileR σ j) v Finset.univ
    (View.stores_vmem h_S1x1x256x256 ((buf_whole d).storeExact_slice rfl _ (packed_tile σ j)) (fun _ => rfl)) (.inl rfl))
/-- Send tile `j` of message `t` to the ring's next device. -/
def sendT (d : Bool) (c : Dev nD) (t : ℕ) (j : Fin 4) : Pg F PUnit :=
  Prog.lift (.enqueueDma (tile d (slot t) j) (.remote (Dev.tc (nb d c)) (tile d (slot (t + 1)) j) (.dma (semAt (sendS d) (slot t) j)))
    (.dma (semAt (recvS d) (slot (t + 1)) j)) (tile_words d _ j) (tile_words d _ j) ⟨⟨rfl, Or.inl rfl⟩, trivial⟩)
/-- Wait until tile `j` of message `t` has left. -/
def sentT (d : Bool) (t : ℕ) (j : Fin 4) : Pg F PUnit :=
  Prog.lift (.waitDma2 (semAt (sendS d) (slot t) j) (tile d (slot (t + 1)) j) (tile d (slot t) j) (tile_words d _ j) (tile_words d _ j))
/-- Wait until tile `j` of message `t` of the previous device has arrived. -/
def gotT (d : Bool) (t : ℕ) (j : Fin 4) : Pg F PUnit :=
  Prog.lift (.waitDma2 (semAt (recvS d) (slot (t + 1)) j) (tile d (slot t) j) (tile d (slot (t + 1)) j) (tile_words d _ j) (tile_words d _ j))
/-- Read the maximum tile. -/
def readM : Pg F (Vec F S8x128 .f32) :=
  Prog.lift (.load amaxM (Rect.unit (s := S8x128) ![0, 0] S8x128.size inb_S8x128_S8x128_0_0).toLoadRect (View.loadsAt_vmem h_S8x128))
/-- Write the maximum tile. -/
def writeM (v : FVec F S8x128 .f32) : Pg F PUnit :=
  Prog.lift (.store amaxM (Rect.unit (s := S8x128) ![0, 0] S8x128.size inb_S8x128_S8x128_0_0) v Finset.univ (View.stores_vmem_bits_univ h_S8x128 rfl) (.inl rfl))
/-- Read a partner's maximum. -/
def readB (k : Fin 2) (i : Fin 3) : Pg F (Vec F S1x1x8x128 .f32) :=
  Prog.lift (.load (Memref.whole cc0_scratch10) (stageR k i).toLoadRect (View.loadsAt_vmem h_S1x1x8x128))
/-- Send the maximum to a partner. -/
def sendM (c : Dev nD) (k : Fin 2) (i : Fin 3) : Pg F PUnit :=
  Prog.lift (.enqueueDma amaxM (.remote (Dev.tc (partner k i c)) (stageM k i) (.dma (bsemAt cc0_scratch11 k i)))
    (.dma (bsemAt cc0_scratch12 k i)) (Memref.isWhole_whole _).wordExact (stageM_words k i) ⟨⟨rfl, Or.inl rfl⟩, trivial⟩)
/-- Wait until the maximum has left for a partner. -/
def sentM (k : Fin 2) (i : Fin 3) : Pg F PUnit :=
  Prog.lift (.waitDma2 (bsemAt cc0_scratch11 k i) (stageM k i) amaxM (stageM_words k i) (Memref.isWhole_whole _).wordExact)
/-- Wait until a partner's maximum has arrived. -/
def gotM (k : Fin 2) (i : Fin 3) : Pg F PUnit :=
  Prog.lift (.waitDma2 (bsemAt cc0_scratch12 k i) amaxM (stageM k i) (Memref.isWhole_whole _).wordExact (stageM_words k i))

/-- The rows of `x` turn `s` multiplies, per ring. -/
def offS (d : Bool) (c : Dev nD) (s : Fin 14) : Fin 2 → Nat :=
  match d with
  | true => k0_off3 c (BitVec.ofNat 32 s.val)
  | false => k0_off4 c (BitVec.ofNat 32 s.val)
theorem offS_inb (d : Bool) (c : Dev nD) (s : Fin 14) : ∀ a, offS d c s a + S256x256.size a ≤ S4096x256.size a :=
  match d with
  | true => k0_off3_inb c s
  | false => k0_off4_inb c s

/-- Tile `j` of turn `s`: both rings' waits. -/
def arrive (s : ℕ) (j : Fin 4) : Pg F PUnit := do
  sentT true s j; gotT true s j
  sentT false s j; gotT false s j
/-- One ring's part of passing tile `j` on. -/
def pass (d : Bool) (s : ℕ) (j : Fin 4) (p : FVec F S256x1024 .f32) : Pg F PUnit := do
  let a ← readT d (slot (s + 1)) j
  let _ ← readT d (slot (s + 1)) j
  writeT d (slot (s + 1)) j (onward j p a)
/-- Tile `j` of turn `s`. -/
def turnJ (c : Dev nD) (s : ℕ) (j : Fin 4) (pl pr : FVec F S256x1024 .f32) : Pg F PUnit := do
  arrive s j
  pass true s j pl
  pass false s j pr
  sendT true c (s + 1) j
  sendT false c (s + 1) j
/-- The credits of turn `s`. -/
def credits (s : ℕ) : Pg F PUnit :=
  if 2 ≤ s then do
    semWaitWord (creditS true).sem 1#32
    semWaitWord (creditS false).sem 1#32
  else pure ⟨⟩
/-- The signals that end turn `s`. -/
def signals (c : Dev nD) (s : ℕ) : Pg F PUnit :=
  if s ≤ 11 then do
    semSignalWord (nb false c) (creditS true).sem 1#32
    semSignalWord (nb true c) (creditS false).sem 1#32
  else pure ⟨⟩
/-- Turn `s` of the rings. -/
def turn (x : Memref sig .tc .vmem S4096x256 .bf16) (c : Dev nD) (s : Fin 14) : Pg F PUnit := do
  let xl ← readX x (offS true c s) (offS_inb true c s)
  let wl ← readW true
  let xr ← readX x (offS false c s) (offS_inb false c s)
  let wr ← readW false
  credits s
  turnJ c s 0 (part xl wl) (part xr wr)
  turnJ c s 1 (part xl wl) (part xr wr)
  turnJ c s 2 (part xl wl) (part xr wr)
  turnJ c s 3 (part xl wl) (part xr wr)
  signals c s
/-- The tile a ring starts with. -/
def begin1 (d : Bool) (j : Fin 4) (p : FVec F S256x1024 .f32) : Pg F PUnit := do
  let _ ← readT d 0 j
  writeT d 0 j (start j p)
/-- The start: the barrier, the weights kept, the first products and the first messages. -/
def first (x : Memref sig .tc .vmem S4096x256 .bf16) (w : Memref sig .tc .vmem S256x2048 .bf16) (c : Dev nD) : Pg F PUnit := do
  semSignalWord (nb false c) barS.sem 1#32
  semSignalWord (nb true c) barS.sem 1#32
  semWaitWord barS.sem 2#32
  let wv ← Prog.lift (.load w (Rect.unit (s := S256x2048) ![0, 0] S256x2048.size inb_S256x2048_S256x2048_0_0).toLoadRect (View.loadsAt_vmem h_S256x2048))
  let _ ← Prog.lift (.load wbM (Rect.unit (s := S256x2048) ![0, 0] S256x2048.size inb_S256x2048_S256x2048_0_0).toLoadRect (View.loadsAt_vmem h_S256x2048))
  Prog.lift (.store wbM (Rect.unit (s := S256x2048) ![0, 0] S256x2048.size inb_S256x2048_S256x2048_0_0) (keep wv) Finset.univ
    (View.stores_vmem h_S256x2048 ((Memref.isWhole_whole _).storeExact_slice rfl _ packedbf16_S256x2048_S256x2048_0_0) (fun _ => rfl)) (.inl rfl))
  let xl ← readX x (k0_off1 c) (k0_off1_inb c)
  let wl ← readW true
  let xr ← readX x (k0_off2 c) (k0_off2_inb c)
  let wr ← readW false
  begin1 true 0 (part xl wl); begin1 false 0 (part xr wr)
  begin1 true 1 (part xl wl); begin1 false 1 (part xr wr)
  begin1 true 2 (part xl wl); begin1 false 2 (part xr wr)
  begin1 true 3 (part xl wl); begin1 false 3 (part xr wr)
  sendT true c 0 0; sendT false c 0 0
  sendT true c 0 1; sendT false c 0 1
  sendT true c 0 2; sendT false c 0 2
  sendT true c 0 3; sendT false c 0 3
/-- Read the four tiles received last. -/
def last4 (d : Bool) (p : FVec F S256x1024 .f32) : Pg F (FVec F S256x1024 .f32) := do
  let a0 ← readT d 3 0
  let a1 ← readT d 3 1
  let a2 ← readT d 3 2
  let a3 ← readT d 3 3
  pure (total p a0 a1 a2 a3)
/-- The last turn, which sends nothing on. -/
def last (x : Memref sig .tc .vmem S4096x256 .bf16) (c : Dev nD) : Pg F (FVec F S256x2048 .f32) := do
  let xl ← readX x (k0_off5 c) (k0_off5_inb c)
  let wl ← readW true
  let xr ← readX x (k0_off5 c) (k0_off5_inb c)
  let wr ← readW false
  arrive 14 0; arrive 14 1; arrive 14 2; arrive 14 3
  let yl ← last4 true (part xl wl)
  let yr ← last4 false (part xr wr)
  pure (relu yl yr)
/-- One partner's maximum: both waits and the read. -/
def meet (k : Fin 2) (i : Fin 3) : Pg F (Vec F S1x1x8x128 .f32) := do
  sentM k i
  gotM k i
  readB k i
/-- Exchange `k` of the maxima. -/
def exchange (c : Dev nD) (k : Fin 2) : Pg F PUnit := do
  sendM c k 0
  sendM c k 1
  sendM c k 2
  let a ← readM
  let b0 ← meet k 0
  let b1 ← meet k 1
  let b2 ← meet k 2
  let _ ← readM
  writeM (max4 a b0 b1 b2)
/-- The end: the maxima exchanged and the block rounded. -/
def finish (o : Memref sig .tc .vmem S256x2048 .f32) (c : Dev nD) (y : FVec F S256x2048 .f32) : Pg F PUnit := do
  let _ ← readM
  writeM (blockMax y)
  exchange c 0
  exchange c 1
  let m ← Prog.lift (.load amaxM (Rect.unit (s := S8x128) ![0, 0] S1x1.size inb_S8x128_S1x1_0_0).toLoadRect (View.loadsAt_vmem h_S1x1))
  let _ ← Prog.lift (.load o (Rect.unit (s := S256x2048) ![0, 0] S256x2048.size inb_S256x2048_S256x2048_0_0).toLoadRect (View.loadsAt_vmem h_S256x2048))
  Prog.lift (.store o (Rect.unit (s := S256x2048) ![0, 0] S256x2048.size inb_S256x2048_S256x2048_0_0) (quant y m) Finset.univ
    (View.stores_vmem_bits_univ h_S256x2048 rfl) (.inl rfl))
/-- The fourteen turns that send on. -/
def turns (x : Memref sig .tc .vmem S4096x256 .bf16) (c : Dev nD) : Pg F PUnit := do
  turn x c 0; turn x c 1; turn x c 2; turn x c 3; turn x c 4; turn x c 5; turn x c 6
  turn x c 7; turn x c 8; turn x c 9; turn x c 10; turn x c 11; turn x c 12; turn x c 13
/-- The body. -/
def body (x : Memref sig .tc .vmem S4096x256 .bf16) (w : Memref sig .tc .vmem S256x2048 .bf16)
    (o : Memref sig .tc .vmem S256x2048 .f32) : Pg F PUnit := do
  let c : Dev nD ← Prog.lift .deviceId
  first x w c
  turns x c
  let y ← last x c
  finish o c y

/-- The printed body is this program. -/
theorem body_eq (x : Memref sig .tc .vmem S4096x256 .bf16) (hx : x.IsWhole) (w : Memref sig .tc .vmem S256x2048 .bf16) (hw : w.IsWhole)
    (o : Memref sig .tc .vmem S256x2048 .f32) (ho : o.IsWhole) :
    cc0_body (F := F) x hx w hw o ho (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7 cc0_scratch8
      (Memref.whole cc0_scratch9) (Memref.isWhole_whole _) (Memref.whole cc0_scratch10) (Memref.isWhole_whole _) cc0_scratch11 cc0_scratch12
      = body x w o := by
  chain_rfl

end Cert.KernelIdeal.Body

end
-- ==== Proof.Vals.lean ====
/- What the kernel computes, device by device: the tiles that travel the two rings, the block each
   device ends with, and the two rounds of maxima. -/
module

public import proofs.«01_k».proof.Proof.Prog
public import Idealize.ShloMosaic.Lib.Pipeline.Value

@[expose] public section

noncomputable section

namespace Cert.KernelIdeal.Body

open Idealize.ShloMosaic Idealize.ShloMosaic.TcCoe Idealize.SL.Sem
open Cert.KernelIdeal.Gen

variable {F : FTy → Type} [FloatOps F]

/-! ## The rings' neighbours -/

/-- The neighbour a ring sends to, in numbers. -/
theorem nb_val (d : Bool) (c : Dev nD) : (nb d c).val = if d then (c.val + 1) % 16 else (c.val + 15) % 16 := by
  cases d
  · exact k0_dev4_eq c
  · exact k0_dev3_eq c

/-- The device a ring receives from. -/
abbrev pv (d : Bool) (c : Dev nD) : Dev nD := nb (!d) c

theorem nb_pv (d : Bool) (c : Dev nD) : nb d (pv d c) = c := by
  have hc : c.val < 16 := c.isLt
  cases d
  · have h1 := nb_val false (nb true c)
    have h2 := nb_val true c
    rw [if_neg Bool.false_ne_true] at h1; rw [if_pos rfl] at h2
    exact Fin.ext (by show (nb false (nb true c)).val = c.val; omega)
  · have h1 := nb_val true (nb false c)
    have h2 := nb_val false c
    rw [if_pos rfl] at h1; rw [if_neg Bool.false_ne_true] at h2
    exact Fin.ext (by show (nb true (nb false c)).val = c.val; omega)
theorem pv_nb (d : Bool) (c : Dev nD) : pv d (nb d c) = c := by
  have := nb_pv (!d) c
  simpa [pv] using this

/-- The partner relation is symmetric. -/
theorem partner_partner (k : Fin 2) (i : Fin 3) (c : Dev nD) : partner k i (partner k i c) = c := by
  revert k i c; decide +kernel

/-! ## The values -/

/-- The staged block of `x` and the staged weights. -/
abbrev xM : Memref sig .tc .vmem S4096x256 .bf16 := Memref.whole cc0_stg0_0
abbrev wM : Memref sig .tc .vmem S256x2048 .bf16 := Memref.whole cc0_stg1_0
abbrev oM : Memref sig .tc .vmem S256x2048 .f32 := Memref.whole cc0_stg2_0

theorem inb_rows (b : Fin 16) : ∀ a, (![256 * b.val, 0] : Fin 2 → Nat) a + S256x256.size a ≤ S4096x256.size a := by
  revert b; decide

/-- The rectangle of the `b`th 256 rows of `x`. -/
abbrev rowsR (b : Fin 16) : Rect S4096x256 := Rect.unit (s := S4096x256) ![256 * b.val, 0] S256x256.size (inb_rows b)
/-- The rectangle of a ring's half of the weights. -/
abbrev halfR (d : Bool) : Rect S256x2048 := Rect.unit (s := S256x2048) ![0, bif d then 0 else 1024] S256x1024.size (inb_half d)

/-- The `b`th 256 rows. -/
def rows (X : Vec F S4096x256 .bf16) (b : Fin 16) : Vec F S256x256 .bf16 := (xM.access (rowsR b)).read (Elt F) X
/-- A ring's half of the weights. -/
def half (d : Bool) (W : Vec F S256x2048 .bf16) : Vec F S256x1024 .bf16 := (wbM.access (halfR d)).read (Elt F) W

/-- The chunk of rows device `c` multiplies for message `t` of a ring (its own chunk at 15). -/
def chunk (d : Bool) (c : Dev nD) (t : ℕ) : Fin 16 :=
  ⟨(if d then c.val + 31 - t else c.val + t + 1) % 16, Nat.mod_lt _ (by decide)⟩

variable (X : Dev nD → Vec F S4096x256 .bf16) (W : Dev nD → Vec F S256x2048 .bf16)

/-- Device `c`'s product for message `t`. -/
def pr (d : Bool) (c : Dev nD) (t : ℕ) : FVec F S256x1024 .f32 := part (rows (X c) (chunk d c t)) (half d (W c))

/-- Tile `j` of message `t` as device `c` sends it. -/
def acc (d : Bool) : ℕ → Dev nD → Fin 4 → FVec F S256x256 .bf16
  | 0, c, j => truncf .bf16 (cut j (pr X W d c 0)) bitsLt_bf16_f32
  | t + 1, c, j => truncf .bf16 (addf (extf .f32 (acc d t (pv d c) j) bitsLt_bf16_f32) (cut j (pr X W d c (t + 1)))) bitsLt_bf16_f32

/-- A ring's half of the sum of all products, on device `c`. -/
def yhalf (d : Bool) (c : Dev nD) : FVec F S256x1024 .f32 :=
  addf (extf .f32 (concatenate S256x1024 1
    [⟨S256x256, acc X W d 14 (pv d c) 0⟩, ⟨S256x256, acc X W d 14 (pv d c) 1⟩, ⟨S256x256, acc X W d 14 (pv d c) 2⟩, ⟨S256x256, acc X W d 14 (pv d c) 3⟩]
    concatenates_S256x256_S256x256_S256x256_S256x256_S256x1024_d1) bitsLt_bf16_f32) (pr X W d c 15)
/-- Device `c`'s block before rounding. -/
def yblk (c : Dev nD) : FVec F S256x2048 .f32 := relu (yhalf X W true c) (yhalf X W false c)

/-- Four tiles' maximum. -/
def mx4 (a b0 b1 b2 : Vec F S8x128 .f32) : FVec F S8x128 .f32 := maximumf (maximumf (maximumf a b0) b1) b2
/-- The maximum tile before the first exchange, -/
def amx0 (c : Dev nD) : FVec F S8x128 .f32 := blockMax (yblk X W c)
/-- after it, -/
def amx1 (c : Dev nD) : FVec F S8x128 .f32 := mx4 (amx0 X W c) (amx0 X W (partner 0 0 c)) (amx0 X W (partner 0 1 c)) (amx0 X W (partner 0 2 c))
/-- and after the second. -/
def amx2 (c : Dev nD) : FVec F S8x128 .f32 := mx4 (amx1 X W c) (amx1 X W (partner 1 0 c)) (amx1 X W (partner 1 1 c)) (amx1 X W (partner 1 2 c))
/-- The maximum tile before exchange `k` (after both at 2). -/
def amx (k : ℕ) (c : Dev nD) : FVec F S8x128 .f32 := if k = 0 then amx0 X W c else if k = 1 then amx1 X W c else amx2 X W c
theorem amx_zero (c : Dev nD) : amx X W 0 c = amx0 X W c := if_pos rfl
theorem amx_one (c : Dev nD) : amx X W 1 c = amx1 X W c := (if_neg (by decide)).trans (if_pos rfl)
theorem amx_two (c : Dev nD) : amx X W 2 c = amx2 X W c := (if_neg (by decide)).trans (if_neg (by decide))
attribute [irreducible] amx

theorem inb_corner : ∀ a, (![0, 0] : Fin 2 → Nat) a + S1x1.size a ≤ S8x128.size a := by decide
/-- The corner of the maximum tile. -/
def corner (v : Vec F S8x128 .f32) : Vec F S1x1 .f32 :=
  (amaxM.access (Rect.unit (s := S8x128) ![0, 0] S1x1.size inb_corner)).read (Elt F) v
/-- Device `c`'s result. -/
def outv (c : Dev nD) : FVec F S256x2048 .f32 := quant (yblk X W c) (corner (amx X W 2 c))

/-! ## The program's values are these -/

omit [FloatOps F] in
theorem rows_of_off (Xc : Vec F S4096x256 .bf16) (b : Fin 16) (off : Fin 2 → Nat) (h : ∀ a, off a + S256x256.size a ≤ S4096x256.size a)
    (e : off = ![256 * b.val, 0]) : xM.view.readAt (Elt F) (Rect.unit (s := S4096x256) off S256x256.size h).toLoadRect Xc = rows Xc b := by
  subst e; rfl

theorem off1_chunk (c : Dev nD) : k0_off1 c = ![256 * (chunk true c 0).val, 0] := by
  rw [k0_off1_eq]; have : (c.val + 15) % 16 = (c.val + 31 - 0) % 16 := by omega
  simp [chunk, this]
theorem off2_chunk (c : Dev nD) : k0_off2 c = ![256 * (chunk false c 0).val, 0] := by
  rw [k0_off2_eq]; simp [chunk]
theorem offS_chunk (d : Bool) (c : Dev nD) (s : Fin 14) : offS d c s = ![256 * (chunk d c (s.val + 1)).val, 0] := by
  have hs : s.val < 14 := s.isLt
  cases d
  · show k0_off4 c (BitVec.ofNat 32 s.val) = _
    rw [k0_off4_eq]; have : (c.val + s.val + 2) % 16 = (c.val + (s.val + 1) + 1) % 16 := by omega
    simp [chunk, this]
  · show k0_off3 c (BitVec.ofNat 32 s.val) = _
    rw [k0_off3_eq]; have : (c.val + 30 - s.val) % 16 = (c.val + 31 - (s.val + 1)) % 16 := by omega
    simp only [chunk, this, if_true]
theorem off5_chunk (d : Bool) (c : Dev nD) : k0_off5 c = ![256 * (chunk d c 15).val, 0] := by
  have hc : c.val < 16 := c.isLt
  rw [k0_off5_eq]
  cases d
  · have : c.val = (c.val + 15 + 1) % 16 := by omega
    simp only [chunk, Bool.false_eq_true, if_false, ← this]
  · have : c.val = (c.val + 31 - 15) % 16 := by omega
    simp only [chunk, if_true, ← this]

/-- The first tile, read back. -/
theorem start_tile (d : Bool) (c : Dev nD) (j : Fin 4) :
    shapeCast S256x256 (start j (pr X W d c 0)) shapeCasts_S1x1x256x256_S256x256 = acc X W d 0 c j := by
  unfold start pack acc; exact shapeCast_shapeCast _ _ _
/-- The tile sent on, read back. -/
theorem onward_tile (d : Bool) (c : Dev nD) (t : ℕ) (j : Fin 4) (a : Vec F S1x1x256x256 .bf16)
    (ha : shapeCast S256x256 a shapeCasts_S1x1x256x256_S256x256 = acc X W d t (pv d c) j) :
    shapeCast S256x256 (onward j (pr X W d c (t + 1)) a) shapeCasts_S1x1x256x256_S256x256 = acc X W d (t + 1) c j := by
  unfold onward pack acc; rw [ha]; exact shapeCast_shapeCast _ _ _
/-- The last sum of a ring. -/
theorem total_eq (d : Bool) (c : Dev nD) (a0 a1 a2 a3 : Vec F S1x1x256x256 .bf16)
    (h0 : shapeCast S256x256 a0 shapeCasts_S1x1x256x256_S256x256 = acc X W d 14 (pv d c) 0)
    (h1 : shapeCast S256x256 a1 shapeCasts_S1x1x256x256_S256x256 = acc X W d 14 (pv d c) 1)
    (h2 : shapeCast S256x256 a2 shapeCasts_S1x1x256x256_S256x256 = acc X W d 14 (pv d c) 2)
    (h3 : shapeCast S256x256 a3 shapeCasts_S1x1x256x256_S256x256 = acc X W d 14 (pv d c) 3) :
    total (pr X W d c 15) a0 a1 a2 a3 = yhalf X W d c := by
  unfold total yhalf; rw [h0, h1, h2, h3]
/-- The maximum of an exchange. -/
theorem max4_eq (a : Vec F S8x128 .f32) (b0 b1 b2 : Vec F S1x1x8x128 .f32) (v0 v1 v2 : Vec F S8x128 .f32)
    (h0 : shapeCast S8x128 b0 shapeCasts_S1x1x8x128_S8x128 = v0) (h1 : shapeCast S8x128 b1 shapeCasts_S1x1x8x128_S8x128 = v1)
    (h2 : shapeCast S8x128 b2 shapeCasts_S1x1x8x128_S8x128 = v2) : max4 a b0 b1 b2 = mx4 a v0 v1 v2 := by
  subst h0; subst h1; subst h2; unfold max4 mx4; exact shapeCast_self _ _
/-- The weights as kept are the weights. -/
theorem keep_eq (w : Vec F S256x2048 .bf16) : keep w = w := by
  unfold keep; rw [shapeCast_self, shapeCast_self]

end Cert.KernelIdeal.Body

end
-- ==== Proof.Sched.lean ====
/- The protocol: which semaphores there are on a device, who raises each of them in which round, and
   what a raise hands to the device that waits. -/
module

public import proofs.«01_k».proof.Proof.Vals
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- What is handed over once: the landing place of tile `j` of message `t` of a ring on a device, and the
    landing place of a partner's maximum. -/
abbrev Ky : Type := Dev nD × ((Bool × Fin 15 × Fin 4) ⊕ (Fin 2 × Fin 3))

instance ky_decidableEq : DecidableEq Ky := fun a b => inferInstance

abbrev UP : Type := URounds (GSem nD τ sig) Unit
abbrev UB : Type := URounds (GSem nD τ sig) ℕ
abbrev US : Type := Release.USlots Ky
abbrev UU : Type := UP × (UB × US)

local notation "𝕄" => MT nD τ sig ℕ (Elt F) ℕ UU ℕ

/-- The pipeline's part of the ghost state, -/
def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
/-- the semaphores' part, -/
def ER : Emb UB (MT nD τ sig ℕ (Elt F) ℕ UU ℕ) :=
  ((Emb.inl : Emb UB (UB × US)).trans (Emb.inr : Emb (UB × US) UU)).trans
    (uEmb (nD := nD) (sig := sig) (Ix := ℕ) (Val := Elt F) (Name := ℕ) (U := UU) (Lvl := ℕ)).toEmb
/-- and the landing places'. -/
def ES : Emb US (MT nD τ sig ℕ (Elt F) ℕ UU ℕ) :=
  ((Emb.inr : Emb US (UB × US)).trans (Emb.inr : Emb (UB × US) UU)).trans
    (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UB 𝕄).LandsIn (upEmb : UEmb _ 𝕄) := by unfold ER; infer_instance
instance ES_landsIn : (ES : Emb US 𝕄).LandsIn (upEmb : UEmb _ 𝕄) := by unfold ES; infer_instance

/-! ## The semaphores of a device -/

/-- Departure of a tile, arrival of a tile, credit, barrier, departure and arrival of a maximum. -/
abbrev Cid : Type :=
  (Bool × Fin 4 × Fin 4) ⊕ (Bool × Fin 4 × Fin 4) ⊕ Bool ⊕ Unit ⊕ (Fin 2 × Fin 3) ⊕ (Fin 2 × Fin 3)

abbrev cSend (d : Bool) (σ j : Fin 4) : Cid := .inl (d, σ, j)
abbrev cRecv (d : Bool) (σ j : Fin 4) : Cid := .inr (.inl (d, σ, j))
abbrev cCred (d : Bool) : Cid := .inr (.inr (.inl d))
abbrev cBar : Cid := .inr (.inr (.inr (.inl ())))
abbrev cSendM (k : Fin 2) (i : Fin 3) : Cid := .inr (.inr (.inr (.inr (.inl (k, i)))))
abbrev cRecvM (k : Fin 2) (i : Fin 3) : Cid := .inr (.inr (.inr (.inr (.inr (k, i)))))

instance dev_decidableEq : DecidableEq (Dev nD) := fun a b => inferInstance
set_option synthInstance.maxHeartbeats 400000 in
set_option synthInstance.maxSize 2000 in
instance cid_decidableEq : DecidableEq Cid := fun a b => inferInstance
instance devCid_decidableEq : DecidableEq (Dev nD × Cid) := fun a b => inferInstance

/-- The semaphore of an identifier. -/
def csem : Cid → SemLoc sig
  | .inl (d, σ, j) => .dma (semAt (sendS d) σ j)
  | .inr (.inl (d, σ, j)) => .dma (semAt (recvS d) σ j)
  | .inr (.inr (.inl d)) => .reg (creditS d).sem
  | .inr (.inr (.inr (.inl ()))) => .reg barS.sem
  | .inr (.inr (.inr (.inr (.inl (k, i))))) => .dma (bsemAt cc0_scratch11 k i)
  | .inr (.inr (.inr (.inr (.inr (k, i))))) => .dma (bsemAt cc0_scratch12 k i)

theorem csem_injective : Function.Injective csem := by decide +kernel
theorem csem_stage : ∀ x : Cid, ∀ n : Fin 79, n.val < 3 → csem x ≠ .dma n := by decide +kernel

/-- The identifier of a semaphore, if it has one. -/
def dec (sm : SemLoc sig) : Option Cid := open Classical in if h : ∃ x, csem x = sm then some h.choose else none

theorem dec_csem (x : Cid) : dec (csem x) = some x := by
  have h : ∃ y, csem y = csem x := ⟨x, rfl⟩
  unfold dec; rw [dif_pos h, csem_injective h.choose_spec]
theorem dec_none {sm : SemLoc sig} (h : ∀ x, csem x ≠ sm) : dec sm = none := by
  unfold dec; exact dif_neg (fun ⟨x, hx⟩ => h x hx)

/-- A semaphore on a device. -/
abbrev cell (c : Dev nD) (x : Cid) : GSem nD τ sig := ((c : Thread nD τ), csem x)

/-! ## Landing places -/

/-- Tile `j` of slot `σ` on device `c`, at any contents. -/
def tileAny (c : Dev nD) (d : Bool) (σ j : Fin 4) : sProp 𝕄 := Release.slot ((tile d σ j).view.loc (c : Thread nD τ)) (tile d σ j).view.set
/-- The same tile holding `v`. -/
def tileIs (c : Dev nD) (d : Bool) (σ j : Fin 4) (v : Vec F S256x256 .bf16) : sProp 𝕄 :=
  iprop(∃ f : Buf (Elt F) ((tile d σ j).view.loc (c : Thread nD τ)), ⌜(tile d σ j).view.read (Elt F) f = v⌝
    ∗ ((tile d σ j).view.loc (c : Thread nD τ) ↦[(tile d σ j).view.set]{fullShare} f))
/-- The landing place of a partner's maximum, at any contents. -/
def stageAny (c : Dev nD) (k : Fin 2) (i : Fin 3) : sProp 𝕄 := Release.slot ((stageM k i).view.loc (c : Thread nD τ)) (stageM k i).view.set
/-- The same place holding `v`. -/
def stageIs (c : Dev nD) (k : Fin 2) (i : Fin 3) (v : Vec F S8x128 .f32) : sProp 𝕄 :=
  iprop(∃ f : Buf (Elt F) ((stageM k i).view.loc (c : Thread nD τ)), ⌜(stageM k i).view.read (Elt F) f = v⌝
    ∗ ((stageM k i).view.loc (c : Thread nD τ) ↦[(stageM k i).view.set]{fullShare} f))

instance tileAny_storable (c : Dev nD) (d : Bool) (σ j : Fin 4) : BI.Storable (upEmb : UEmb _ 𝕄) (tileAny (F := F) c d σ j) := by
  unfold tileAny; infer_instance
instance tileIs_storable (c : Dev nD) (d : Bool) (σ j : Fin 4) (v) : BI.Storable (upEmb : UEmb _ 𝕄) (tileIs (F := F) c d σ j v) := by
  unfold tileIs; infer_instance
instance stageAny_storable (c : Dev nD) (k : Fin 2) (i : Fin 3) : BI.Storable (upEmb : UEmb _ 𝕄) (stageAny (F := F) c k i) := by
  unfold stageAny; infer_instance
instance stageIs_storable (c : Dev nD) (k : Fin 2) (i : Fin 3) (v) : BI.Storable (upEmb : UEmb _ 𝕄) (stageIs (F := F) c k i v) := by
  unfold stageIs; infer_instance

/-- The place a key names. -/
def slotOf : Ky → sProp 𝕄
  | (c, .inl (d, t, j)) => tileAny c d (slot (t.val + 1)) j
  | (c, .inr (k, i)) => stageAny c k i
instance slotOf_storable (k : Ky) : BI.Storable (upEmb : UEmb _ 𝕄) (slotOf (F := F) k) := by
  rcases k with ⟨c, ⟨d, t, j⟩ | ⟨k, i⟩⟩ <;> unfold slotOf <;> infer_instance

/-- The key of a tile's landing place. -/
abbrev keyT (d : Bool) (c : Dev nD) (t : ℕ) (j : Fin 4) : Ky := (c, .inl (d, ⟨t % 15, Nat.mod_lt _ (by decide)⟩, j))
/-- The key of a maximum's landing place. -/
abbrev keyM (c : Dev nD) (k : Fin 2) (i : Fin 3) : Ky := (c, .inr (k, i))

theorem slotOf_keyT (d : Bool) (c : Dev nD) {t : ℕ} (ht : t < 15) (j : Fin 4) :
    slotOf (F := F) (keyT d c t j) = tileAny c d (slot (t + 1)) j := by
  show tileAny c d (slot (t % 15 + 1)) j = _; rw [Nat.mod_eq_of_lt ht]

/-- The departure and arrival semaphores message `t` uses. -/
abbrev gS (d : Bool) (c : Dev nD) (t : ℕ) (j : Fin 4) : GSem nD τ sig := cell c (cSend d (slot t) j)
abbrev gR (d : Bool) (c : Dev nD) (t : ℕ) (j : Fin 4) : GSem nD τ sig := cell c (cRecv d (slot (t + 1)) j)

/-- Device `p` lets tile `j` of message `t` come: the place is free and its arrival semaphore at that message's round. -/
def freeJ (d : Bool) (p : Dev nD) (t : ℕ) (j : Fin 4) : sProp 𝕄 :=
  if t < 15 then iprop(Release.released ES (keyT d p t j) 1 ∗ reached ER (gR d p t j) (t / 4)) else iprop(emp)
/-- Device `p` lets every message before `n` come. -/
def freeUp (d : Bool) (p : Dev nD) (n : ℕ) : sProp 𝕄 := bigSep (Finset.range n) fun t => bigSep Finset.univ fun j : Fin 4 => freeJ (F := F) d p t j
/-- Device `p` is in its kernel: its landing places for maxima are free. -/
def entered (p : Dev nD) : sProp 𝕄 := bigSep Finset.univ fun k : Fin 2 × Fin 3 => Release.released (ES : Emb US 𝕄) (keyM p k.1 k.2) 1

/-- The devices message `t` of device `c` has passed. -/
def backs (d : Bool) : ℕ → Dev nD → Finset (Dev nD)
  | 0, c => {c}
  | t + 1, c => insert c (backs d t (pv d c))
theorem backs_zero (d : Bool) (c : Dev nD) : backs d 0 c = {c} := rfl
theorem backs_succ (d : Bool) (t : ℕ) (c : Dev nD) : backs d (t + 1) c = {c} ∪ backs d t (pv d c) := Finset.insert_eq c (backs d t (pv d c))
theorem backs_all : ∀ (d : Bool) (c p : Dev nD), p ∈ backs d 15 c := by decide +kernel
attribute [irreducible] backs
/-- All of them are in their kernels. -/
def heardUp (d : Bool) (c : Dev nD) (t : ℕ) : sProp 𝕄 := Release.heard (entered (F := F)) (backs d t c)

instance freeJ_persistent (d : Bool) (p : Dev nD) (t : ℕ) (j : Fin 4) : BI.Persistent (freeJ (F := F) d p t j) := by
  unfold freeJ; split <;> infer_instance
instance freeJ_storable (d : Bool) (p : Dev nD) (t : ℕ) (j : Fin 4) : BI.Storable (upEmb : UEmb _ 𝕄) (freeJ (F := F) d p t j) := by
  unfold freeJ; split <;> infer_instance
instance freeUp_persistent (d : Bool) (p : Dev nD) (n : ℕ) : BI.Persistent (freeUp (F := F) d p n) := by unfold freeUp; infer_instance
instance freeUp_storable (d : Bool) (p : Dev nD) (n : ℕ) : BI.Storable (upEmb : UEmb _ 𝕄) (freeUp (F := F) d p n) := by unfold freeUp; infer_instance
instance entered_persistent (p : Dev nD) : BI.Persistent (entered (F := F) p) := by unfold entered; infer_instance
instance entered_storable (p : Dev nD) : BI.Storable (upEmb : UEmb _ 𝕄) (entered (F := F) p) := by unfold entered; infer_instance
instance heardUp_persistent (d : Bool) (p : Dev nD) (n : ℕ) : BI.Persistent (heardUp (F := F) d p n) := by unfold heardUp; infer_instance
instance heardUp_storable (d : Bool) (p : Dev nD) (n : ℕ) : BI.Storable (upEmb : UEmb _ 𝕄) (heardUp (F := F) d p n) := by unfold heardUp; infer_instance

/-! ## The schedule -/

variable (X : Dev nD → Vec F S4096x256 .bf16) (W : Dev nD → Vec F S256x2048 .bf16)

/-- A tile's credit and a maximum's. -/
def NT : ℕ := (tile true 0 0).view.dmaCredit
def NM : ℕ := (stageM 0 0).view.dmaCredit
theorem NT_pos : 0 < NT := View.dmaCredit_pos _ (by decide)
theorem NM_pos : 0 < NM := View.dmaCredit_pos _ (by decide)
theorem tile_credit (d : Bool) (σ j : Fin 4) : (tile d σ j).view.dmaCredit = NT := by
  cases d <;> rfl
theorem stage_credit (k : Fin 2) (i : Fin 3) : (stageM k i).view.dmaCredit = NM := rfl
theorem amax_credit : (amaxM : Memref sig .tc .vmem S8x128 .f32).view.dmaCredit = NM := by decide +kernel

/-- The message an arrival semaphore's round carries. -/
abbrev msg (σ : Fin 4) (r : ℕ) : ℕ := 4 * r + (σ.val + 3) % 4

/-- Who raises a semaphore in a round. -/
def dts : Cid → ℕ → Finset ℕ
  | .inl (_, σ, _), r => if 4 * r + σ.val < 15 then {0} else ∅
  | .inr (.inl (_, σ, _)), r => if msg σ r < 15 then {0} else ∅
  | .inr (.inr (.inl _)), r => if r = 0 then Finset.range 12 else ∅
  | .inr (.inr (.inr (.inl ()))), r => if r = 0 then Finset.range 2 else ∅
  | .inr (.inr (.inr (.inr _))), r => if r = 0 then {0} else ∅
/-- By how much. -/
def amt : Cid → ℕ
  | .inl _ => NT
  | .inr (.inl _) => NT
  | .inr (.inr (.inl _)) => 1
  | .inr (.inr (.inr (.inl ()))) => 1
  | .inr (.inr (.inr (.inr _))) => NM
/-- The share of the maximum tile a transfer reads. -/
def sh : Fin 3 → PosShare TreeShare
  | 0 => fullShare.left.left
  | 1 => fullShare.left.right
  | 2 => fullShare.right.left
/-- The maximum tile at a share. -/
def amaxPts (c : Dev nD) (q : PosShare TreeShare) (v : Vec F S8x128 .f32) : sProp 𝕄 :=
  amaxM.view.loc (c : Thread nD τ) ↦[amaxM.view.set]{q} v
instance amaxPts_storable (c : Dev nD) (q) (v) : BI.Storable (upEmb : UEmb _ 𝕄) (amaxPts (F := F) c q v) := by
  unfold amaxPts; infer_instance
/-- What it hands over. -/
def pay (c : Dev nD) : Cid → ℕ → ℕ → sProp 𝕄
  | .inl (d, σ, j), _, _ => tileAny c d σ j
  | .inr (.inl (d, σ, j)), r, _ => iprop(tileIs c d σ j (acc X W d (msg σ r) (pv d c) j) ∗ heardUp d (pv d c) (msg σ r))
  | .inr (.inr (.inl d)), _, n => freeUp d (nb d c) (n + 4)
  | .inr (.inr (.inr (.inl ()))), _, n => if n = 0 then freeUp true (nb true c) 3 else freeUp false (nb false c) 3
  | .inr (.inr (.inr (.inr (.inl (k, i))))), _, _ => amaxPts c (sh i) (amx X W k.val c)
  | .inr (.inr (.inr (.inr (.inr (k, i))))), _, _ => stageIs c k i (amx X W k.val (partner k i c))

theorem amt_pos (x : Cid) : 0 < amt x := by
  rcases x with _ | _ | _ | _ | _ | _
  · exact NT_pos
  · exact NT_pos
  · exact Nat.one_pos
  · exact Nat.one_pos
  · exact NM_pos
  · exact NM_pos
instance pay_storable (c : Dev nD) (x : Cid) (r n : ℕ) : BI.Storable (upEmb : UEmb _ 𝕄) (pay X W c x r n) := by
  rcases x with ⟨d, σ, j⟩ | ⟨d, σ, j⟩ | d | u | ⟨k, i⟩ | ⟨k, i⟩
  · unfold pay; infer_instance
  · unfold pay; infer_instance
  · unfold pay; infer_instance
  · show BI.Storable _ (if n = 0 then _ else _); split <;> infer_instance
  · unfold pay; infer_instance
  · unfold pay; infer_instance

/-- The protocol of all the kernel's semaphores. -/
def Rd : Rounds.Schedule (GSem nD τ sig) ℕ 𝕄 where
  duties g r := match dec g.2 with | some x => dts x r | none => ∅
  unitless _ := False
  amount g _ _ := match dec g.2 with | some x => amt x | none => 1
  payload g r n := match dec g.2 with | some x => pay X W g.1.1 x r n | none => iprop(emp)
  amount_pos g _ _ _ := by
    cases dec g.2 with
    | none => exact Nat.one_pos
    | some x => exact amt_pos x

instance Rd_storable (g : GSem nD τ sig) (r n : ℕ) : BI.Storable (upEmb : UEmb _ 𝕄) ((Rd X W).payload g r n) := by
  show BI.Storable _ (match dec g.2 with | some x => pay X W g.1.1 x r n | none => iprop(emp))
  cases dec g.2 <;> infer_instance

theorem Rd_duties (c : Dev nD) (x : Cid) (r : ℕ) : (Rd X W).duties (cell c x) r = dts x r := by
  dsimp only [Rd]; rw [dec_csem]
theorem Rd_amount (c : Dev nD) (x : Cid) (r n : ℕ) : (Rd X W).amount (cell c x) r n = amt x := by
  dsimp only [Rd]; rw [dec_csem]
theorem Rd_payload (c : Dev nD) (x : Cid) (r n : ℕ) : (Rd X W).payload (cell c x) r n = pay X W c x r n := by
  dsimp only [Rd]; rw [dec_csem]
theorem Rd_expect (c : Dev nD) (x : Cid) (r : ℕ) : (Rd X W).expect (cell c x) r = (dts x r).card * amt x := by
  unfold Schedule.expect Schedule.amountOf
  rw [Rd_duties, Finset.sum_congr rfl fun n _ => Rd_amount X W c x r n, Finset.sum_const, smul_eq_mul]
theorem Rd_rest (c : Dev nD) (x : Cid) (r : ℕ) (T : Finset ℕ) :
    bigSep ((Rd X W).duties (cell c x) r \ T) (fun n => (Rd X W).payload (cell c x) r n) = bigSep (dts x r \ T) (fun n => pay X W c x r n) := by
  rw [Rd_duties]; exact congrArg _ (funext fun n => Rd_payload X W c x r n)

theorem slot_round (t : ℕ) : 4 * (t / 4) + (slot t).val = t := by show 4 * (t / 4) + t % 4 = t; omega
theorem slot_msg (t : ℕ) : msg (slot (t + 1)) (t / 4) = t := by
  show 4 * (t / 4) + ((t + 1) % 4 + 3) % 4 = t; omega
theorem dts_send (d : Bool) (j : Fin 4) {t : ℕ} (ht : t < 15) : dts (cSend d (slot t) j) (t / 4) = {0} := by
  show (if 4 * (t / 4) + (slot t).val < 15 then {0} else ∅) = _; rw [slot_round, if_pos ht]
theorem dts_recv (d : Bool) (j : Fin 4) {t : ℕ} (ht : t < 15) : dts (cRecv d (slot (t + 1)) j) (t / 4) = {0} := by
  show (if msg (slot (t + 1)) (t / 4) < 15 then {0} else ∅) = _; rw [slot_msg, if_pos ht]

/-! ## Levels -/

/-- The levels of the waits: arrivals and credits in the order of the turns, the maxima last. -/
def L (g : GSem nD τ sig) : Finset ℕ := if g.1.2 = .tc then Finset.range 16 else ∅
def lvx : Cid → ℕ → ℕ
  | .inl _, _ => 0
  | .inr (.inl _), t => 2 + 2 * t
  | .inr (.inr (.inl _)), k => 3 + 2 * k
  | .inr (.inr (.inr (.inl ()))), _ => 1
  | .inr (.inr (.inr (.inr (.inl _)))), _ => 0
  | .inr (.inr (.inr (.inr (.inr (k, _))))), _ => 100 + k.val
def lv (g : GSem nD τ sig) (i : ℕ) : ℕ := match dec g.2 with | some x => lvx x i | none => 0
theorem L_of_ne (g : GSem nD τ sig) (h : g.1.2 ≠ .tc) : L g = ∅ := if_neg h
theorem L_tc (c : Dev nD) (sm : SemLoc sig) : L ((c : Thread nD τ), sm) = Finset.range 16 := if_pos rfl
theorem lv_cell (c : Dev nD) (x : Cid) (i : ℕ) : lv (cell c x) i = lvx x i := by unfold lv; rw [dec_csem]

/-- Everything owed is above level `n`. -/
def Above (n : ℕ) (O : CellTallies nD τ sig ℕ) : Prop := ∀ g i, 0 < O g i → i ∈ L g ∧ n < lv g i
theorem Above.zero (n : ℕ) : Above n 0 := fun _ _ h => absurd h (Nat.lt_irrefl 0)
theorem Above.add {n : ℕ} {O O' : CellTallies nD τ sig ℕ} (h : Above n O) (h' : Above n O') : Above n (O + O') := fun g i hp => by
  rw [Pi.add_apply, Finsupp.add_apply] at hp
  rcases Nat.eq_zero_or_pos (O g i) with e | e
  · exact h' g i (by omega)
  · exact h g i e
theorem Above.tally {n : ℕ} (c : Dev nD) (x : Cid) {i : ℕ} (k : ℕ) (hi : i < 16) (h : n < lvx x i) : Above n (tallyAt (cell c x) i k) := fun g u hp => by
  obtain ⟨rfl, rfl⟩ := Pipeline.tallyAt_pos hp
  exact ⟨by rw [L_tc]; exact Finset.mem_range.mpr hi, by rw [lv_cell]; exact h⟩
theorem Above.sum {n : ℕ} {α : Type} (s : Finset α) (O : α → CellTallies nD τ sig ℕ) (h : ∀ a ∈ s, Above n (O a)) : Above n (∑ a ∈ s, O a) := by
  classical
  induction s using Finset.induction_on with
  | empty => rw [Finset.sum_empty]; exact Above.zero n
  | insert a s ha ih =>
    rw [Finset.sum_insert ha]
    exact (h a (Finset.mem_insert_self a s)).add (ih fun b hb => h b (Finset.mem_insert_of_mem hb))
/-- The levels as facts. -/
@[irreducible] def levs : sProp 𝕄 := levAts L lv
instance levs_persistent : BI.Persistent (levs (F := F)) := by unfold levs; infer_instance
/-- A wait at level `n` is allowed while everything owed is above. -/
theorem Above.mayWait {O : CellTallies nD τ sig ℕ} (c : Dev nD) (sm : SemLoc sig) (i : ℕ) (hi : i < 16)
    (h : Above (lv ((c : Thread nD τ), sm) i) O) : levs (F := F) ⊢ MayWait (c : Thread nD τ) sm i O := by
  unfold levs
  exact MayOwe.of_cut (L := L) (lev := lv) (lv ((c : Thread nD τ), sm) i)
    (fun p hp => by rw [Finset.mem_singleton.mp hp, L_tc]; exact Finset.mem_range.mpr hi)
    (fun g u hg => (h g u hg).1) (fun p hp => by rw [Finset.mem_singleton.mp hp]) (fun g u hg => (h g u hg).2)

end Cert.KernelIdeal.Body

end
-- ==== Proof.Steps.lean ====
/- One step of the kernel at a time: what it needs and what it leaves. -/
module

public import proofs.«01_k».proof.Proof.Sched

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Running a piece of the body on device `c`. -/
abbrev WP (c : Dev nD) {α : Type} (p : Pg F α) (Q : α → sProp 𝕄) : sProp 𝕄 :=
  wp frame (wpE (defs₀ (F := F)) 𝒱₀ (c : Thread nD τ) none) Set.univ p Q

/-- A piece's triple, used at the head of a program. -/
theorem step {c : Dev nD} {α β : Type} {p : Pg F α} {k : α → Pg F β} {P : sProp 𝕄} {R : α → sProp 𝕄} {Q : β → sProp 𝕄}
    (h : P ⊢ WP c p R) : P ⊢ iprop((∀ a, R a -∗ WP c (k a) Q) -∗ WP c (p >>= k) Q) := by
  unfold WP
  rw [wp_bind]
  exact h.trans (wp_wand Idealize.ShloMosaic.frame (wpE (defs₀ (F := F)) 𝒱₀ (c : Thread nD τ) none) Set.univ)

/-- What device `c` still owes, whatever it has waited for. -/
def OW (c : Dev nD) (O : CellTallies nD τ sig ℕ) : sProp 𝕄 := iprop(∃ W : Waits sig ℕ, owes (c : Thread nD τ) O W)

variable (X : Dev nD → Vec F S4096x256 .bf16) (W : Dev nD → Vec F S256x2048 .bf16)
variable (K : Dev nD × Cid → ℕ) (ιs : Ky → ℕ)

/-- The facts every device knows: the protocols of all semaphores and landing places, their starts, and the levels. -/
def records : sProp 𝕄 :=
  iprop((bigSep Finset.univ fun x : Dev nD × Cid => cellInv ER (Rd X W) (K x) (cell x.1 x.2))
    ∗ (bigSep Finset.univ fun x : Dev nD × Cid => reached (ER : Emb UB 𝕄) (cell x.1 x.2) 0)
    ∗ (bigSep Finset.univ fun k : Ky => Release.slotInv (ES : Emb US 𝕄) (ιs k) k (slotOf k))
    ∗ levs (F := F))
instance records_persistent : BI.Persistent (records X W K ιs) := by unfold records; infer_instance

theorem rec_cell (c : Dev nD) (x : Cid) : records X W K ιs ⊢ cellInv ER (Rd X W) (K (c, x)) (cell c x) := by
  have h : (bigSep Finset.univ fun x : Dev nD × Cid => cellInv ER (Rd X W) (K x) (cell x.1 x.2)) ⊢ cellInv ER (Rd X W) (K (c, x)) (cell c x) :=
    bigSep_elim (Finset.mem_univ (c, x))
  unfold records
  iintro ⟨H, -, -, -⟩
  iapply h $$ H
theorem rec_reached (c : Dev nD) (x : Cid) : records X W K ιs ⊢ reached ER (cell c x) 0 := by
  have h : (bigSep Finset.univ fun x : Dev nD × Cid => reached (ER : Emb UB 𝕄) (cell x.1 x.2) 0) ⊢ reached ER (cell c x) 0 :=
    bigSep_elim (Finset.mem_univ (c, x))
  unfold records
  iintro ⟨-, H, -, -⟩
  iapply h $$ H
theorem rec_slot (k : Ky) : records X W K ιs ⊢ Release.slotInv ES (ιs k) k (slotOf k) := by
  have h : (bigSep Finset.univ fun k : Ky => Release.slotInv (ES : Emb US 𝕄) (ιs k) k (slotOf k)) ⊢ Release.slotInv ES (ιs k) k (slotOf k) :=
    bigSep_elim (Finset.mem_univ k)
  unfold records
  iintro ⟨-, -, H, -⟩
  iapply h $$ H
theorem rec_lev : records X W K ιs ⊢ levs (F := F) := by
  unfold records
  iintro ⟨-, -, -, H⟩
  iexact H

/-! ## Waiting for a semaphore's only raise of a round -/

/-- A wait that completes round `r` of a semaphore hands over what its raises leave. -/
theorem wp_round (c : Dev nD) (x : Cid) (r n i : ℕ) (O : CellTallies nD τ sig ℕ) {β : Type} (k : PUnit → Pg F β) (Q : β → sProp 𝕄)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem x) n K)
    (hn : n = (dts x r).card * amt x) (hi : i < 16) (hO : Above (lvx x i) O) :
    iprop(records X W K ιs ∗ cred (tallyAt (cell c x) i n) ∗ OW c O ∗ atPos ER (cell c x) r ∅ 0)
      ⊢ iprop(((OW c O ∗ atPos ER (cell c x) (r + 1) ∅ 0 ∗ reached ER (cell c x) (r + 1) ∗ bigSep (dts x r) (fun n => pay X W c x r n)) -∗ WP c (k ⟨⟩) Q)
        -∗ WP c (.op w k) Q) := by
  have hA : Above (lv (cell c x) i) O := by rw [lv_cell]; exact hO
  have hlev0 : levs (F := F) ⊢ MayWait (c : Thread nD τ) (csem x) i O := Above.mayWait (F := F) (O := O) c (csem x) i hi hA
  have hlev : records X W K ιs ⊢ MayWait (c : Thread nD τ) (csem x) i O := (rec_lev X W K ιs).trans hlev0
  unfold OW
  iintro ⟨#Hrec, Hc, ⟨%V, HO⟩, Hat⟩ Hk
  ihave #Hm := hlev $$ Hrec
  iapply (Rounds.wp_wait_rest_token 𝒱₀ ER (Rd X W) (c : Thread nD τ) none (κ := K (c, x)) hw (Set.mem_univ _) i (O := O) (W := V) (R := r) (m := 0) (T := ∅)
    (by rw [Nat.zero_add, Rd_expect, hn])) $$ [Hc HO Hat]
  · isplitr; · iapply (rec_cell X W K ιs c x) $$ Hrec
    isplitl [Hc]; · iexact Hc
    isplitl [HO]; · iexact HO
    isplitr; · iexact Hm
    iexact Hat
  iintro ⟨HO, Hat, Hr, Hp⟩
  iapply Hk
  isplitl [HO]; · iexists _; iexact HO
  isplitl [Hat]; · iexact Hat
  isplitl [Hr]; · iexact Hr
  iapply (Entails.of_eq ((Rd_rest X W c x r ∅).trans (by rw [Finset.sdiff_empty]))) $$ Hp

/-! ## Tiles -/

theorem tile_set (d : Bool) (σ j : Fin 4) : (tile d σ j).view.set = ((buf d).access (tileR σ j)).set := View.set_reshape _ _

theorem tilePts_eq (c : Dev nD) (d : Bool) (σ j : Fin 4) (f : Buf (Elt F) ((tile d σ j).view.loc (c : Thread nD τ))) :
    ((tile d σ j).view.loc (c : Thread nD τ) ↦[(tile d σ j).view.set]{fullShare} f : sProp 𝕄)
      = (((buf d).access (tileR σ j)).loc (c : Thread nD τ) ↦[((buf d).access (tileR σ j)).set]{fullShare} f) := by
  rw [tile_set]; rfl

theorem tileIs_any (c : Dev nD) (d : Bool) (σ j : Fin 4) (v : Vec F S256x256 .bf16) : tileIs c d σ j v ⊢ tileAny c d σ j := by
  unfold tileIs tileAny Release.slot
  iintro ⟨%f, -, H⟩
  iexists f; iexact H

theorem tile_excl (c : Dev nD) (d : Bool) (σ j : Fin 4) : iprop(tileAny (F := F) c d σ j ∗ tileAny c d σ j) ⊢ False := by
  unfold tileAny
  exact Release.slot_slot_false (by
    rw [View.set]; exact Finset.Nonempty.map ⟨fun a => ⟨0, by revert a; decide⟩, Finset.mem_univ _⟩)
theorem stage_excl (c : Dev nD) (k : Fin 2) (i : Fin 3) : iprop(stageAny (F := F) c k i ∗ stageAny c k i) ⊢ False := by
  unfold stageAny
  exact Release.slot_slot_false (by
    rw [View.set]; exact Finset.Nonempty.map ⟨fun a => ⟨0, by revert a; decide⟩, Finset.mem_univ _⟩)
theorem slotOf_excl (k : Ky) : iprop(slotOf (F := F) k ∗ slotOf k) ⊢ False := by
  rcases k with ⟨c, ⟨d, t, j⟩ | ⟨k, i⟩⟩
  · exact tile_excl c d _ j
  · exact stage_excl c k i

/-- A tile is read. -/
theorem wp_readT (c : Dev nD) (d : Bool) (σ j : Fin 4) (v : Vec F S256x256 .bf16) :
    tileIs c d σ j v ⊢ WP c (readT d σ j) (fun a => iprop(⌜shapeCast S256x256 a shapeCasts_S1x1x256x256_S256x256 = v⌝ ∗ tileIs c d σ j v)) := by
  unfold tileIs readT
  simp only [Prog.lift]
  iintro ⟨%f, %hf, H⟩
  ihave H := (Entails.of_eq (tilePts_eq c d σ j f)) $$ H
  iapply (wp_load_rect 𝒱₀ (c : Thread nD τ) none Set.univ (m := buf d) (r := tileR σ j) (f := f) (subset_refl _)) $$ [H]
  · iexact H
  iintro H
  ihave H := (Entails.of_eq (tilePts_eq c d σ j f).symm) $$ H
  simp only [WP, wp_ret]
  imodintro
  isplitr
  · ipureintro; exact hf
  iexists f
  isplitr; · ipureintro; exact hf
  iexact H
theorem wp_readT_any (c : Dev nD) (d : Bool) (σ j : Fin 4) :
    tileAny c d σ j ⊢ WP (F := F) c (readT d σ j) (fun _ => tileAny c d σ j) := by
  unfold tileAny Release.slot readT
  simp only [Prog.lift]
  iintro ⟨%f, H⟩
  ihave H := (Entails.of_eq (tilePts_eq c d σ j f)) $$ H
  iapply (wp_load_rect 𝒱₀ (c : Thread nD τ) none Set.univ (m := buf d) (r := tileR σ j) (f := f) (subset_refl _)) $$ [H]
  · iexact H
  iintro H
  ihave H := (Entails.of_eq (tilePts_eq c d σ j f).symm) $$ H
  simp only [WP, wp_ret]
  imodintro
  iexists f
  iexact H
/-- A tile is written. -/
theorem wp_writeT (c : Dev nD) (d : Bool) (σ j : Fin 4) (v : FVec F S1x1x256x256 .bf16) :
    tileAny c d σ j ⊢ WP c (writeT d σ j v) (fun _ => tileIs c d σ j (shapeCast S256x256 v shapeCasts_S1x1x256x256_S256x256)) := by
  unfold tileAny Release.slot tileIs writeT
  simp only [Prog.lift]
  iintro ⟨%f, H⟩
  ihave H := (Entails.of_eq (tilePts_eq c d σ j f)) $$ H
  iapply (wp_store 𝒱₀ (c : Thread nD τ) none Set.univ (m := buf d) (r := tileR σ j) (Mk := Finset.univ) (f := f) (subset_refl _)) $$ [H]
  · iexact H
  iintro H
  ihave H := (Entails.of_eq (tilePts_eq c d σ j (((buf d).access (tileR σ j)).write (Elt F) f v Finset.univ)).symm) $$ [H]
  · iexact H
  simp only [WP, wp_ret]
  imodintro
  iexists _
  isplitr
  · ipureintro
    exact congrArg (fun a => shapeCast S256x256 a shapeCasts_S1x1x256x256_S256x256)
      (View.read_write_univ (v := ((buf d).access (tileR σ j))) (Val := Elt F) f v)
  iexact H

/-! ## Messages -/

theorem gS_next (d : Bool) (c : Dev nD) (t : ℕ) (j : Fin 4) : gS d c (t + 4) j = gS d c t j := by
  have e : slot (t + 4) = slot t := Fin.ext (by show (t + 4) % 4 = t % 4; omega)
  unfold gS; rw [e]
theorem gR_next (d : Bool) (c : Dev nD) (t : ℕ) (j : Fin 4) : gR d c (t + 4) j = gR d c t j := by
  have e : slot (t + 4 + 1) = slot (t + 1) := Fin.ext (by show (t + 4 + 1) % 4 = (t + 1) % 4; omega)
  unfold gR; rw [e]

/-- Tile `j` of message `t` is sent on. -/
theorem wp_sendT (d : Bool) (c : Dev nD) (t : ℕ) (ht : t < 15) (j : Fin 4) {O₀ : CellTallies nD τ sig ℕ} (O : CellTallies nD τ sig ℕ)
    (hO : O₀ = O + tallyAt (gR d (nb d c) t j) t NT) :
    iprop(records X W K ιs ∗ tileIs c d (slot t) j (acc X W d t c j) ∗ freeJ d (nb d c) t j ∗ heardUp d c t
        ∗ dutyTok ER (gS d c t j) (t / 4) 0 ∗ reached ER (gS d c t j) (t / 4) ∗ dutyTok ER (gR d (nb d c) t j) (t / 4) 0
        ∗ Release.writeTok ES (keyT d (nb d c) t j) 1 ∗ OW c O₀)
      ⊢ WP c (sendT d c t j) (fun _ => iprop(cred (tallyAt (gS d c t j) 0 NT) ∗ OW c O)) := by
  unfold sendT OW tileIs freeJ
  rw [if_pos ht]
  simp only [Prog.lift]
  iintro ⟨#Hrec, ⟨%f, %hf, Hsrc⟩, ⟨Hrel, Hreach⟩, #Hheard, HtS, HrS, HtR, Hw, ⟨%V, HO⟩⟩
  imod (Release.slot_take ES (Set.mem_univ (ιs (keyT d (nb d c) t j))) 1) $$ [Hrel Hw] with Hdst
  · isplitr; · iapply (rec_slot X W K ιs (keyT d (nb d c) t j)) $$ Hrec
    isplitl [Hrel]; · iexact Hrel
    iexact Hw
  ihave Hdst := (Entails.of_eq (slotOf_keyT d (nb d c) ht j)) $$ Hdst
  unfold tileAny Release.slot
  icases Hdst with ⟨%fd, Hdst⟩
  have h1 : ((tile d (slot t) j).view.loc (c : Thread nD τ) ↦[(tile d (slot t) j).view.set]{fullShare} f : sProp 𝕄)
      ⊢ (Rd X W).payload (cell c (cSend d (slot t) j)) (t / 4) 0 := by
    rw [Rd_payload]
    show _ ⊢ tileAny c d (slot t) j
    unfold tileAny Release.slot
    iintro H; iexists f; iexact H
  have h2 : iprop(((tile d (slot (t + 1)) j).view.loc (nb d c : Thread nD τ) ↦[(tile d (slot (t + 1)) j).view.set]{fullShare}
        ((tile d (slot (t + 1)) j).view.write (Elt F) fd ((tile d (slot t) j).view.read (Elt F) f) Finset.univ)) ∗ heardUp d c t)
      ⊢ (Rd X W).payload (cell (nb d c) (cRecv d (slot (t + 1)) j)) (t / 4) 0 := by
    rw [Rd_payload]
    show _ ⊢ iprop(tileIs (nb d c) d (slot (t + 1)) j (acc X W d (msg (slot (t + 1)) (t / 4)) (pv d (nb d c)) j) ∗ heardUp d (pv d (nb d c)) (msg (slot (t + 1)) (t / 4)))
    rw [slot_msg, pv_nb]
    unfold tileIs
    iintro ⟨H, Hh⟩
    isplitl [H]
    · iexists _
      isplitr
      · ipureintro
        exact (View.read_write_univ (v := (tile d (slot (t + 1)) j).view) (Val := Elt F) fd _).trans hf
      iexact H
    iexact Hh
  iapply (Rounds.wp_send_pointsTo_with 𝒱₀ ER (Rd X W) (c : Thread nD τ) none (c' := (nb d c : Thread nD τ)) (src := tile d (slot t) j) (dst := tile d (slot (t + 1)) j)
      (sS := .dma (semAt (sendS d) (slot t) j)) (sem := .dma (semAt (recvS d) (slot (t + 1)) j))
      (κ₁ := K (c, cSend d (slot t) j)) (κ₂ := K (nb d c, cRecv d (slot (t + 1)) j)) (r₁ := t / 4) (r₂ := t / 4) (d₁ := 0) (d₂ := 0) (fs := f) (fd := fd)
      (F := heardUp d c t)
      (by rw [show (((c : Thread nD τ), SemLoc.dma (semAt (sendS d) (slot t) j)) : GSem nD τ sig) = cell c (cSend d (slot t) j) from rfl, Rd_duties, dts_send d j ht]; exact Finset.mem_singleton_self _)
      (by rw [show (((nb d c : Dev nD) : Thread nD τ), SemLoc.dma (semAt (recvS d) (slot (t + 1)) j)) = cell (nb d c) (cRecv d (slot (t + 1)) j) from rfl, Rd_duties, dts_recv d j ht]; exact Finset.mem_singleton_self _)
      t 0 NT (tile_credit d _ j) (Rd_amount X W c (cSend d (slot t) j) _ _) (Rd_amount X W (nb d c) (cRecv d (slot (t + 1)) j) _ _) O hO (W := V)
      (q := fullShare) h1 h2) $$ [Hsrc Hdst HO HtS HrS HtR Hreach]
  · isplitr; · iapply (rec_cell X W K ιs c (cSend d (slot t) j)) $$ Hrec
    isplitr; · iapply (rec_cell X W K ιs (nb d c) (cRecv d (slot (t + 1)) j)) $$ Hrec
    isplitl [Hsrc]; · iexact Hsrc
    isplitl [Hdst]
    · isplitl [Hdst]; · iexact Hdst
      iexact Hheard
    isplitl [HO]; · iexact HO
    isplitl [HtS]; · iexact HtS
    isplitl [HrS]; · iexact HrS
    isplitl [HtR]; · iexact HtR
    iexact Hreach
  · iintro ⟨Hc, HO⟩
    simp only [WP, wp_ret]
    imodintro
    isplitl [Hc]; · iexact Hc
    iexists V; iexact HO

/-- The wait for tile `j` of message `t` to have left: the tile is the device's again. -/
theorem wp_sentT (d : Bool) (c : Dev nD) (t : ℕ) (ht : t < 15) (j : Fin 4) (O : CellTallies nD τ sig ℕ) (hO : Above 0 O) :
    iprop(records X W K ιs ∗ cred (tallyAt (gS d c t j) 0 NT) ∗ OW c O ∗ atPos ER (gS d c t j) (t / 4) ∅ 0)
      ⊢ WP c (sentT d t j) (fun _ => iprop(OW c O ∗ (atPos ER (gS d c (t + 4) j) ((t + 4) / 4) ∅ 0 ∗ reached ER (gS d c (t + 4) j) ((t + 4) / 4))
        ∗ tileAny c d (slot t) j)) := by
  unfold sentT
  simp only [Prog.lift]
  iintro ⟨#Hrec, Hc, HO, Hat⟩
  iapply (wp_round X W K ιs c (cSend d (slot t) j) (t / 4) NT 0 O _ _ (by rw [← tile_credit d (slot t) j]; exact wpE_waitDma2_eq 𝒱₀ (c : Thread nD τ) none Set.univ)
    (by rw [dts_send d j ht, Finset.card_singleton, one_mul]; rfl) (by decide) hO) $$ [Hc HO Hat]
  · isplitr; · iexact Hrec
    isplitl [Hc]; · iexact Hc
    isplitl [HO]; · iexact HO
    iexact Hat
  iintro ⟨HO, Hat, Hr, Hp⟩
  simp only [WP, wp_ret]
  imodintro
  rw [show (t + 4) / 4 = t / 4 + 1 by omega, gS_next]
  isplitl [HO]; · iexact HO
  isplitl [Hat Hr]
  · isplitl [Hat]; · iexact Hat
    iexact Hr
  iapply (Entails.of_eq (by rw [dts_send d j ht, bigSep_singleton]; rfl)) $$ Hp

/-- The wait for tile `j` of message `t` of the previous device: the tile it sent, and that the devices it passed are in their kernels. -/
theorem wp_gotT (d : Bool) (c : Dev nD) (t : ℕ) (ht : t < 15) (j : Fin 4) (O : CellTallies nD τ sig ℕ) (hO : Above (2 + 2 * t) O) :
    iprop(records X W K ιs ∗ cred (tallyAt (gR d c t j) t NT) ∗ OW c O ∗ atPos ER (gR d c t j) (t / 4) ∅ 0)
      ⊢ WP c (gotT d t j) (fun _ => iprop(OW c O ∗ (atPos ER (gR d c (t + 4) j) ((t + 4) / 4) ∅ 0 ∗ reached ER (gR d c (t + 4) j) ((t + 4) / 4))
        ∗ tileIs c d (slot (t + 1)) j (acc X W d t (pv d c) j) ∗ heardUp d (pv d c) t)) := by
  unfold gotT
  simp only [Prog.lift]
  iintro ⟨#Hrec, Hc, HO, Hat⟩
  iapply (wp_round X W K ιs c (cRecv d (slot (t + 1)) j) (t / 4) NT t O _ _ (by rw [← tile_credit d (slot (t + 1)) j]; exact wpE_waitDma2_eq 𝒱₀ (c : Thread nD τ) none Set.univ)
    (by rw [dts_recv d j ht, Finset.card_singleton, one_mul]; rfl) (by omega) hO) $$ [Hc HO Hat]
  · isplitr; · iexact Hrec
    isplitl [Hc]; · iexact Hc
    isplitl [HO]; · iexact HO
    iexact Hat
  iintro ⟨HO, Hat, Hr, Hp⟩
  simp only [WP, wp_ret]
  imodintro
  rw [show (t + 4) / 4 = t / 4 + 1 by omega, gR_next]
  isplitl [HO]; · iexact HO
  isplitl [Hat Hr]
  · isplitl [Hat]; · iexact Hat
    iexact Hr
  iapply (Entails.of_eq (by
    rw [dts_recv d j ht, bigSep_singleton]
    show iprop(tileIs c d (slot (t + 1)) j (acc X W d (msg (slot (t + 1)) (t / 4)) (pv d c) j) ∗ heardUp d (pv d c) (msg (slot (t + 1)) (t / 4))) = _
    rw [slot_msg])) $$ Hp

end Cert.KernelIdeal.Body

end
-- ==== Proof.Turns.lean ====
/- The turns of the rings: what a device holds for each tile of each ring before a turn, and that a
   turn leads from one such state to the next. -/
module

public import proofs.«01_k».proof.Proof.Steps

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over an interval -/

theorem Ico_left {a b : ℕ} (h : a < b) : Finset.Ico a b = insert a (Finset.Ico (a + 1) b) :=
  Finset.ext fun x => by simp only [Finset.mem_insert, Finset.mem_Ico]; omega
theorem Ico_right {a b : ℕ} (h : a ≤ b) : Finset.Ico a (b + 1) = insert b (Finset.Ico a b) :=
  Finset.ext fun x => by simp only [Finset.mem_insert, Finset.mem_Ico]; omega
theorem bigSep_Ico_left {M : Type} [URA M] {a b : ℕ} (h : a < b) (Φ : ℕ → sProp M) :
    bigSep (Finset.Ico a b) Φ = iprop(Φ a ∗ bigSep (Finset.Ico (a + 1) b) Φ) := by
  rw [Ico_left h, bigSep_insert (by simp)]; rfl
theorem bigSep_Ico_right {M : Type} [URA M] {a b : ℕ} (h : a ≤ b) (Φ : ℕ → sProp M) :
    bigSep (Finset.Ico a (b + 1)) Φ = iprop(Φ b ∗ bigSep (Finset.Ico a b) Φ) := by
  rw [Ico_right h, bigSep_insert (by simp)]; rfl
theorem bigSep_Ico_empty {M : Type} [URA M] {a b : ℕ} (h : b ≤ a) (Φ : ℕ → sProp M) : bigSep (Finset.Ico a b) Φ = iprop(emp) := by
  rw [Finset.Ico_eq_empty_of_le h, bigSep_empty]; rfl

/-! ## What a device owes -/

/-- The arrivals of tile `j` of the messages from `n` on. -/
def OL (c : Dev nD) (d : Bool) (j : Fin 4) (n : ℕ) : CellTallies nD τ sig ℕ := ∑ t ∈ Finset.Ico n 15, tallyAt (gR d (nb d c) t j) t NT
/-- The credits from `n` on. -/
def OC (c : Dev nD) (d : Bool) (n : ℕ) : CellTallies nD τ sig ℕ := ∑ k ∈ Finset.Ico n 12, tallyAt (cell (pv d c) (cCred d)) k 1
/-- An exchange's maxima. -/
def OM (c : Dev nD) (k : Fin 2) : CellTallies nD τ sig ℕ :=
  tallyAt (cell (partner k 0 c) (cRecvM k 0)) 0 NM + tallyAt (cell (partner k 1 c) (cRecvM k 1)) 0 NM + tallyAt (cell (partner k 2 c) (cRecvM k 2)) 0 NM
/-- All of it, from the given messages and credits on. -/
def OT (c : Dev nD) (f : Bool × Fin 4 → ℕ) (g : Bool → ℕ) : CellTallies nD τ sig ℕ :=
  OM c 0 + OM c 1 + (∑ d : Bool, OC c d (g d)) + ∑ p : Bool × Fin 4, OL c p.1 p.2 (f p)

theorem OL_step (c : Dev nD) (d : Bool) (j : Fin 4) {n : ℕ} (h : n < 15) :
    OL c d j n = OL c d j (n + 1) + tallyAt (gR d (nb d c) n j) n NT := by
  unfold OL; rw [Ico_left h, Finset.sum_insert (by simp), add_comm]
theorem OC_step (c : Dev nD) (d : Bool) {n : ℕ} (h : n < 12) : OC c d n = OC c d (n + 1) + tallyAt (cell (pv d c) (cCred d)) n 1 := by
  unfold OC; rw [Ico_left h, Finset.sum_insert (by simp), add_comm]
theorem OC_done (c : Dev nD) (d : Bool) {n : ℕ} (h : 12 ≤ n) : OC c d n = 0 := by
  unfold OC; rw [Finset.Ico_eq_empty_of_le h, Finset.sum_empty]
theorem OL_done (c : Dev nD) (d : Bool) (j : Fin 4) {n : ℕ} (h : 15 ≤ n) : OL c d j n = 0 := by
  unfold OL; rw [Finset.Ico_eq_empty_of_le h, Finset.sum_empty]

theorem OT_send (c : Dev nD) (f : Bool × Fin 4 → ℕ) (g : Bool → ℕ) (d : Bool) (j : Fin 4) {n : ℕ} (h : n < 15) (hf : f (d, j) = n) :
    OT c f g = OT c (Function.update f (d, j) (n + 1)) g + tallyAt (gR d (nb d c) n j) n NT := by
  unfold OT
  rw [← Finset.add_sum_erase Finset.univ (fun p => OL c p.1 p.2 (f p)) (Finset.mem_univ (d, j)),
    ← Finset.add_sum_erase Finset.univ (fun p => OL c p.1 p.2 (Function.update f (d, j) (n + 1) p)) (Finset.mem_univ (d, j)),
    Finset.sum_congr rfl (f := fun p => OL c p.1 p.2 (Function.update f (d, j) (n + 1) p)) (g := fun p => OL c p.1 p.2 (f p)) (fun p hp => by rw [Function.update_of_ne (Finset.ne_of_mem_erase hp)]),
    Function.update_self, hf, OL_step c d j h]
  ac_rfl
theorem OT_credit (c : Dev nD) (f : Bool × Fin 4 → ℕ) (g : Bool → ℕ) (d : Bool) {n : ℕ} (h : n < 12) (hg : g d = n) :
    OT c f g = OT c f (Function.update g d (n + 1)) + tallyAt (cell (pv d c) (cCred d)) n 1 := by
  unfold OT
  rw [← Finset.add_sum_erase Finset.univ (fun d => OC c d (g d)) (Finset.mem_univ d),
    ← Finset.add_sum_erase Finset.univ (fun d' => OC c d' (Function.update g d (n + 1) d')) (Finset.mem_univ d),
    Finset.sum_congr rfl (f := fun d' => OC c d' (Function.update g d (n + 1) d')) (g := fun d => OC c d (g d)) (fun p hp => by rw [Function.update_of_ne (Finset.ne_of_mem_erase hp)]),
    Function.update_self, hg, OC_step c d h]
  ac_rfl

theorem OM_above (c : Dev nD) (k : Fin 2) {n : ℕ} (h : n < 100 + k.val) : Above n (OM c k) := by
  unfold OM
  exact ((Above.tally _ _ _ (by decide) h).add (Above.tally _ _ _ (by decide) h)).add (Above.tally _ _ _ (by decide) h)
theorem OT_above (c : Dev nD) (f : Bool × Fin 4 → ℕ) (g : Bool → ℕ) {n : ℕ} (h : n < 100) (hf : ∀ p, n < 2 + 2 * f p) (hg : ∀ d, n < 3 + 2 * g d) :
    Above n (OT c f g) := by
  unfold OT
  refine (((OM_above c 0 h).add (OM_above c 1 (h.trans (by decide)))).add (Above.sum _ _ fun d _ => Above.sum _ _ fun k hk => ?_)).add
    (Above.sum _ _ fun p _ => Above.sum _ _ fun t ht => ?_)
  · have := Finset.mem_Ico.mp hk
    exact Above.tally _ _ _ (by omega) (by have := hg d; show n < 3 + 2 * k; omega)
  · have := Finset.mem_Ico.mp ht
    exact Above.tally _ _ _ (by omega) (by have := hf p; show n < 2 + 2 * t; omega)

/-! ## One tile of one ring -/

/-- A device's place at the departure of message `t`, -/
def posS (c : Dev nD) (d : Bool) (j : Fin 4) (t : ℕ) : sProp 𝕄 := iprop(atPos ER (gS d c t j) (t / 4) ∅ 0 ∗ reached ER (gS d c t j) (t / 4))
/-- at its arrival, -/
def posR (c : Dev nD) (d : Bool) (j : Fin 4) (t : ℕ) : sProp 𝕄 := iprop(atPos ER (gR d c t j) (t / 4) ∅ 0 ∗ reached ER (gR d c t j) (t / 4))
/-- and the rights to send it. -/
def tosend (c : Dev nD) (d : Bool) (j : Fin 4) (t : ℕ) : sProp 𝕄 :=
  iprop(dutyTok ER (gS d c t j) (t / 4) 0 ∗ dutyTok ER (gR d (nb d c) t j) (t / 4) 0 ∗ Release.writeTok ES (keyT d (nb d c) t j) 1)

/-- What a device holds for a tile before turn `s`, the messages from `n` on still to be sent. -/
def lb (c : Dev nD) (d : Bool) (j : Fin 4) (s n : ℕ) : sProp 𝕄 :=
  iprop((bigSep (Finset.Ico s (s + 4)) fun t => posS c d j t) ∗ (bigSep (Finset.Ico s (s + 4)) fun t => posR c d j t)
    ∗ (bigSep (Finset.Ico n 15) fun t => tosend c d j t) ∗ (bigSep (Finset.Ico s 15) fun t => cred (tallyAt (gR d c t j) t NT))
    ∗ (bigSep (Finset.Ico (s + 3) 15) fun t => Release.readerAt ES (keyT d c t j) 0) ∗ (bigSep (Finset.Ico 12 s) fun t => tileAny c d (slot t) j))
/-- The same with message `s` on its way. -/
def lane (c : Dev nD) (d : Bool) (j : Fin 4) (s : ℕ) : sProp 𝕄 := iprop(cred (tallyAt (gS d c s j) 0 NT) ∗ lb c d j s (s + 1))

variable (X : Dev nD → Vec F S4096x256 .bf16) (W : Dev nD → Vec F S256x2048 .bf16)
variable (K : Dev nD × Cid → ℕ) (ιs : Ky → ℕ)

/-- A place not needed any more is let go for a later message, or kept when there is none. -/
theorem letgo (c : Dev nD) (d : Bool) (j : Fin 4) (s : ℕ) (hs : s < 15) :
    iprop(records X W K ιs ∗ tileAny c d (slot s) j ∗ reached ER (gR d c (s + 3) j) ((s + 3) / 4)
        ∗ (bigSep (Finset.Ico (s + 3) 15) fun t => Release.readerAt ES (keyT d c t j) 0) ∗ (bigSep (Finset.Ico 12 s) fun t => tileAny c d (slot t) j))
      ⊢ (|={Set.univ}=> (freeJ d c (s + 3) j ∗ (bigSep (Finset.Ico (s + 1 + 3) 15) fun t => Release.readerAt ES (keyT d c t j) 0)
          ∗ (bigSep (Finset.Ico 12 (s + 1)) fun t => tileAny c d (slot t) j)) : sProp 𝕄) := by
  by_cases h : s < 12
  · rw [bigSep_Ico_left (show s + 3 < 15 by omega), bigSep_Ico_empty (show s ≤ 12 by omega), bigSep_Ico_empty (show s + 1 ≤ 12 by omega),
      show s + 1 + 3 = s + 3 + 1 by omega]
    have e : slot (s + 3 + 1) = slot s := Fin.ext (by show (s + 3 + 1) % 4 = s % 4; omega)
    have hk := slotOf_keyT (F := F) d c (show s + 3 < 15 by omega) j
    rw [e] at hk
    unfold freeJ
    rw [if_pos (show s + 3 < 15 by omega)]
    iintro ⟨#Hrec, Ht, Hr, ⟨Hrd, Hrs⟩, Hk⟩
    imod (Release.slot_release ES (Set.mem_univ (ιs (keyT d c (s + 3) j))) (slotOf_excl (keyT d c (s + 3) j)) 0) $$ [Ht Hrd] with ⟨-, Hrel⟩
    · isplitr; · iapply (rec_slot X W K ιs (keyT d c (s + 3) j)) $$ Hrec
      isplitl [Hrd]; · iexact Hrd
      iapply (Entails.of_eq hk.symm) $$ Ht
    imodintro
    isplitl [Hr Hrel]
    · isplitl [Hrel]; · iexact Hrel
      iexact Hr
    isplitl [Hrs]; · iexact Hrs
    iexact Hk
  · rw [bigSep_Ico_empty (show 15 ≤ s + 3 by omega), bigSep_Ico_empty (show 15 ≤ s + 1 + 3 by omega), bigSep_Ico_right (show 12 ≤ s by omega)]
    unfold freeJ
    rw [if_neg (show ¬ s + 3 < 15 by omega)]
    iintro ⟨-, Ht, -, -, Hk⟩
    imodintro
    isplitr; · iempintro
    isplitr; · iempintro
    isplitl [Ht]; · iexact Ht
    iexact Hk

/-- Both waits of a tile in a turn: the message sent before has left and the next has come. -/
theorem wp_arrive1 (c : Dev nD) (d : Bool) (j : Fin 4) (s : ℕ) (hs : s < 15) (O : CellTallies nD τ sig ℕ) (hO : Above (2 + 2 * s) O) :
    iprop(records X W K ιs ∗ lane c d j s ∗ OW c O)
      ⊢ WP c (do sentT d s j; gotT d s j) (fun _ => iprop(OW c O ∗ lb c d j (s + 1) (s + 1)
          ∗ tileIs c d (slot (s + 1)) j (acc X W d s (pv d c) j) ∗ heardUp d (pv d c) s ∗ freeJ d c (s + 3) j)) := by
  have hO0 : Above 0 O := fun g i h => ⟨(hO g i h).1, by have := (hO g i h).2; omega⟩
  unfold lane lb
  rw [bigSep_Ico_left (show s < s + 4 by omega), bigSep_Ico_left (show s < s + 4 by omega), bigSep_Ico_left (show s < 15 by omega) (fun t => cred (tallyAt (gR d c t j) t NT)),
    show s + 1 + 4 = s + 4 + 1 by omega, bigSep_Ico_right (show s + 1 ≤ s + 4 by omega), bigSep_Ico_right (show s + 1 ≤ s + 4 by omega)]
  iintro ⟨#Hrec, ⟨HcS, ⟨HpS, HpSs⟩, ⟨HpR, HpRs⟩, Hts, ⟨HcR, HcRs⟩, Hrd, Hk⟩, HO⟩
  -- the later place at the arrival of message `s + 3` is known already
  have hreach : (bigSep (Finset.Ico (s + 1) (s + 4)) fun t => posR (F := F) c d j t)
      ⊢ iprop((bigSep (Finset.Ico (s + 1) (s + 4)) fun t => posR (F := F) c d j t) ∗ reached ER (gR d c (s + 3) j) ((s + 3) / 4)) := by
    rw [show s + 4 = s + 3 + 1 by omega, bigSep_Ico_right (show s + 1 ≤ s + 3 by omega)]
    unfold posR
    iintro ⟨⟨Ha, #Hr⟩, H⟩
    isplitl [Ha H]
    · isplitl [Ha]
      · isplitl [Ha]; · iexact Ha
        iexact Hr
      iexact H
    iexact Hr
  ihave HH := hreach $$ HpRs
  icases HH with ⟨HpRs, Hr3⟩
  unfold posS posR
  icases HpS with ⟨HaS, -⟩
  icases HpR with ⟨HaR, -⟩
  iapply (step (wp_sentT X W K ιs d c s hs j O hO0)) $$ [HcS HO HaS]
  · isplitr; · iexact Hrec
    isplitl [HcS]; · iexact HcS
    isplitl [HO]; · iexact HO
    iexact HaS
  iintro %u ⟨HO, HpS, Ht⟩
  imod (letgo X W K ιs c d j s hs) $$ [Ht Hr3 Hrd Hk] with ⟨Hf, Hrd, Hk⟩
  · isplitr; · iexact Hrec
    isplitl [Ht]; · iexact Ht
    isplitl [Hr3]; · iexact Hr3
    isplitl [Hrd]; · iexact Hrd
    iexact Hk
  iapply (wp_wand_r Idealize.ShloMosaic.frame (wpE (defs₀ (F := F)) 𝒱₀ (c : Thread nD τ) none) Set.univ)
  isplitl [HcR HO HaR]
  · iapply (wp_gotT X W K ιs d c s hs j O hO)
    isplitr; · iexact Hrec
    isplitl [HcR]; · iexact HcR
    isplitl [HO]; · iexact HO
    iexact HaR
  iintro %u' ⟨HO, HpR, Ht, Hh⟩
  isplitl [HO]; · iexact HO
  isplitl [HpS HpSs HpR HpRs Hts HcRs Hrd Hk]
  · isplitl [HpS HpSs]
    · isplitl [HpS]; · iexact HpS
      iexact HpSs
    isplitl [HpR HpRs]
    · isplitl [HpR]; · iexact HpR
      iexact HpRs
    isplitl [Hts]; · iexact Hts
    isplitl [HcRs]; · iexact HcRs
    isplitl [Hrd]; · iexact Hrd
    iexact Hk
  isplitl [Ht]; · iexact Ht
  isplitl [Hh]; · iexact Hh
  iexact Hf

/-- A tile received becomes the tile to send on. -/
theorem wp_pass (c : Dev nD) (d : Bool) (j : Fin 4) (s : ℕ) :
    tileIs c d (slot (s + 1)) j (acc X W d s (pv d c) j)
      ⊢ WP c (pass d s j (pr X W d c (s + 1))) (fun _ => tileIs c d (slot (s + 1)) j (acc X W d (s + 1) c j)) := by
  unfold pass
  iintro H
  iapply (step (wp_readT c d (slot (s + 1)) j _)) $$ H
  iintro %a ⟨%ha, H⟩
  iapply (step (wp_readT c d (slot (s + 1)) j _)) $$ H
  iintro %a' ⟨-, H⟩
  ihave H := (tileIs_any c d (slot (s + 1)) j _) $$ H
  rw [← onward_tile X W d c s j a ha]
  iapply (wp_writeT c d (slot (s + 1)) j _) $$ H

theorem free_of_up (d : Bool) (p : Dev nD) {n t : ℕ} (h : t < n) (j : Fin 4) : freeUp (F := F) d p n ⊢ freeJ d p t j :=
  (bigSep_elim (Φ := fun t => bigSep Finset.univ fun j : Fin 4 => freeJ (F := F) d p t j) (Finset.mem_range.mpr h)).trans
    (bigSep_elim (Φ := fun j : Fin 4 => freeJ (F := F) d p t j) (Finset.mem_univ j))
theorem freeUp_mono (d : Bool) (p : Dev nD) {n n' : ℕ} (h : n ≤ n') : freeUp (F := F) d p n' ⊢ freeUp d p n :=
  bigSep_subset (Finset.range_subset_range.mpr h)
theorem heard_next (d : Bool) (c : Dev nD) (s : ℕ) : iprop(heardUp (F := F) d (pv d c) s ∗ entered c) ⊢ heardUp d c (s + 1) := by
  unfold heardUp
  rw [backs_succ]
  iintro ⟨#Hh, #He⟩
  have h := Release.heard_union (entered (F := F)) {c} (backs d s (pv d c))
  iapply h
  isplitl; · iapply (Release.heard_single (entered (F := F)) c) $$ He
  iexact Hh

/-- Message `t`'s tile is sent. -/
theorem wp_sendL (c : Dev nD) (d : Bool) (j : Fin 4) (t : ℕ) (ht : t < 15) (f : Bool × Fin 4 → ℕ) (g : Bool → ℕ) (hf : f (d, j) = t) :
    iprop(records X W K ιs ∗ lb c d j t t ∗ tileIs c d (slot t) j (acc X W d t c j) ∗ freeJ d (nb d c) t j ∗ heardUp d c t ∗ OW c (OT c f g))
      ⊢ WP c (sendT d c t j) (fun _ => iprop(lane c d j t ∗ OW c (OT c (Function.update f (d, j) (t + 1)) g))) := by
  unfold lane lb
  rw [bigSep_Ico_left ht (fun t => tosend c d j t), bigSep_Ico_left (show t < t + 4 by omega) (fun t => posS c d j t)]
  unfold tosend posS
  iintro ⟨#Hrec, ⟨⟨⟨HaS, #HrS⟩, HpS⟩, HpR, ⟨⟨HtS, HtR, Hw⟩, Hts⟩, HcR, Hrd, Hk⟩, Ht, #Hf, #Hh, HO⟩
  iapply (wp_wand_r Idealize.ShloMosaic.frame (wpE (defs₀ (F := F)) 𝒱₀ (c : Thread nD τ) none) Set.univ)
  isplitl [Ht HtS HtR Hw HO]
  · iapply (wp_sendT X W K ιs d c t ht j _ (OT_send c f g d j ht hf))
    isplitr; · iexact Hrec
    isplitl [Ht]; · iexact Ht
    isplitr; · iexact Hf
    isplitr; · iexact Hh
    isplitl [HtS]; · iexact HtS
    isplitr; · iexact HrS
    isplitl [HtR]; · iexact HtR
    isplitl [Hw]; · iexact Hw
    iexact HO
  iintro %u ⟨Hc, HO⟩
  isplitr [HO]
  · isplitl [Hc]; · iexact Hc
    isplitl [HaS HpS]
    · isplitl [HaS]
      · isplitl [HaS]; · iexact HaS
        iexact HrS
      iexact HpS
    isplitl [HpR]; · iexact HpR
    isplitl [Hts]; · iexact Hts
    isplitl [HcR]; · iexact HcR
    isplitl [Hrd]; · iexact Hrd
    iexact Hk
  iexact HO

/-- The next message per tile once message `n` of the first `j` tiles is sent. -/
def fj (n j : ℕ) (p : Bool × Fin 4) : ℕ := if p.2.val < j then n + 1 else n
theorem fj_zero (n : ℕ) : fj n 0 = fun _ => n := rfl
theorem fj_four (n : ℕ) : fj n 4 = fun _ => n + 1 := funext fun p => if_pos p.2.isLt
theorem fj_succ (n : ℕ) (j : Fin 4) : Function.update (Function.update (fj n j.val) (true, j) (n + 1)) (false, j) (n + 1) = fj n (j.val + 1) := by
  funext ⟨d, i⟩
  by_cases h : i = j
  · subst h
    have e : fj n (i.val + 1) (d, i) = n + 1 := if_pos (Nat.lt_succ_self _)
    rw [e]
    cases d
    · rw [Function.update_self]
    · rw [Function.update_of_ne (by simp), Function.update_self]
  · rw [Function.update_of_ne (by simp [h]), Function.update_of_ne (by simp [h])]
    have : i.val ≠ j.val := fun e => h (Fin.ext e)
    unfold fj
    by_cases h' : i.val < j.val
    · rw [if_pos h', if_pos (show i.val < j.val + 1 by omega)]
    · rw [if_neg h', if_neg (show ¬ i.val < j.val + 1 by omega)]

/-- Both rings' tiles `j`. -/
abbrev L2 (c : Dev nD) (j : Fin 4) (s : ℕ) : sProp 𝕄 := iprop(lane c true j s ∗ lane c false j s)

/-- The waits of a tile in both rings. -/
theorem wp_arrive (c : Dev nD) (j : Fin 4) (s : ℕ) (hs : s < 15) (O : CellTallies nD τ sig ℕ) (hO : Above (2 + 2 * s) O) :
    iprop(records X W K ιs ∗ L2 c j s ∗ OW c O)
      ⊢ WP c (arrive s j) (fun _ => iprop(OW c O
        ∗ (lb c true j (s + 1) (s + 1) ∗ tileIs c true (slot (s + 1)) j (acc X W true s (pv true c) j) ∗ heardUp true (pv true c) s ∗ freeJ true c (s + 3) j)
        ∗ (lb c false j (s + 1) (s + 1) ∗ tileIs c false (slot (s + 1)) j (acc X W false s (pv false c) j) ∗ heardUp false (pv false c) s ∗ freeJ false c (s + 3) j))) := by
  rw [show (arrive s j : Pg F PUnit) = ((do sentT true s j; gotT true s j) >>= fun _ => (do sentT false s j; gotT false s j)) from rfl]
  iintro ⟨#Hrec, ⟨Hl, Hr⟩, HO⟩
  iapply (step (wp_arrive1 X W K ιs c true j s hs O hO)) $$ [Hl HO]
  · isplitr; · iexact Hrec
    isplitl [Hl]; · iexact Hl
    iexact HO
  iintro %u ⟨HO, Hl⟩
  iapply (wp_wand_r Idealize.ShloMosaic.frame (wpE (defs₀ (F := F)) 𝒱₀ (c : Thread nD τ) none) Set.univ)
  isplitl [Hr HO]
  · iapply (wp_arrive1 X W K ιs c false j s hs O hO)
    isplitr; · iexact Hrec
    isplitl [Hr]; · iexact Hr
    iexact HO
  iintro %u' ⟨HO, Hr⟩
  isplitl [HO]; · iexact HO
  isplitl [Hl]; · iexact Hl
  iexact Hr

/-- Tile `j` of turn `s`. -/
theorem wp_turnJ (c : Dev nD) (s : ℕ) (hs : s < 14) (j : Fin 4) :
    iprop(records X W K ιs ∗ entered c ∗ freeUp true (nb true c) (s + 2) ∗ freeUp false (nb false c) (s + 2)
        ∗ L2 c j s ∗ OW c (OT c (fj (s + 1) j.val) fun _ => s))
      ⊢ WP c (turnJ c s j (pr X W true c (s + 1)) (pr X W false c (s + 1))) (fun _ => iprop(L2 c j (s + 1) ∗ OW c (OT c (fj (s + 1) (j.val + 1)) fun _ => s)
        ∗ freeJ true c (s + 3) j ∗ freeJ false c (s + 3) j)) := by
  unfold turnJ
  have hO : Above (2 + 2 * s) (OT c (fj (s + 1) j.val) fun _ => s) :=
    OT_above c _ _ (by omega) (fun p => by unfold fj; split <;> omega) (fun _ => by omega)
  have e1 : fj (s + 1) j.val (true, j) = s + 1 := if_neg (Nat.lt_irrefl _)
  have e2 : Function.update (fj (s + 1) j.val) (true, j) (s + 1 + 1) (false, j) = s + 1 := by
    rw [Function.update_of_ne (by simp)]; exact if_neg (Nat.lt_irrefl _)
  iintro ⟨#Hrec, #He, #Hft, #Hff, Hl, HO⟩
  iapply (step (wp_arrive X W K ιs c j s (by omega) _ hO)) $$ [Hl HO]
  · isplitr; · iexact Hrec
    isplitl [Hl]; · iexact Hl
    iexact HO
  iintro %u ⟨HO, ⟨Hbt, Htt, #Hht, Hnt⟩, ⟨Hbf, Htf, #Hhf, Hnf⟩⟩
  iapply (step (wp_pass X W c true j s)) $$ Htt
  iintro %u1 Htt
  iapply (step (wp_pass X W c false j s)) $$ Htf
  iintro %u2 Htf
  iapply (step (wp_sendL X W K ιs c true j (s + 1) (by omega) _ _ e1)) $$ [Hbt Htt HO]
  · isplitr; · iexact Hrec
    isplitl [Hbt]; · iexact Hbt
    isplitl [Htt]; · iexact Htt
    isplitr; · iapply (free_of_up true (nb true c) (show s + 1 < s + 2 by omega) j) $$ Hft
    isplitr
    · iapply (heard_next true c s)
      isplitr; · iexact Hht
      iexact He
    iexact HO
  iintro %u3 ⟨Hlt, HO⟩
  iapply (wp_wand_r Idealize.ShloMosaic.frame (wpE (defs₀ (F := F)) 𝒱₀ (c : Thread nD τ) none) Set.univ)
  isplitl [Hbf Htf HO]
  · iapply (wp_sendL X W K ιs c false j (s + 1) (by omega) _ _ e2)
    isplitr; · iexact Hrec
    isplitl [Hbf]; · iexact Hbf
    isplitl [Htf]; · iexact Htf
    isplitr; · iapply (free_of_up false (nb false c) (show s + 1 < s + 2 by omega) j) $$ Hff
    isplitr
    · iapply (heard_next false c s)
      isplitr; · iexact Hhf
      iexact He
    iexact HO
  iintro %u4 ⟨Hlf, HO⟩
  rw [fj_succ]
  isplitl [Hlt Hlf]
  · isplitl [Hlt]; · iexact Hlt
    iexact Hlf
  isplitl [HO]; · iexact HO
  isplitl [Hnt]; · iexact Hnt
  iexact Hnf

end Cert.KernelIdeal.Body

end
-- ==== Proof.Ring.lean ====
/- The credits of the rings and whole turns: a turn leads from the state before it to the state
   before the next. -/
module

public import proofs.«01_k».proof.Proof.Turns

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x256 .bf16) (W : Dev nD → Vec F S256x2048 .bf16)
variable (K : Dev nD × Cid → ℕ) (ιs : Ky → ℕ)

/-! ## Reads of the operands -/

/-- The staged block of `x`. -/
def xPts (c : Dev nD) : sProp 𝕄 := (c : Thread nD τ).loc cc0_stg0_0 ↦{fullShare} X c
/-- The kept weights. -/
def wbPts (c : Dev nD) : sProp 𝕄 := (c : Thread nD τ).loc cc0_scratch0 ↦{fullShare} W c

theorem wp_readX (c : Dev nD) (b : Fin 16) (off : Fin 2 → Nat) (h : ∀ a, off a + S256x256.size a ≤ S4096x256.size a) (e : off = ![256 * b.val, 0]) :
    xPts X c ⊢ WP c (readX xM off h) (fun a => iprop(⌜a = rows (X c) b⌝ ∗ xPts X c)) := by
  unfold xPts readX
  simp only [Prog.lift]
  iintro H
  iapply (wp_load_rect 𝒱₀ (c : Thread nD τ) none Set.univ (m := xM) (r := Rect.unit (s := S4096x256) off S256x256.size h) (S := Finset.univ) (f := X c) (Finset.subset_univ _)) $$ [H]
  · iexact H
  iintro H
  simp only [WP, wp_ret]
  imodintro
  isplitr
  · ipureintro; exact rows_of_off (X c) b off h e
  iexact H
theorem wp_readW (c : Dev nD) (d : Bool) :
    wbPts W c ⊢ WP c (readW d) (fun a => iprop(⌜a = half d (W c)⌝ ∗ wbPts W c)) := by
  unfold wbPts readW
  simp only [Prog.lift]
  iintro H
  iapply (wp_load_rect 𝒱₀ (c : Thread nD τ) none Set.univ (m := wbM) (r := halfR d) (S := Finset.univ) (f := W c) (Finset.subset_univ _)) $$ [H]
  · iexact H
  iintro H
  simp only [WP, wp_ret]
  imodintro
  isplitr
  · ipureintro; rfl
  iexact H

/-! ## Credits -/

/-- What a device holds at its credit semaphore after `k` waits. -/
def credSt (c : Dev nD) (d : Bool) (k : ℕ) : sProp 𝕄 :=
  iprop((if k < 12 then iprop(∃ T, atPos ER (cell c (cCred d)) 0 T k ∗ bigSep T (fun n => freeUp d (nb d c) (n + 4)))
      else iprop(atPos ER (cell c (cCred d)) 1 ∅ 0))
    ∗ bigSep (Finset.Ico k 12) (fun k => cred (tallyAt (cell c (cCred d)) k 1)))

theorem freeUp_of_large (d : Bool) (p : Dev nD) (S : Finset ℕ) {k n : ℕ} (hn : n ∈ S) (h : k ≤ n) :
    bigSep S (fun n => freeUp (F := F) d p (n + 4)) ⊢ freeUp d p (k + 4) :=
  (bigSep_elim (Φ := fun n => freeUp (F := F) d p (n + 4)) hn).trans (freeUp_mono d p (by omega))

/-- A credit received says that more places of the next device are free. -/
theorem wp_credit (c : Dev nD) (d : Bool) (k : ℕ) (hk : k < 12) (O : CellTallies nD τ sig ℕ) (hO : Above (3 + 2 * k) O) :
    iprop(records X W K ιs ∗ credSt c d k ∗ OW c O)
      ⊢ WP c (semWaitWord (creditS d).sem 1#32) (fun _ => iprop(OW c O ∗ credSt c d (k + 1) ∗ freeUp d (nb d c) (k + 4))) := by
  have hA : Above (lv (cell c (cCred d)) k) O := by rw [lv_cell]; exact hO
  have hlev0 : levs (F := F) ⊢ MayWait (c : Thread nD τ) (csem (cCred d)) k O := Above.mayWait (F := F) (O := O) c (csem (cCred d)) k (by omega) hA
  have hlev : records X W K ιs ⊢ MayWait (c : Thread nD τ) (csem (cCred d)) k O := (rec_lev X W K ιs).trans hlev0
  have hd : (Rd X W).duties (cell c (cCred d)) 0 = Finset.range 12 := by rw [Rd_duties]; rfl
  have he : (Rd X W).expect (cell c (cCred d)) 0 = 12 := by rw [Rd_expect]; rfl
  have hp : ∀ T : Finset ℕ, bigSep T (fun n => (Rd X W).payload (cell c (cCred d)) 0 n) = bigSep T (fun n => freeUp (F := F) d (nb d c) (n + 4)) :=
    fun T => congrArg _ (funext fun n => by rw [Rd_payload]; rfl)
  unfold credSt OW
  rw [if_pos hk, bigSep_Ico_left hk]
  simp only [semWaitWord, Prog.lift]
  iintro ⟨#Hrec, ⟨⟨%T, Hat, #HT⟩, Hc, Hcs⟩, ⟨%V, HO⟩⟩
  ihave #Hm := hlev $$ Hrec
  by_cases h11 : k = 11
  · subst h11
    iapply (Rounds.wp_wait_rest_token 𝒱₀ ER (Rd X W) (c : Thread nD τ) none (κ := K (c, cCred d)) (sm := csem (cCred d)) (k' := 1)
      (wpE_semWait_eq 𝒱₀ (c : Thread nD τ) none Set.univ) (Set.mem_univ _) 11 (O := O) (W := V) (R := 0) (m := 11) (T := T) he.symm) $$ [Hc HO Hat]
    · isplitr; · iapply (rec_cell X W K ιs c (cCred d)) $$ Hrec
      isplitl [Hc]; · iexact Hc
      isplitl [HO]; · iexact HO
      isplitr; · iexact Hm
      iexact Hat
    iintro ⟨HO, Hat, -, Hp⟩
    simp only [WP, wp_ret]
    imodintro
    isplitl [HO]; · iexists _; iexact HO
    isplitl [Hat Hcs]
    · rw [if_neg (by decide)]
      isplitl [Hat]; · iexact Hat
      iexact Hcs
    by_cases h : 11 ∈ T
    · iapply (freeUp_of_large d (nb d c) T h (le_refl _)) $$ HT
    · have hr : bigSep ((Rd X W).duties (cell c (cCred d)) 0 \ T) (fun n => (Rd X W).payload (cell c (cCred d)) 0 n) ⊢ freeUp (F := F) d (nb d c) (11 + 4) := by
        rw [hd, hp]
        exact freeUp_of_large d (nb d c) _ (Finset.mem_sdiff.mpr ⟨Finset.mem_range.mpr (by decide : 11 < 12), h⟩) (le_refl _)
      iapply hr $$ Hp
  · iapply (Rounds.wp_wait 𝒱₀ ER (Rd X W) (c : Thread nD τ) none (κ := K (c, cCred d)) (sm := csem (cCred d)) (k' := 1)
      (wpE_semWait_eq 𝒱₀ (c : Thread nD τ) none Set.univ) (Set.mem_univ _) (cr := Finsupp.single k 1) (O := O) (W := V) {(csem (cCred d), k)} (R := 0) (m := k) (T := T)
      (Util.total_single _ _) (image_single_subset _ _ _)) $$ [Hc HO Hat]
    · isplitr; · iapply (rec_cell X W K ιs c (cCred d)) $$ Hrec
      isplitl [Hc]; · iexact Hc
      isplitl [HO]; · iexact HO
      isplitr; · iexact Hm
      iexact Hat
    iintro %S ⟨%hS, HO, Hat, Hp⟩
    have hS' : T ⊆ S ∧ S ⊆ Finset.range 12 ∧ k + 1 + (Finset.range 12 \ S).card ≤ 12 := by
      have hS := hS
      rw [show (((c : Thread nD τ), csem (cCred d)) : GSem nD τ sig) = cell c (cCred d) from rfl, hd, he] at hS
      exact hS
    obtain ⟨hTS, hS12, hcard⟩ := hS'
    have hex : ∃ n ∈ S, k ≤ n := by
      by_contra hno
      have hsub : S ⊆ Finset.range k := fun n hn => Finset.mem_range.mpr (by
        by_contra hge; exact hno ⟨n, hn, by omega⟩)
      have h1 := Finset.card_le_card hsub
      have h2 := Finset.card_sdiff_of_subset hS12
      rw [Finset.card_range] at h1 h2
      omega
    obtain ⟨n, hn, hkn⟩ := hex
    have hall : iprop(bigSep T (fun n => freeUp (F := F) d (nb d c) (n + 4)) ∗ bigSep (S \ T) (fun n => (Rd X W).payload (cell c (cCred d)) 0 n))
        ⊢ bigSep S (fun n => freeUp (F := F) d (nb d c) (n + 4)) := by
      rw [hp]
      have e := (bigSep_union (Φ := fun n => freeUp (F := F) d (nb d c) (n + 4)) (Finset.disjoint_sdiff (s := T) (t := S))).symm
      rw [Finset.union_sdiff_of_subset hTS] at e
      exact Entails.of_eq e
    ihave #Hall := hall $$ [Hp]
    · isplitr; · iexact HT
      iexact Hp
    simp only [WP, wp_ret]
    imodintro
    isplitl [HO]; · iexists _; iexact HO
    isplitl [Hat Hcs]
    · rw [if_pos (by omega)]
      isplitl [Hat]
      · iexists S
        isplitl [Hat]; · iexact Hat
        iexact Hall
      iexact Hcs
    iapply (freeUp_of_large d (nb d c) S hn hkn) $$ Hall

/-- The rights to a ring's credits from `k` on. -/
def sigT (c : Dev nD) (d : Bool) (k : ℕ) : sProp 𝕄 := bigSep (Finset.Ico k 12) (fun k => dutyTok ER (cell (pv d c) (cCred d)) 0 k)

/-- A credit given. -/
theorem wp_give (c : Dev nD) (d : Bool) (k : ℕ) (hk : k < 12) (f : Bool × Fin 4 → ℕ) (g : Bool → ℕ) (hg : g d = k) :
    iprop(records X W K ιs ∗ sigT c d k ∗ freeUp d c (k + 4) ∗ OW c (OT c f g))
      ⊢ WP c (semSignalWord (pv d c) (creditS d).sem 1#32) (fun _ => iprop(sigT c d (k + 1) ∗ OW c (OT c f (Function.update g d (k + 1))))) := by
  unfold OW sigT
  rw [bigSep_Ico_left hk]
  simp only [semSignalWord, Prog.lift]
  iintro ⟨#Hrec, ⟨Ht, Hts⟩, #Hf, ⟨%V, HO⟩⟩
  iapply (Rounds.wp_signal 𝒱₀ ER (Rd X W) (c : Thread nD τ) none (dst := (pv d c : Thread nD τ)) (sem := (creditS d).sem) (κ := K (pv d c, cCred d)) (r := 0) (d := k) (k' := 1)
    (show k ∈ (Rd X W).duties (cell (pv d c) (cCred d)) 0 by rw [Rd_duties]; exact Finset.mem_range.mpr hk)
    (Rd_amount X W (pv d c) (cCred d) _ _) k _ (OT_credit c f g d hk hg) (W := V)) $$ [Ht HO]
  · isplitr; · iapply (rec_cell X W K ιs (pv d c) (cCred d)) $$ Hrec
    isplitl [HO]; · iexact HO
    isplitl [Ht]; · iexact Ht
    isplitr
    · have e : (Rd X W).payload (((pv d c : Dev nD) : Thread nD τ), SemLoc.reg (creditS d).sem) 0 k = freeUp (F := F) d c (k + 4) := by
        rw [show (((pv d c : Dev nD) : Thread nD τ), SemLoc.reg (creditS d).sem) = cell (pv d c) (cCred d) from rfl, Rd_payload]
        show freeUp d (nb d (pv d c)) (k + 4) = _
        rw [nb_pv]
      rw [e]; iexact Hf
    iapply (rec_reached X W K ιs (pv d c) (cCred d)) $$ Hrec
  iintro HO
  simp only [WP, wp_ret]
  imodintro
  isplitl [Hts]; · iexact Hts
  iexists _; iexact HO

/-! ## A whole turn -/

/-- What is known throughout the rings: the records, that the device has started, and what the barrier said. -/
def known (c : Dev nD) : sProp 𝕄 := iprop(records X W K ιs ∗ entered c ∗ freeUp true (nb true c) 3 ∗ freeUp false (nb false c) 3)
instance known_persistent (c : Dev nD) : BI.Persistent (known X W K ιs c) := by unfold known; infer_instance

/-- The state before turn `s`. -/
def TS (c : Dev nD) (s : ℕ) : sProp 𝕄 :=
  iprop((L2 c 0 s ∗ L2 c 1 s ∗ L2 c 2 s ∗ L2 c 3 s) ∗ (credSt c true (s - 2) ∗ credSt c false (s - 2)) ∗ (sigT c true s ∗ sigT c false s)
    ∗ (freeUp true c (s + 3) ∗ freeUp false c (s + 3)) ∗ xPts X c ∗ wbPts W c ∗ OW c (OT c (fun _ => s + 1) (fun _ => s)))

/-- The credits of a turn: the next devices' places for the messages to send are free. -/
theorem wp_credits (c : Dev nD) (s : ℕ) (hs : s < 14) :
    iprop(known X W K ιs c ∗ (credSt c true (s - 2) ∗ credSt c false (s - 2)) ∗ OW c (OT c (fun _ => s + 1) (fun _ => s)))
      ⊢ WP c (credits s) (fun _ => iprop((credSt c true (s + 1 - 2) ∗ credSt c false (s + 1 - 2)) ∗ OW c (OT c (fun _ => s + 1) (fun _ => s))
        ∗ freeUp true (nb true c) (s + 2) ∗ freeUp false (nb false c) (s + 2))) := by
  unfold credits known
  by_cases h : 2 ≤ s
  · obtain ⟨k, rfl⟩ : ∃ k, s = k + 2 := ⟨s - 2, by omega⟩
    rw [if_pos h, show k + 2 - 2 = k by omega, show k + 2 + 1 - 2 = k + 1 by omega]
    have hO : Above (3 + 2 * k) (OT c (fun _ => k + 2 + 1) (fun _ => k + 2)) := OT_above c _ _ (by omega) (fun _ => by omega) (fun _ => by omega)
    iintro ⟨⟨#Hrec, -, -, -⟩, ⟨Ht, Hf⟩, HO⟩
    iapply (step (wp_credit X W K ιs c true k (by omega) _ hO)) $$ [Ht HO]
    · isplitr; · iexact Hrec
      isplitl [Ht]; · iexact Ht
      iexact HO
    iintro %u ⟨HO, Ht, Hut⟩
    iapply (wp_wand_r Idealize.ShloMosaic.frame (wpE (defs₀ (F := F)) 𝒱₀ (c : Thread nD τ) none) Set.univ)
    isplitl [Hf HO]
    · iapply (wp_credit X W K ιs c false k (by omega) _ hO)
      isplitr; · iexact Hrec
      isplitl [Hf]; · iexact Hf
      iexact HO
    iintro %u' ⟨HO, Hf, Huf⟩
    isplitl [Ht Hf]
    · isplitl [Ht]; · iexact Ht
      iexact Hf
    isplitl [HO]; · iexact HO
    isplitl [Hut]; · iexact Hut
    iexact Huf
  · rw [if_neg h, show s - 2 = 0 by omega, show s + 1 - 2 = 0 by omega]
    simp only [WP, Prog.pure_eq_ret, wp_ret]
    iintro ⟨⟨-, -, Hut, Huf⟩, H, HO⟩
    imodintro
    isplitl [H]; · iexact H
    isplitl [HO]; · iexact HO
    isplitl [Hut]; · iapply (freeUp_mono true (nb true c) (show s + 2 ≤ 3 by omega)) $$ Hut
    iapply (freeUp_mono false (nb false c) (show s + 2 ≤ 3 by omega)) $$ Huf

/-- The signals that end a turn. -/
theorem wp_signals (c : Dev nD) (s : ℕ) (f : Bool × Fin 4 → ℕ) :
    iprop(known X W K ιs c ∗ (sigT c true s ∗ sigT c false s) ∗ (freeUp true c (s + 4) ∗ freeUp false c (s + 4)) ∗ OW c (OT c f (fun _ => s)))
      ⊢ WP c (signals c s) (fun _ => iprop((sigT c true (s + 1) ∗ sigT c false (s + 1)) ∗ OW c (OT c f (fun _ => s + 1)))) := by
  unfold signals known
  by_cases h : s ≤ 11
  · rw [if_pos h]
    have e : Function.update (Function.update (fun _ : Bool => s) true (s + 1)) false (s + 1) = fun _ => s + 1 := by
      funext d; cases d
      · rw [Function.update_self]
      · rw [Function.update_of_ne (by simp), Function.update_self]
    iintro ⟨⟨#Hrec, -, -, -⟩, ⟨Ht, Hf⟩, ⟨#Hut, #Huf⟩, HO⟩
    iapply (step (wp_give X W K ιs c true s (by omega) f (fun _ => s) rfl)) $$ [Ht HO]
    · isplitr; · iexact Hrec
      isplitl [Ht]; · iexact Ht
      isplitr; · iexact Hut
      iexact HO
    iintro %u ⟨Ht, HO⟩
    iapply (wp_wand_r Idealize.ShloMosaic.frame (wpE (defs₀ (F := F)) 𝒱₀ (c : Thread nD τ) none) Set.univ)
    isplitl [Hf HO]
    · iapply (wp_give X W K ιs c false s (by omega) f (Function.update (fun _ => s) true (s + 1)) (by rw [Function.update_of_ne (by simp)]))
      isplitr; · iexact Hrec
      isplitl [Hf]; · iexact Hf
      isplitr; · iexact Huf
      iexact HO
    iintro %u' ⟨Hf, HO⟩
    rw [e]
    isplitl [Ht Hf]
    · isplitl [Ht]; · iexact Ht
      iexact Hf
    iexact HO
  · have e : OT c f (fun _ => s) = OT c f (fun _ => s + 1) := by
      unfold OT
      rw [Finset.sum_congr rfl fun d _ => OC_done c d (show 12 ≤ s by omega), Finset.sum_congr rfl fun d _ => OC_done c d (show 12 ≤ s + 1 by omega)]
    rw [if_neg h, e]
    unfold sigT
    rw [bigSep_Ico_empty (show 12 ≤ s by omega), bigSep_Ico_empty (show 12 ≤ s by omega), bigSep_Ico_empty (show 12 ≤ s + 1 by omega), bigSep_Ico_empty (show 12 ≤ s + 1 by omega)]
    simp only [WP, Prog.pure_eq_ret, wp_ret]
    iintro ⟨-, H, -, HO⟩
    imodintro
    isplitl [H]; · iexact H
    iexact HO

theorem freeUp_succ (d : Bool) (p : Dev nD) (n : ℕ) :
    iprop(freeUp (F := F) d p n ∗ freeJ d p n 0 ∗ freeJ d p n 1 ∗ freeJ d p n 2 ∗ freeJ d p n 3) ⊢ freeUp d p (n + 1) := by
  unfold freeUp
  rw [Finset.range_add_one, bigSep_insert Finset.notMem_range_self,
    bigSep_univ_eq_bigSepL [0, 1, 2, 3] (by decide) (by decide) (fun j : Fin 4 => freeJ (F := F) d p n j)]
  show _ ⊢ iprop((freeJ (F := F) d p n 0 ∗ freeJ d p n 1 ∗ freeJ d p n 2 ∗ freeJ d p n 3) ∗ bigSep (Finset.range n) fun t => bigSep Finset.univ fun j : Fin 4 => freeJ d p t j)
  iintro ⟨H, H0, H1, H2, H3⟩
  isplitr [H]
  · isplitl [H0]; · iexact H0
    isplitl [H1]; · iexact H1
    isplitl [H2]; · iexact H2
    iexact H3
  iexact H

/-- A turn. -/
theorem wp_turn (c : Dev nD) (s : Fin 14) :
    iprop(known X W K ιs c ∗ TS X W c s.val) ⊢ WP c (turn xM c s) (fun _ => TS X W c (s.val + 1)) := by
  have hs : s.val < 14 := s.isLt
  unfold turn TS
  iintro ⟨#Hk, ⟨Hl0, Hl1, Hl2, Hl3⟩, Hcr, Hsg, ⟨#Hut, #Huf⟩, Hx, Hw, HO⟩
  iapply (step (wp_readX X c (chunk true c (s.val + 1)) _ (offS_inb true c s) (offS_chunk true c s))) $$ Hx
  iintro %xl ⟨%hxl, Hx⟩
  iapply (step (wp_readW W c true)) $$ Hw
  iintro %wl ⟨%hwl, Hw⟩
  iapply (step (wp_readX X c (chunk false c (s.val + 1)) _ (offS_inb false c s) (offS_chunk false c s))) $$ Hx
  iintro %xr ⟨%hxr, Hx⟩
  iapply (step (wp_readW W c false)) $$ Hw
  iintro %wr ⟨%hwr, Hw⟩
  subst hxl; subst hwl; subst hxr; subst hwr
  iapply (step (wp_credits X W K ιs c s.val hs)) $$ [Hcr HO]
  · isplitr; · iexact Hk
    isplitl [Hcr]; · iexact Hcr
    iexact HO
  iintro %u ⟨Hcr, HO, #Hft, #Hff⟩
  rw [← fj_zero (s.val + 1)]
  unfold known
  icases Hk with ⟨#Hrec, #He, #Hk3⟩
  have hj := fun j : Fin 4 => wp_turnJ X W K ιs c s.val hs j
  iapply (step (hj 0)) $$ [Hl0 HO]
  · isplitr; · iexact Hrec
    isplitr; · iexact He
    isplitr; · iexact Hft
    isplitr; · iexact Hff
    isplitl [Hl0]; · iexact Hl0
    iexact HO
  iintro %u0 ⟨Hl0, HO, Ht0, Hf0⟩
  iapply (step (hj 1)) $$ [Hl1 HO]
  · isplitr; · iexact Hrec
    isplitr; · iexact He
    isplitr; · iexact Hft
    isplitr; · iexact Hff
    isplitl [Hl1]; · iexact Hl1
    iexact HO
  iintro %u1 ⟨Hl1, HO, Ht1, Hf1⟩
  iapply (step (hj 2)) $$ [Hl2 HO]
  · isplitr; · iexact Hrec
    isplitr; · iexact He
    isplitr; · iexact Hft
    isplitr; · iexact Hff
    isplitl [Hl2]; · iexact Hl2
    iexact HO
  iintro %u2 ⟨Hl2, HO, Ht2, Hf2⟩
  iapply (step (hj 3)) $$ [Hl3 HO]
  · isplitr; · iexact Hrec
    isplitr; · iexact He
    isplitr; · iexact Hft
    isplitr; · iexact Hff
    isplitl [Hl3]; · iexact Hl3
    iexact HO
  iintro %u3 ⟨Hl3, HO, Ht3, Hf3⟩
  have e4 : fj (s.val + 1) ((3 : Fin 4).val + 1) = fun _ => s.val + 2 := fj_four (s.val + 1)
  rw [e4]
  ihave #Hut := (freeUp_succ true c (s.val + 3)) $$ [Ht0 Ht1 Ht2 Ht3]
  · isplitr; · iexact Hut
    isplitl [Ht0]; · iexact Ht0
    isplitl [Ht1]; · iexact Ht1
    isplitl [Ht2]; · iexact Ht2
    iexact Ht3
  ihave #Huf := (freeUp_succ false c (s.val + 3)) $$ [Hf0 Hf1 Hf2 Hf3]
  · isplitr; · iexact Huf
    isplitl [Hf0]; · iexact Hf0
    isplitl [Hf1]; · iexact Hf1
    isplitl [Hf2]; · iexact Hf2
    iexact Hf3
  iapply (wp_wand_r Idealize.ShloMosaic.frame (wpE (defs₀ (F := F)) 𝒱₀ (c : Thread nD τ) none) Set.univ)
  isplitl [Hsg HO]
  · iapply (wp_signals X W K ιs c s.val (fun _ => s.val + 2))
    isplitr
    · unfold known
      isplitr; · iexact Hrec
      isplitr; · iexact He
      iexact Hk3
    isplitl [Hsg]; · iexact Hsg
    isplitr
    · isplitr; · iexact Hut
      iexact Huf
    iexact HO
  iintro %u4 ⟨Hsg, HO⟩
  isplitl [Hl0 Hl1 Hl2 Hl3]
  · isplitl [Hl0]; · iexact Hl0
    isplitl [Hl1]; · iexact Hl1
    isplitl [Hl2]; · iexact Hl2
    iexact Hl3
  isplitl [Hcr]; · iexact Hcr
  isplitl [Hsg]; · iexact Hsg
  isplitr
  · rw [show s.val + 1 + 3 = s.val + 3 + 1 by omega]
    isplitr; · iexact Hut
    iexact Huf
  isplitl [Hx]; · iexact Hx
  isplitl [Hw]; · iexact Hw
  iexact HO

end Cert.KernelIdeal.Body

end
-- ==== Proof.Start.lean ====
/- The start of the kernel: the landing places are let go, the barrier, the weights kept, and the
   first messages. -/
module

public import proofs.«01_k».proof.Proof.Ring

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x256 .bf16) (W : Dev nD → Vec F S256x2048 .bf16)
variable (K : Dev nD × Cid → ℕ) (ιs : Ky → ℕ)

/-! ## Letting the landing places go -/

/-- A place let go for message `t`. -/
theorem free1 (c : Dev nD) (d : Bool) (j : Fin 4) (t : ℕ) (ht : t < 15) :
    iprop(records X W K ιs ∗ tileAny c d (slot (t + 1)) j ∗ reached ER (gR d c t j) (t / 4) ∗ Release.readerAt ES (keyT d c t j) 0)
      ⊢ (|={Set.univ}=> freeJ d c t j : sProp 𝕄) := by
  have hk := slotOf_keyT (F := F) d c ht j
  unfold freeJ
  rw [if_pos ht]
  iintro ⟨#Hrec, Ht, Hr, Hrd⟩
  imod (Release.slot_release ES (Set.mem_univ (ιs (keyT d c t j))) (slotOf_excl (keyT d c t j)) 0) $$ [Ht Hrd] with ⟨-, Hrel⟩
  · isplitr; · iapply (rec_slot X W K ιs (keyT d c t j)) $$ Hrec
    isplitl [Hrd]; · iexact Hrd
    iapply (Entails.of_eq hk.symm) $$ Ht
  imodintro
  isplitl [Hrel]; · iexact Hrel
  iexact Hr
/-- A landing place for a maximum let go. -/
theorem free2 (c : Dev nD) (k : Fin 2) (i : Fin 3) :
    iprop(records X W K ιs ∗ stageAny c k i ∗ Release.readerAt ES (keyM c k i) 0) ⊢ (|={Set.univ}=> Release.released ES (keyM c k i) 1 : sProp 𝕄) := by
  iintro ⟨#Hrec, Ht, Hrd⟩
  imod (Release.slot_release ES (Set.mem_univ (ιs (keyM c k i))) (slotOf_excl (keyM c k i)) 0) $$ [Ht Hrd] with ⟨-, Hrel⟩
  · isplitr; · iapply (rec_slot X W K ιs (keyM c k i)) $$ Hrec
    isplitl [Hrd]; · iexact Hrd
    iapply (Entails.of_eq (show stageAny (F := F) c k i = slotOf (keyM c k i) from rfl)) $$ Ht
  imodintro
  iexact Hrel

/-- What a device starts with for a tile of a ring. -/
def lane0 (c : Dev nD) (d : Bool) (j : Fin 4) : sProp 𝕄 :=
  iprop((bigSep (Finset.Ico 0 4) fun t => posS c d j t) ∗ (bigSep (Finset.Ico 0 4) fun t => posR c d j t)
    ∗ (bigSep (Finset.Ico 0 15) fun t => tosend c d j t) ∗ (bigSep (Finset.Ico 0 15) fun t => cred (tallyAt (gR d c t j) t NT))
    ∗ (bigSep (Finset.Ico 0 15) fun t => Release.readerAt ES (keyT d c t j) 0)
    ∗ tileAny c d 0 j ∗ tileAny c d 1 j ∗ tileAny c d 2 j ∗ tileAny c d 3 j)

theorem posR_fact (c : Dev nD) (d : Bool) (j : Fin 4) {t : ℕ} (ht : t < 4) :
    (bigSep (Finset.Ico 0 4) fun t => posR (F := F) c d j t) ⊢ iprop((bigSep (Finset.Ico 0 4) fun t => posR (F := F) c d j t) ∗ reached ER (gR d c t j) (t / 4)) := by
  have hm : t ∈ Finset.Ico 0 4 := Finset.mem_Ico.mpr ⟨Nat.zero_le _, ht⟩
  rw [bigSep_erase hm]
  show iprop(posR (F := F) c d j t ∗ bigSep ((Finset.Ico 0 4).erase t) fun t => posR (F := F) c d j t)
    ⊢ iprop((posR (F := F) c d j t ∗ bigSep ((Finset.Ico 0 4).erase t) fun t => posR (F := F) c d j t) ∗ reached ER (gR d c t j) (t / 4))
  unfold posR
  iintro ⟨⟨Ha, #Hr⟩, H⟩
  isplitl [Ha H]
  · isplitl [Ha]
    · isplitl [Ha]; · iexact Ha
      iexact Hr
    iexact H
  iexact Hr

/-- A tile's places are let go at the start. -/
theorem enter1 (c : Dev nD) (d : Bool) (j : Fin 4) :
    iprop(records X W K ιs ∗ lane0 c d j)
      ⊢ (|={Set.univ}=> ((lb c d j 0 0 ∗ tileAny c d 0 j) ∗ freeJ d c 0 j ∗ freeJ d c 1 j ∗ freeJ d c 2 j) : sProp 𝕄) := by
  unfold lane0 lb
  rw [bigSep_Ico_left (show 0 < 15 by decide) (fun t => Release.readerAt ES (keyT d c t j) 0), bigSep_Ico_left (show 0 + 1 < 15 by decide) (fun t => Release.readerAt ES (keyT d c t j) 0),
    bigSep_Ico_left (show 0 + 1 + 1 < 15 by decide) (fun t => Release.readerAt ES (keyT d c t j) 0), bigSep_Ico_empty (show 0 ≤ 12 by decide)]
  iintro ⟨#Hrec, HpS, HpR, Hts, Hcr, ⟨Hr0, Hr1, Hr2, Hrs⟩, Ht0, Ht1, Ht2, Ht3⟩
  ihave HH := (posR_fact c d j (show 0 < 4 by decide)) $$ HpR
  icases HH with ⟨HpR, Hq0⟩
  ihave HH := (posR_fact c d j (show 1 < 4 by decide)) $$ HpR
  icases HH with ⟨HpR, Hq1⟩
  ihave HH := (posR_fact c d j (show 2 < 4 by decide)) $$ HpR
  icases HH with ⟨HpR, Hq2⟩
  imod (free1 X W K ιs c d j 0 (by decide)) $$ [Ht1 Hq0 Hr0] with H0
  · isplitr; · iexact Hrec
    isplitl [Ht1]; · iexact Ht1
    isplitl [Hq0]; · iexact Hq0
    iexact Hr0
  imod (free1 X W K ιs c d j 1 (by decide)) $$ [Ht2 Hq1 Hr1] with H1
  · isplitr; · iexact Hrec
    isplitl [Ht2]; · iexact Ht2
    isplitl [Hq1]; · iexact Hq1
    iexact Hr1
  imod (free1 X W K ιs c d j 2 (by decide)) $$ [Ht3 Hq2 Hr2] with H2
  · isplitr; · iexact Hrec
    isplitl [Ht3]; · iexact Ht3
    isplitl [Hq2]; · iexact Hq2
    iexact Hr2
  imodintro
  isplitr [H0 H1 H2]
  · isplitr [Ht0]
    · isplitl [HpS]; · iexact HpS
      isplitl [HpR]; · iexact HpR
      isplitl [Hts]; · iexact Hts
      isplitl [Hcr]; · iexact Hcr
      isplitl [Hrs]; · iexact Hrs
      iempintro
    iexact Ht0
  isplitl [H0]; · iexact H0
  isplitl [H1]; · iexact H1
  iexact H2

/-- A tile ready for its first message. -/
abbrev lane1 (c : Dev nD) (d : Bool) (j : Fin 4) : sProp 𝕄 := iprop(lb c d j 0 0 ∗ tileAny c d 0 j)

/-- A ring's places are let go at the start. -/
theorem enterD (c : Dev nD) (d : Bool) :
    iprop(records X W K ιs ∗ bigSep Finset.univ fun j : Fin 4 => lane0 c d j)
      ⊢ (|={Set.univ}=> ((lane1 c d 0 ∗ lane1 c d 1 ∗ lane1 c d 2 ∗ lane1 c d 3) ∗ freeUp d c 3) : sProp 𝕄) := by
  rw [bigSep_univ_eq_bigSepL [0, 1, 2, 3] (by decide) (by decide) (fun j : Fin 4 => lane0 (F := F) c d j)]
  show iprop(records X W K ιs ∗ lane0 c d 0 ∗ lane0 c d 1 ∗ lane0 c d 2 ∗ lane0 c d 3) ⊢ _
  iintro ⟨#Hrec, H0, H1, H2, H3⟩
  imod (enter1 X W K ιs c d 0) $$ [H0] with ⟨H0, Ha0, Hb0, Hc0⟩
  · isplitr; · iexact Hrec
    iexact H0
  imod (enter1 X W K ιs c d 1) $$ [H1] with ⟨H1, Ha1, Hb1, Hc1⟩
  · isplitr; · iexact Hrec
    iexact H1
  imod (enter1 X W K ιs c d 2) $$ [H2] with ⟨H2, Ha2, Hb2, Hc2⟩
  · isplitr; · iexact Hrec
    iexact H2
  imod (enter1 X W K ιs c d 3) $$ [H3] with ⟨H3, Ha3, Hb3, Hc3⟩
  · isplitr; · iexact Hrec
    iexact H3
  imodintro
  isplitl [H0 H1 H2 H3]
  · isplitl [H0]; · iexact H0
    isplitl [H1]; · iexact H1
    isplitl [H2]; · iexact H2
    iexact H3
  iapply (freeUp_succ d c 2)
  isplitr [Hc0 Hc1 Hc2 Hc3]
  · iapply (freeUp_succ d c 1)
    isplitr [Hb0 Hb1 Hb2 Hb3]
    · iapply (freeUp_succ d c 0)
      isplitr
      · unfold freeUp; rw [Finset.range_zero, bigSep_empty]; iempintro
      isplitl [Ha0]; · iexact Ha0
      isplitl [Ha1]; · iexact Ha1
      isplitl [Ha2]; · iexact Ha2
      iexact Ha3
    isplitl [Hb0]; · iexact Hb0
    isplitl [Hb1]; · iexact Hb1
    isplitl [Hb2]; · iexact Hb2
    iexact Hb3
  isplitl [Hc0]; · iexact Hc0
  isplitl [Hc1]; · iexact Hc1
  isplitl [Hc2]; · iexact Hc2
  iexact Hc3

/-- The landing places for maxima are let go at the start. -/
theorem enterM (c : Dev nD) :
    iprop(records X W K ιs ∗ bigSep Finset.univ fun k : Fin 2 × Fin 3 => iprop(stageAny c k.1 k.2 ∗ Release.readerAt ES (keyM c k.1 k.2) 0))
      ⊢ (|={Set.univ}=> entered c : sProp 𝕄) := by
  have h : (bigSep Finset.univ fun k : Fin 2 × Fin 3 => iprop(records X W K ιs ∗ stageAny c k.1 k.2 ∗ Release.readerAt ES (keyM c k.1 k.2) 0))
      ⊢ (|={Set.univ}=> entered c : sProp 𝕄) :=
    (bigSep_mono fun k _ => free2 X W K ιs c k.1 k.2).trans (bigSep_fupd _ _)
  rw [bigSep_sep'] at h
  iintro ⟨#Hrec, H⟩
  iapply h
  isplitr
  · iapply (bigSep_intro_persistent (S := (Finset.univ : Finset (Fin 2 × Fin 3))) (fun _ _ => Entails.rfl)) $$ Hrec
  iexact H

/-! ## The barrier -/

/-- What a device says to a neighbour at the barrier. -/
theorem wp_hello (c : Dev nD) (d : Bool) (O : CellTallies nD τ sig ℕ) :
    iprop(records X W K ιs ∗ dutyTok ER (cell (pv d c) cBar) 0 (bif d then 0 else 1) ∗ freeUp d c 3 ∗ OW c (O + tallyAt (cell (pv d c) cBar) 0 1))
      ⊢ WP c (semSignalWord (pv d c) barS.sem 1#32) (fun _ => OW c O) := by
  unfold OW
  simp only [semSignalWord, Prog.lift]
  iintro ⟨#Hrec, Ht, Hf, ⟨%V, HO⟩⟩
  iapply (Rounds.wp_signal 𝒱₀ ER (Rd X W) (c : Thread nD τ) none (dst := (pv d c : Thread nD τ)) (sem := barS.sem) (κ := K (pv d c, cBar)) (r := 0) (d := bif d then 0 else 1) (k' := 1)
    (show (bif d then 0 else 1) ∈ (Rd X W).duties (cell (pv d c) cBar) 0 by rw [Rd_duties]; cases d <;> decide)
    (Rd_amount X W (pv d c) cBar _ _) 0 O rfl (W := V)) $$ [Ht Hf HO]
  · isplitr; · iapply (rec_cell X W K ιs (pv d c) cBar) $$ Hrec
    isplitl [HO]; · iexact HO
    isplitl [Ht]; · iexact Ht
    isplitl [Hf]
    · have e : (Rd X W).payload (((pv d c : Dev nD) : Thread nD τ), SemLoc.reg barS.sem) 0 (bif d then 0 else 1) = freeUp (F := F) d c 3 := by
        rw [show (((pv d c : Dev nD) : Thread nD τ), SemLoc.reg barS.sem) = cell (pv d c) cBar from rfl, Rd_payload]
        cases d
        · show freeUp false (nb false (pv false c)) 3 = _
          rw [nb_pv]
        · show freeUp true (nb true (pv true c)) 3 = _
          rw [nb_pv]
      rw [e]; iexact Hf
    iapply (rec_reached X W K ιs (pv d c) cBar) $$ Hrec
  iintro HO
  simp only [WP, wp_ret]
  imodintro
  iexists _; iexact HO
/-- What a device hears at the barrier. -/
theorem wp_heard (c : Dev nD) (O : CellTallies nD τ sig ℕ) (hO : Above 1 O) :
    iprop(records X W K ιs ∗ cred (tallyAt (cell c cBar) 0 2) ∗ OW c O ∗ atPos ER (cell c cBar) 0 ∅ 0)
      ⊢ WP c (semWaitWord barS.sem 2#32) (fun _ => iprop(OW c O ∗ atPos ER (cell c cBar) 1 ∅ 0 ∗ freeUp true (nb true c) 3 ∗ freeUp false (nb false c) 3)) := by
  simp only [semWaitWord, Prog.lift]
  have hp : bigSep (dts cBar 0) (fun n => pay X W c cBar 0 n) ⊢ iprop(freeUp (F := F) true (nb true c) 3 ∗ freeUp false (nb false c) 3) := by
    show bigSep (Finset.range 2) _ ⊢ _
    rw [show Finset.range 2 = insert 0 {1} by decide, bigSep_insert (by decide), bigSep_singleton]
    exact Entails.rfl
  iintro H
  iapply (wp_round X W K ιs c cBar 0 2 0 O _ _ (w := .semWait barS.sem 2) (wpE_semWait_eq 𝒱₀ (c : Thread nD τ) none Set.univ) rfl (by decide) hO) $$ H
  iintro ⟨HO, Hat, -, Hp⟩
  ihave Hp := hp $$ Hp
  simp only [WP, wp_ret]
  imodintro
  isplitl [HO]; · iexact HO
  isplitl [Hat]; · iexact Hat
  iexact Hp

/-! ## The weights -/

/-- The staged weights. -/
def wPts (c : Dev nD) : sProp 𝕄 := (c : Thread nD τ).loc cc0_stg1_0 ↦{fullShare} W c
/-- The place the weights are kept at, at any contents. -/
def wbAny (c : Dev nD) : sProp 𝕄 := iprop(∃ f : Vec F S256x2048 .bf16, (c : Thread nD τ).loc cc0_scratch0 ↦{fullShare} f)

theorem wp_loadw (c : Dev nD) {α : Type} (k : Vec F S256x2048 .bf16 → Pg F α) (Q : α → sProp 𝕄) :
    iprop(wPts W c ∗ (wPts W c -∗ WP c (k (W c)) Q))
      ⊢ WP c (Prog.lift (.load wM (Rect.unit (s := S256x2048) ![0, 0] S256x2048.size inb_S256x2048_S256x2048_0_0).toLoadRect (View.loadsAt_vmem h_S256x2048)) >>= k) Q := by
  unfold wPts
  simp only [Prog.lift, Prog.bind_op, Prog.bind_ret]
  iintro ⟨H, Hk⟩
  iapply (wp_load_rect 𝒱₀ (c : Thread nD τ) none Set.univ (m := wM) (r := Rect.unit (s := S256x2048) ![0, 0] S256x2048.size inb_S256x2048_S256x2048_0_0) (S := Finset.univ) (f := W c) (Finset.subset_univ _)) $$ [H]
  · iexact H
  have e : (wM.access (Rect.unit (s := S256x2048) ![0, 0] S256x2048.size inb_S256x2048_S256x2048_0_0)).read (Elt F) (W c) = W c :=
    Memref.readAt_unit_zero (Elt F) cc0_stg1_0 (funext fun a => by revert a; decide) _ (W c)
  rw [e]
  iexact Hk
theorem wp_keepw (c : Dev nD) {α : Type} (v : Vec F S256x2048 .bf16) (hv : v = W c) (k : Pg F α) (Q : α → sProp 𝕄) :
    iprop(wbAny c ∗ (wbPts W c -∗ WP c k Q))
      ⊢ WP c (Prog.lift (.load wbM (Rect.unit (s := S256x2048) ![0, 0] S256x2048.size inb_S256x2048_S256x2048_0_0).toLoadRect (View.loadsAt_vmem h_S256x2048)) >>= fun _ =>
        Prog.lift (.store wbM (Rect.unit (s := S256x2048) ![0, 0] S256x2048.size inb_S256x2048_S256x2048_0_0) v Finset.univ
          (View.stores_vmem h_S256x2048 ((Memref.isWhole_whole _).storeExact_slice rfl _ packedbf16_S256x2048_S256x2048_0_0) (fun _ => rfl)) (.inl rfl)) >>= fun _ => k) Q := by
  subst hv
  unfold wbAny wbPts
  simp only [Prog.lift, Prog.bind_op, Prog.bind_ret]
  iintro ⟨⟨%f, H⟩, Hk⟩
  iapply (wp_load_rect 𝒱₀ (c : Thread nD τ) none Set.univ (m := wbM) (r := Rect.unit (s := S256x2048) ![0, 0] S256x2048.size inb_S256x2048_S256x2048_0_0) (S := Finset.univ) (f := f) (Finset.subset_univ _)) $$ [H]
  · iexact H
  iintro H
  iapply (wp_store 𝒱₀ (c : Thread nD τ) none Set.univ (m := wbM) (r := Rect.unit (s := S256x2048) ![0, 0] S256x2048.size inb_S256x2048_S256x2048_0_0) (Mk := Finset.univ) (S := Finset.univ) (f := f) (Finset.subset_univ _)) $$ [H]
  · iexact H
  have e : (wbM.access (Rect.unit (s := S256x2048) ![0, 0] S256x2048.size inb_S256x2048_S256x2048_0_0)).write (Elt F) f (W c) Finset.univ = W c :=
    Memref.write_access_unit_zero_univ (Elt F) cc0_scratch0 (funext fun a => by revert a; decide) _ f (W c)
  rw [e]
  iintro H
  iapply Hk $$ H

/-! ## The first messages -/

theorem wp_begin1 (c : Dev nD) (d : Bool) (j : Fin 4) :
    tileAny c d 0 j ⊢ WP c (begin1 d j (pr X W d c 0)) (fun _ => tileIs c d 0 j (acc X W d 0 c j)) := by
  unfold begin1
  iintro H
  iapply (step (wp_readT_any c d 0 j)) $$ H
  iintro %a H
  rw [← start_tile X W d c j]
  iapply (wp_writeT c d 0 j _) $$ H

/-- Both rings' tiles `j` begin. -/
theorem wp_begin2 (c : Dev nD) (j : Fin 4) {α : Type} (k : Pg F α) (Q : α → sProp 𝕄) :
    iprop((lane1 c true j ∗ lane1 c false j)
        ∗ (((lb c true j 0 0 ∗ tileIs c true 0 j (acc X W true 0 c j)) ∗ (lb c false j 0 0 ∗ tileIs c false 0 j (acc X W false 0 c j))) -∗ WP c k Q))
      ⊢ WP c (begin1 true j (pr X W true c 0) >>= fun _ => begin1 false j (pr X W false c 0) >>= fun _ => k) Q := by
  iintro ⟨⟨⟨Hbt, Ht⟩, ⟨Hbf, Hf⟩⟩, Hk⟩
  iapply (step (wp_begin1 X W c true j)) $$ Ht
  iintro %u Ht
  iapply (step (wp_begin1 X W c false j)) $$ Hf
  iintro %u' Hf
  iapply Hk
  isplitl [Hbt Ht]
  · isplitl [Hbt]; · iexact Hbt
    iexact Ht
  isplitl [Hbf]; · iexact Hbf
  iexact Hf

/-- Both rings' tiles `j` are sent first. -/
theorem wp_send2 (c : Dev nD) (j : Fin 4) :
    iprop(known X W K ιs c ∗ ((lb c true j 0 0 ∗ tileIs c true 0 j (acc X W true 0 c j)) ∗ (lb c false j 0 0 ∗ tileIs c false 0 j (acc X W false 0 c j)))
        ∗ OW c (OT c (fj 0 j.val) fun _ => 0))
      ⊢ WP c (do sendT true c 0 j; sendT false c 0 j) (fun _ => iprop(L2 c j 0 ∗ OW c (OT c (fj 0 (j.val + 1)) fun _ => 0))) := by
  have e1 : fj 0 j.val (true, j) = 0 := if_neg (Nat.lt_irrefl _)
  have e2 : Function.update (fj 0 j.val) (true, j) (0 + 1) (false, j) = 0 := by
    rw [Function.update_of_ne (by simp)]; exact if_neg (Nat.lt_irrefl _)
  unfold known
  iintro ⟨⟨#Hrec, #He, #Hft, #Hff⟩, ⟨⟨Hbt, Htt⟩, Hbf, Htf⟩, HO⟩
  have hh : ∀ d, entered (F := F) c ⊢ heardUp d c 0 := fun d => by
    unfold heardUp; rw [backs_zero]; exact Release.heard_single (entered (F := F)) c
  iapply (step (wp_sendL X W K ιs c true j 0 (by omega) _ _ e1)) $$ [Hbt Htt HO]
  · isplitr; · iexact Hrec
    isplitl [Hbt]; · iexact Hbt
    isplitl [Htt]; · iexact Htt
    isplitr; · iapply (free_of_up true (nb true c) (show 0 < 3 by decide) j) $$ Hft
    isplitr; · iapply (hh true) $$ He
    iexact HO
  iintro %u3 ⟨Hlt, HO⟩
  iapply (wp_wand_r Idealize.ShloMosaic.frame (wpE (defs₀ (F := F)) 𝒱₀ (c : Thread nD τ) none) Set.univ)
  isplitl [Hbf Htf HO]
  · iapply (wp_sendL X W K ιs c false j 0 (by omega) _ _ e2)
    isplitr; · iexact Hrec
    isplitl [Hbf]; · iexact Hbf
    isplitl [Htf]; · iexact Htf
    isplitr; · iapply (free_of_up false (nb false c) (show 0 < 3 by decide) j) $$ Hff
    isplitr; · iapply (hh false) $$ He
    iexact HO
  iintro %u4 ⟨Hlf, HO⟩
  rw [fj_succ]
  isplitl [Hlt Hlf]
  · isplitl [Hlt]; · iexact Hlt
    iexact Hlf
  iexact HO

/-- The four first messages of each ring. -/
def sends0 (c : Dev nD) : Pg F PUnit := do
  sendT true c 0 0; sendT false c 0 0
  sendT true c 0 1; sendT false c 0 1
  sendT true c 0 2; sendT false c 0 2
  sendT true c 0 3; sendT false c 0 3

/-- A tile of both rings, written and ready to be sent. -/
abbrev lane2 (c : Dev nD) (j : Fin 4) : sProp 𝕄 :=
  iprop((lb c true j 0 0 ∗ tileIs c true 0 j (acc X W true 0 c j)) ∗ (lb c false j 0 0 ∗ tileIs c false 0 j (acc X W false 0 c j)))

theorem wp_sends0 (c : Dev nD) :
    iprop(known X W K ιs c ∗ (lane2 X W c 0 ∗ lane2 X W c 1 ∗ lane2 X W c 2 ∗ lane2 X W c 3) ∗ OW c (OT c (fun _ => 0) fun _ => 0))
      ⊢ WP c (sends0 c) (fun _ => iprop((L2 c 0 0 ∗ L2 c 1 0 ∗ L2 c 2 0 ∗ L2 c 3 0) ∗ OW c (OT c (fun _ => 0 + 1) fun _ => 0))) := by
  rw [show (sends0 c : Pg F PUnit) = ((do sendT true c 0 0; sendT false c 0 0) >>= fun _ => (do sendT true c 0 1; sendT false c 0 1) >>= fun _ =>
    (do sendT true c 0 2; sendT false c 0 2) >>= fun _ => (do sendT true c 0 3; sendT false c 0 3)) from rfl, ← fj_zero 0]
  have hj := fun j : Fin 4 => wp_send2 X W K ιs c j
  iintro ⟨#Hk, ⟨H0, H1, H2, H3⟩, HO⟩
  iapply (step (hj 0)) $$ [H0 HO]
  · isplitr; · iexact Hk
    isplitl [H0]; · iexact H0
    iexact HO
  iintro %u0 ⟨H0, HO⟩
  iapply (step (hj 1)) $$ [H1 HO]
  · isplitr; · iexact Hk
    isplitl [H1]; · iexact H1
    iexact HO
  iintro %u1 ⟨H1, HO⟩
  iapply (step (hj 2)) $$ [H2 HO]
  · isplitr; · iexact Hk
    isplitl [H2]; · iexact H2
    iexact HO
  iintro %u2 ⟨H2, HO⟩
  iapply (wp_wand_r Idealize.ShloMosaic.frame (wpE (defs₀ (F := F)) 𝒱₀ (c : Thread nD τ) none) Set.univ)
  isplitl [H3 HO]
  · iapply (hj 3)
    isplitr; · iexact Hk
    isplitl [H3]; · iexact H3
    iexact HO
  iintro %u3 ⟨H3, HO⟩
  have e4 : fj 0 ((3 : Fin 4).val + 1) = fun _ => 0 + 1 := fj_four 0
  rw [e4]
  isplitl [H0 H1 H2 H3]
  · isplitl [H0]; · iexact H0
    isplitl [H1]; · iexact H1
    isplitl [H2]; · iexact H2
    iexact H3
  iexact HO

/-! ## The whole start -/

/-- What a device owes at its start: everything, and the barrier's signals. -/
def O0 (c : Dev nD) : CellTallies nD τ sig ℕ :=
  OT c (fun _ => 0) (fun _ => 0) + tallyAt (cell (pv false c) cBar) 0 1 + tallyAt (cell (pv true c) cBar) 0 1

/-- What a device starts its rings with. -/
def ini (c : Dev nD) : sProp 𝕄 :=
  iprop(((bigSep Finset.univ fun j : Fin 4 => lane0 c true j) ∗ (bigSep Finset.univ fun j : Fin 4 => lane0 c false j))
    ∗ (bigSep Finset.univ fun k : Fin 2 × Fin 3 => iprop(stageAny c k.1 k.2 ∗ Release.readerAt ES (keyM c k.1 k.2) 0))
    ∗ (dutyTok ER (cell (pv true c) cBar) 0 0 ∗ dutyTok ER (cell (pv false c) cBar) 0 1 ∗ cred (tallyAt (cell c cBar) 0 2) ∗ atPos ER (cell c cBar) 0 ∅ 0)
    ∗ (credSt c true 0 ∗ credSt c false 0) ∗ (sigT c true 0 ∗ sigT c false 0)
    ∗ xPts X c ∗ wPts W c ∗ wbAny c ∗ OW c (O0 c))

theorem wp_first (c : Dev nD) :
    iprop(records X W K ιs ∗ ini X W c)
      ⊢ WP c (first xM wM c) (fun _ => iprop(known X W K ιs c ∗ TS X W c 0 ∗ wPts W c ∗ atPos ER (cell c cBar) 1 ∅ 0)) := by
  unfold ini O0
  iintro ⟨#Hrec, ⟨Hlt, Hlf⟩, Hst, ⟨Htt, Htf, Hcb, Hab⟩, Hcr, Hsg, Hx, Hw, Hwb, HO⟩
  imod (enterD X W K ιs c true) $$ [Hlt] with ⟨⟨Ht0, Ht1, Ht2, Ht3⟩, #Hut⟩
  · isplitr; · iexact Hrec
    iexact Hlt
  imod (enterD X W K ιs c false) $$ [Hlf] with ⟨⟨Hf0, Hf1, Hf2, Hf3⟩, #Huf⟩
  · isplitr; · iexact Hrec
    iexact Hlf
  imod (enterM X W K ιs c) $$ [Hst] with #He
  · isplitr; · iexact Hrec
    iexact Hst
  unfold first
  iapply (step (wp_hello X W K ιs c true _)) $$ [Htt HO]
  · isplitr; · iexact Hrec
    isplitl [Htt]; · iexact Htt
    isplitr; · iexact Hut
    iexact HO
  iintro %u0 HO
  iapply (step (wp_hello X W K ιs c false _)) $$ [Htf HO]
  · isplitr; · iexact Hrec
    isplitl [Htf]; · iexact Htf
    isplitr; · iexact Huf
    iexact HO
  iintro %u1 HO
  iapply (step (wp_heard X W K ιs c _ (OT_above c _ _ (by omega) (fun _ => by omega) (fun _ => by omega)))) $$ [Hcb HO Hab]
  · isplitr; · iexact Hrec
    isplitl [Hcb]; · iexact Hcb
    isplitl [HO]; · iexact HO
    iexact Hab
  iintro %u2 ⟨HO, Hab, #Hk3⟩
  iapply (wp_loadw W c)
  isplitl [Hw]; · iexact Hw
  iintro Hw
  iapply (wp_keepw W c _ (keep_eq (W c)))
  isplitl [Hwb]; · iexact Hwb
  iintro Hwb
  iapply (step (wp_readX X c (chunk true c 0) _ (k0_off1_inb c) (off1_chunk c))) $$ Hx
  iintro %xl ⟨%hxl, Hx⟩
  iapply (step (wp_readW W c true)) $$ Hwb
  iintro %wl ⟨%hwl, Hwb⟩
  iapply (step (wp_readX X c (chunk false c 0) _ (k0_off2_inb c) (off2_chunk c))) $$ Hx
  iintro %xr ⟨%hxr, Hx⟩
  iapply (step (wp_readW W c false)) $$ Hwb
  iintro %wr ⟨%hwr, Hwb⟩
  subst hxl; subst hwl; subst hxr; subst hwr
  iapply (wp_begin2 X W c 0)
  isplitl [Ht0 Hf0]
  · isplitl [Ht0]; · iexact Ht0
    iexact Hf0
  iintro H0
  iapply (wp_begin2 X W c 1)
  isplitl [Ht1 Hf1]
  · isplitl [Ht1]; · iexact Ht1
    iexact Hf1
  iintro H1
  iapply (wp_begin2 X W c 2)
  isplitl [Ht2 Hf2]
  · isplitl [Ht2]; · iexact Ht2
    iexact Hf2
  iintro H2
  iapply (wp_begin2 X W c 3)
  isplitl [Ht3 Hf3]
  · isplitl [Ht3]; · iexact Ht3
    iexact Hf3
  iintro H3
  iapply (wp_wand_r Idealize.ShloMosaic.frame (wpE (defs₀ (F := F)) 𝒱₀ (c : Thread nD τ) none) Set.univ)
  isplitl [H0 H1 H2 H3 HO]
  · iapply (wp_sends0 X W K ιs c)
    isplitr
    · unfold known
      isplitr; · iexact Hrec
      isplitr; · iexact He
      iexact Hk3
    isplitr [HO]
    · isplitl [H0]; · iexact H0
      isplitl [H1]; · iexact H1
      isplitl [H2]; · iexact H2
      iexact H3
    iexact HO
  iintro %u3 ⟨Hl, HO⟩
  isplitr
  · unfold known
    isplitr; · iexact Hrec
    isplitr; · iexact He
    iexact Hk3
  isplitr [Hw Hab]
  · unfold TS
    isplitl [Hl]; · iexact Hl
    isplitl [Hcr]; · iexact Hcr
    isplitl [Hsg]; · iexact Hsg
    isplitr
    · isplitr; · iexact Hut
      iexact Huf
    isplitl [Hx]; · iexact Hx
    isplitl [Hwb]; · iexact Hwb
    iexact HO
  isplitl [Hw]; · iexact Hw
  iexact Hab

/-- The turns of the rings. -/
theorem wp_turns (c : Dev nD) :
    iprop(known X W K ιs c ∗ TS X W c 0) ⊢ WP c (turns xM c) (fun _ => TS X W c 14) := by
  have h : ∀ s : Fin 14, ∀ {α : Type} (k : PUnit → Pg F α) (Q : α → sProp 𝕄),
      iprop(known X W K ιs c ∗ TS X W c s.val) ⊢ iprop((TS X W c (s.val + 1) -∗ WP c (k ⟨⟩) Q) -∗ WP c (turn xM c s >>= k) Q) := fun s α k Q => by
    iintro H Hk
    iapply (step (wp_turn X W K ιs c s)) $$ H
    iintro %u H
    iapply Hk $$ H
  unfold turns
  iintro ⟨#Hk, H⟩
  iapply (h 0) $$ [H]
  · isplitr; · iexact Hk
    iexact H
  iintro H
  iapply (h 1) $$ [H]
  · isplitr; · iexact Hk
    iexact H
  iintro H
  iapply (h 2) $$ [H]
  · isplitr; · iexact Hk
    iexact H
  iintro H
  iapply (h 3) $$ [H]
  · isplitr; · iexact Hk
    iexact H
  iintro H
  iapply (h 4) $$ [H]
  · isplitr; · iexact Hk
    iexact H
  iintro H
  iapply (h 5) $$ [H]
  · isplitr; · iexact Hk
    iexact H
  iintro H
  iapply (h 6) $$ [H]
  · isplitr; · iexact Hk
    iexact H
  iintro H
  iapply (h 7) $$ [H]
  · isplitr; · iexact Hk
    iexact H
  iintro H
  iapply (h 8) $$ [H]
  · isplitr; · iexact Hk
    iexact H
  iintro H
  iapply (h 9) $$ [H]
  · isplitr; · iexact Hk
    iexact H
  iintro H
  iapply (h 10) $$ [H]
  · isplitr; · iexact Hk
    iexact H
  iintro H
  iapply (h 11) $$ [H]
  · isplitr; · iexact Hk
    iexact H
  iintro H
  iapply (h 12) $$ [H]
  · isplitr; · iexact Hk
    iexact H
  iintro H
  iapply (wp_turn X W K ιs c 13)
  isplitr; · iexact Hk
  iexact H

end Cert.KernelIdeal.Body

end
-- ==== Proof.Finish.lean ====
/- The end of the kernel: the last turn, the two exchanges of the maxima, the rounded block; and the
   body as a whole. -/
module

public import proofs.«01_k».proof.Proof.Start

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x256 .bf16) (W : Dev nD → Vec F S256x2048 .bf16)
variable (K : Dev nD × Cid → ℕ) (ιs : Ky → ℕ)

/-! ## The last turn -/

/-- A tile after the last arrival, holding what arrived, -/
abbrev laneE (c : Dev nD) (d : Bool) (j : Fin 4) : sProp 𝕄 := iprop(lb c d j 15 15 ∗ tileIs c d 3 j (acc X W d 14 (pv d c) j))
/-- and at any contents. -/
abbrev laneZ (c : Dev nD) (d : Bool) (j : Fin 4) : sProp 𝕄 := iprop(lb c d j 15 15 ∗ tileAny c d 3 j)

theorem wp_arrive14 (c : Dev nD) (j : Fin 4) (O : CellTallies nD τ sig ℕ) (hO : Above 30 O) :
    iprop(records X W K ιs ∗ L2 c j 14 ∗ OW c O)
      ⊢ WP c (arrive 14 j) (fun _ => iprop(OW c O ∗ laneE X W c true j ∗ laneE X W c false j ∗ heardUp true (pv true c) 14)) := by
  refine (wp_arrive X W K ιs c j 14 (by decide) O hO).trans (wp_mono _ _ _ fun u => ?_)
  iintro ⟨HO, ⟨Hbt, Ht, Hh, -⟩, ⟨Hbf, Hf, -, -⟩⟩
  isplitl [HO]; · iexact HO
  isplitl [Hbt Ht]
  · isplitl [Hbt]; · iexact Hbt
    iexact Ht
  isplitl [Hbf Hf]
  · isplitl [Hbf]; · iexact Hbf
    iexact Hf
  iexact Hh

/-- The four tiles read and added to the device's own product. -/
theorem wp_last4 (c : Dev nD) (d : Bool) :
    iprop(laneE X W c d 0 ∗ laneE X W c d 1 ∗ laneE X W c d 2 ∗ laneE X W c d 3)
      ⊢ WP c (last4 d (pr X W d c 15)) (fun y => iprop(⌜y = yhalf X W d c⌝ ∗ laneZ c d 0 ∗ laneZ c d 1 ∗ laneZ c d 2 ∗ laneZ c d 3)) := by
  unfold last4
  iintro ⟨⟨Hb0, H0⟩, ⟨Hb1, H1⟩, ⟨Hb2, H2⟩, ⟨Hb3, H3⟩⟩
  iapply (step (wp_readT c d 3 0 _)) $$ H0
  iintro %a0 ⟨%h0, H0⟩
  iapply (step (wp_readT c d 3 1 _)) $$ H1
  iintro %a1 ⟨%h1, H1⟩
  iapply (step (wp_readT c d 3 2 _)) $$ H2
  iintro %a2 ⟨%h2, H2⟩
  iapply (step (wp_readT c d 3 3 _)) $$ H3
  iintro %a3 ⟨%h3, H3⟩
  simp only [WP, Prog.pure_eq_ret, wp_ret]
  imodintro
  isplitr; · ipureintro; exact total_eq X W d c a0 a1 a2 a3 h0 h1 h2 h3
  isplitl [Hb0 H0]
  · isplitl [Hb0]; · iexact Hb0
    iapply (tileIs_any c d 3 0 _) $$ H0
  isplitl [Hb1 H1]
  · isplitl [Hb1]; · iexact Hb1
    iapply (tileIs_any c d 3 1 _) $$ H1
  isplitl [Hb2 H2]
  · isplitl [Hb2]; · iexact Hb2
    iapply (tileIs_any c d 3 2 _) $$ H2
  isplitl [Hb3]; · iexact Hb3
  iapply (tileIs_any c d 3 3 _) $$ H3

/-- A ring's tiles at the end. -/
abbrev lanesZ (c : Dev nD) (d : Bool) : sProp 𝕄 := iprop(laneZ c d 0 ∗ laneZ c d 1 ∗ laneZ c d 2 ∗ laneZ c d 3)

theorem OT_end (c : Dev nD) : OT c (fun _ => 14 + 1) (fun _ => 14) = OM c 1 + OM c 0 := by
  unfold OT
  rw [Finset.sum_congr rfl fun d _ => OC_done c d (show 12 ≤ 14 by decide), Finset.sum_congr rfl fun (p : Bool × Fin 4) _ => OL_done c p.1 p.2 (show 15 ≤ 14 + 1 by decide),
    Finset.sum_const_zero, Finset.sum_const_zero, add_zero, add_zero, add_comm]

/-- The last turn: the device's block, and that every device is in its kernel. -/
theorem wp_last (c : Dev nD) :
    iprop(known X W K ιs c ∗ TS X W c 14)
      ⊢ WP c (last xM c) (fun y => iprop(⌜y = yblk X W c⌝ ∗ (lanesZ c true ∗ lanesZ c false) ∗ (credSt c true 12 ∗ credSt c false 12) ∗ xPts X c ∗ wbPts W c
          ∗ heardUp true c 15 ∗ OW c (OM c 1 + OM c 0))) := by
  unfold last TS
  rw [OT_end]
  have hO : Above 30 (OM c 1 + OM c 0) := (OM_above c 1 (by decide)).add (OM_above c 0 (by decide))
  have hj := fun j : Fin 4 => wp_arrive14 X W K ιs c j _ hO
  unfold known
  iintro ⟨⟨#Hrec, #He, -⟩, ⟨Hl0, Hl1, Hl2, Hl3⟩, Hcr, -, -, Hx, Hw, HO⟩
  iapply (step (wp_readX X c (chunk true c 15) _ (k0_off5_inb c) (off5_chunk true c))) $$ Hx
  iintro %xl ⟨%hxl, Hx⟩
  iapply (step (wp_readW W c true)) $$ Hw
  iintro %wl ⟨%hwl, Hw⟩
  iapply (step (wp_readX X c (chunk false c 15) _ (k0_off5_inb c) (off5_chunk false c))) $$ Hx
  iintro %xr ⟨%hxr, Hx⟩
  iapply (step (wp_readW W c false)) $$ Hw
  iintro %wr ⟨%hwr, Hw⟩
  subst hxl; subst hwl; subst hxr; subst hwr
  iapply (step (hj 0)) $$ [Hl0 HO]
  · isplitr; · iexact Hrec
    isplitl [Hl0]; · iexact Hl0
    iexact HO
  iintro %u0 ⟨HO, Ht0, Hf0, #Hh⟩
  iapply (step (hj 1)) $$ [Hl1 HO]
  · isplitr; · iexact Hrec
    isplitl [Hl1]; · iexact Hl1
    iexact HO
  iintro %u1 ⟨HO, Ht1, Hf1, -⟩
  iapply (step (hj 2)) $$ [Hl2 HO]
  · isplitr; · iexact Hrec
    isplitl [Hl2]; · iexact Hl2
    iexact HO
  iintro %u2 ⟨HO, Ht2, Hf2, -⟩
  iapply (step (hj 3)) $$ [Hl3 HO]
  · isplitr; · iexact Hrec
    isplitl [Hl3]; · iexact Hl3
    iexact HO
  iintro %u3 ⟨HO, Ht3, Hf3, -⟩
  iapply (step (wp_last4 X W c true)) $$ [Ht0 Ht1 Ht2 Ht3]
  · isplitl [Ht0]; · iexact Ht0
    isplitl [Ht1]; · iexact Ht1
    isplitl [Ht2]; · iexact Ht2
    iexact Ht3
  iintro %yl ⟨%hyl, Ht⟩
  iapply (step (wp_last4 X W c false)) $$ [Hf0 Hf1 Hf2 Hf3]
  · isplitl [Hf0]; · iexact Hf0
    isplitl [Hf1]; · iexact Hf1
    isplitl [Hf2]; · iexact Hf2
    iexact Hf3
  iintro %yr ⟨%hyr, Hf⟩
  simp only [WP, Prog.pure_eq_ret, wp_ret]
  imodintro
  isplitr; · ipureintro; unfold yblk; rw [hyl, hyr]
  isplitl [Ht Hf]
  · isplitl [Ht]; · iexact Ht
    iexact Hf
  isplitl [Hcr]; · iexact Hcr
  isplitl [Hx]; · iexact Hx
  isplitl [Hw]; · iexact Hw
  isplitr
  · iapply (heard_next true c 14)
    isplitr; · iexact Hh
    iexact He
  iexact HO

/-! ## The maximum tile -/

theorem amax_split (c : Dev nD) (q : PosShare TreeShare) (v : Vec F S8x128 .f32) :
    amaxPts c q v ⊢ iprop(amaxPts c q.left v ∗ amaxPts c q.right v) :=
  (pointsTo_share (PosShare.mem_left_op_right q)).1
theorem amax_join (c : Dev nD) (q : PosShare TreeShare) (v : Vec F S8x128 .f32) :
    iprop(amaxPts c q.left v ∗ amaxPts c q.right v) ⊢ amaxPts c q v :=
  (pointsTo_share (PosShare.mem_left_op_right q)).2

theorem amaxPts_eq (c : Dev nD) (q : PosShare TreeShare) (v : Vec F S8x128 .f32) :
    amaxPts c q v = ((c : Thread nD τ).loc cc0_scratch9 ↦{q} v : sProp 𝕄) := by
  have e : (amaxM : Memref sig .tc .vmem S8x128 .f32).view.set = Finset.univ := View.set_whole _
  unfold amaxPts; rw [e]

theorem wp_readM (c : Dev nD) (q : PosShare TreeShare) (v : Vec F S8x128 .f32) :
    amaxPts c q v ⊢ WP c readM (fun a => iprop(⌜a = v⌝ ∗ amaxPts c q v)) := by
  unfold readM
  rw [amaxPts_eq]
  simp only [Prog.lift]
  iintro H
  iapply (wp_load_rect 𝒱₀ (c : Thread nD τ) none Set.univ (m := amaxM) (r := Rect.unit (s := S8x128) ![0, 0] S8x128.size inb_S8x128_S8x128_0_0) (S := Finset.univ) (f := v) (Finset.subset_univ _)) $$ [H]
  · iexact H
  iintro H
  simp only [WP, wp_ret]
  imodintro
  isplitr
  · ipureintro; exact Memref.readAt_unit_zero (Elt F) cc0_scratch9 (funext fun a => by revert a; decide) _ v
  iexact H
theorem wp_writeM (c : Dev nD) (v v' : Vec F S8x128 .f32) :
    amaxPts c fullShare v ⊢ WP c (writeM v') (fun _ => amaxPts c fullShare v') := by
  unfold writeM
  rw [amaxPts_eq, amaxPts_eq]
  simp only [Prog.lift]
  iintro H
  iapply (wp_store 𝒱₀ (c : Thread nD τ) none Set.univ (m := amaxM) (r := Rect.unit (s := S8x128) ![0, 0] S8x128.size inb_S8x128_S8x128_0_0) (Mk := Finset.univ) (S := Finset.univ) (f := v) (Finset.subset_univ _)) $$ [H]
  · iexact H
  have e : (amaxM.access (Rect.unit (s := S8x128) ![0, 0] S8x128.size inb_S8x128_S8x128_0_0)).write (Elt F) v v' Finset.univ = v' :=
    Memref.write_access_unit_zero_univ (Elt F) cc0_scratch9 (funext fun a => by revert a; decide) _ v v'
  rw [e]
  iintro H
  simp only [WP, wp_ret]
  imodintro
  iexact H

/-! ## One partner -/

theorem stage_set (k : Fin 2) (i : Fin 3) : (stageM k i).view.set = ((Memref.whole cc0_scratch10).access (stageR k i)).set := View.set_reshape _ _
theorem stagePts_eq (c : Dev nD) (k : Fin 2) (i : Fin 3) (f : Buf (Elt F) ((stageM k i).view.loc (c : Thread nD τ))) :
    ((stageM k i).view.loc (c : Thread nD τ) ↦[(stageM k i).view.set]{fullShare} f : sProp 𝕄)
      = (((Memref.whole cc0_scratch10).access (stageR k i)).loc (c : Thread nD τ) ↦[((Memref.whole cc0_scratch10).access (stageR k i)).set]{fullShare} f) := by
  rw [stage_set]; rfl
theorem stageIs_any (c : Dev nD) (k : Fin 2) (i : Fin 3) (v : Vec F S8x128 .f32) : stageIs c k i v ⊢ stageAny c k i := by
  unfold stageIs stageAny Release.slot
  iintro ⟨%f, -, H⟩
  iexists f; iexact H
theorem wp_readB (c : Dev nD) (k : Fin 2) (i : Fin 3) (v : Vec F S8x128 .f32) :
    stageIs c k i v ⊢ WP c (readB k i) (fun a => iprop(⌜shapeCast S8x128 a shapeCasts_S1x1x8x128_S8x128 = v⌝ ∗ stageAny c k i)) := by
  unfold stageIs stageAny Release.slot readB
  simp only [Prog.lift]
  iintro ⟨%f, %hf, H⟩
  ihave H := (Entails.of_eq (stagePts_eq c k i f)) $$ H
  iapply (wp_load_rect 𝒱₀ (c : Thread nD τ) none Set.univ (m := Memref.whole cc0_scratch10) (r := stageR k i) (f := f) (subset_refl _)) $$ [H]
  · iexact H
  iintro H
  ihave H := (Entails.of_eq (stagePts_eq c k i f).symm) $$ H
  simp only [WP, wp_ret]
  imodintro
  isplitr
  · ipureintro; exact hf
  iexists f
  iexact H

/-- What a device holds for a partner before the exchange, -/
def exch0 (c : Dev nD) (k : Fin 2) (i : Fin 3) : sProp 𝕄 :=
  iprop(atPos ER (cell c (cSendM k i)) 0 ∅ 0 ∗ atPos ER (cell c (cRecvM k i)) 0 ∅ 0 ∗ cred (tallyAt (cell c (cRecvM k i)) 0 NM)
    ∗ dutyTok ER (cell c (cSendM k i)) 0 0 ∗ dutyTok ER (cell (partner k i c) (cRecvM k i)) 0 0 ∗ Release.writeTok ES (keyM (partner k i c) k i) 1)
/-- during it, -/
def exchM (c : Dev nD) (k : Fin 2) (i : Fin 3) : sProp 𝕄 :=
  iprop(atPos ER (cell c (cSendM k i)) 0 ∅ 0 ∗ atPos ER (cell c (cRecvM k i)) 0 ∅ 0 ∗ cred (tallyAt (cell c (cRecvM k i)) 0 NM) ∗ cred (tallyAt (cell c (cSendM k i)) 0 NM))
/-- and after it. -/
def exch1 (c : Dev nD) (k : Fin 2) (i : Fin 3) : sProp 𝕄 :=
  iprop(atPos ER (cell c (cSendM k i)) 1 ∅ 0 ∗ atPos ER (cell c (cRecvM k i)) 1 ∅ 0 ∗ stageAny c k i)

theorem entered_all (c p : Dev nD) : heardUp (F := F) true c 15 ⊢ entered p :=
  bigSep_elim (Φ := fun p => entered (F := F) p) (backs_all true c p)
theorem entered_key (p : Dev nD) (k : Fin 2) (i : Fin 3) : entered (F := F) p ⊢ Release.released ES (keyM p k i) 1 :=
  bigSep_elim (Φ := fun k : Fin 2 × Fin 3 => Release.released (ES : Emb US 𝕄) (keyM p k.1 k.2) 1) (Finset.mem_univ (k, i))

theorem wp_sendM (c : Dev nD) (k : Fin 2) (i : Fin 3) (O : CellTallies nD τ sig ℕ) :
    iprop(records X W K ιs ∗ heardUp true c 15 ∗ amaxPts c (sh i) (amx X W k.val c) ∗ exch0 c k i ∗ OW c (O + tallyAt (cell (partner k i c) (cRecvM k i)) 0 NM))
      ⊢ WP c (sendM c k i) (fun _ => iprop(exchM c k i ∗ OW c O)) := by
  unfold sendM OW exch0 exchM
  simp only [Prog.lift]
  iintro ⟨#Hrec, #Hh, Hsrc, ⟨HaS, HaR, HcR, HtS, HtR, Hw⟩, ⟨%V, HO⟩⟩
  imod (Release.slot_take ES (Set.mem_univ (ιs (keyM (partner k i c) k i))) 1) $$ [Hw] with Hdst
  · isplitr; · iapply (rec_slot X W K ιs (keyM (partner k i c) k i)) $$ Hrec
    isplitr; · iapply ((entered_all c (partner k i c)).trans (entered_key (partner k i c) k i)) $$ Hh
    iexact Hw
  ihave Hdst := (Entails.of_eq (show slotOf (F := F) (keyM (partner k i c) k i) = stageAny (partner k i c) k i from rfl)) $$ Hdst
  unfold stageAny Release.slot
  icases Hdst with ⟨%fd, Hdst⟩
  have h1 : (amaxM.view.loc (c : Thread nD τ) ↦[amaxM.view.set]{sh i} (amx X W k.val c) : sProp 𝕄)
      ⊢ (Rd X W).payload (cell c (cSendM k i)) 0 0 := by
    rw [Rd_payload]; exact Entails.rfl
  have h2 : iprop(((stageM k i).view.loc (partner k i c : Thread nD τ) ↦[(stageM k i).view.set]{fullShare}
        ((stageM k i).view.write (Elt F) fd (amaxM.view.read (Elt F) (amx X W k.val c)) Finset.univ)) ∗ emp)
      ⊢ (Rd X W).payload (cell (partner k i c) (cRecvM k i)) 0 0 := by
    rw [Rd_payload]
    show _ ⊢ stageIs (partner k i c) k i (amx X W k.val (partner k i (partner k i c)))
    rw [partner_partner]
    unfold stageIs
    iintro ⟨H, -⟩
    iexists _
    isplitr
    · ipureintro
      exact View.read_write_univ (v := (stageM k i).view) (Val := Elt F) fd _
    iexact H
  iapply (Rounds.wp_send_pointsTo_with 𝒱₀ ER (Rd X W) (c : Thread nD τ) none (c' := (partner k i c : Thread nD τ)) (src := amaxM) (dst := stageM k i)
      (sS := .dma (bsemAt cc0_scratch11 k i)) (sem := .dma (bsemAt cc0_scratch12 k i))
      (κ₁ := K (c, cSendM k i)) (κ₂ := K (partner k i c, cRecvM k i)) (r₁ := 0) (r₂ := 0) (d₁ := 0) (d₂ := 0) (fs := amx X W k.val c) (fd := fd)
      (F := iprop(emp))
      (by rw [show (((c : Thread nD τ), SemLoc.dma (bsemAt cc0_scratch11 k i)) : GSem nD τ sig) = cell c (cSendM k i) from rfl, Rd_duties]; exact Finset.mem_singleton_self _)
      (by rw [show (((partner k i c : Dev nD) : Thread nD τ), SemLoc.dma (bsemAt cc0_scratch12 k i)) = cell (partner k i c) (cRecvM k i) from rfl, Rd_duties]; exact Finset.mem_singleton_self _)
      0 0 NM (stage_credit k i) (Rd_amount X W c (cSendM k i) _ _) (Rd_amount X W (partner k i c) (cRecvM k i) _ _) O rfl (W := V)
      (q := sh i) h1 h2) $$ [Hsrc Hdst HO HtS HtR]
  · isplitr; · iapply (rec_cell X W K ιs c (cSendM k i)) $$ Hrec
    isplitr; · iapply (rec_cell X W K ιs (partner k i c) (cRecvM k i)) $$ Hrec
    isplitl [Hsrc]
    · iapply (Entails.of_eq (show amaxPts c (sh i) (amx X W k.val c) = (amaxM.view.loc (c : Thread nD τ) ↦[amaxM.view.set]{sh i} (amx X W k.val c) : sProp 𝕄) from rfl)) $$ Hsrc
    isplitl [Hdst]
    · isplitl [Hdst]; · iexact Hdst
      iempintro
    isplitl [HO]; · iexact HO
    isplitl [HtS]; · iexact HtS
    isplitr; · iapply (rec_reached X W K ιs c (cSendM k i)) $$ Hrec
    isplitl [HtR]; · iexact HtR
    iapply (rec_reached X W K ιs (partner k i c) (cRecvM k i)) $$ Hrec
  · iintro ⟨Hc, HO⟩
    simp only [WP, wp_ret]
    imodintro
    isplitr [HO]
    · isplitl [HaS]; · iexact HaS
      isplitl [HaR]; · iexact HaR
      isplitl [HcR]; · iexact HcR
      iexact Hc
    iexists V; iexact HO

/-- A partner is met: the device's own maximum has left and the partner's has come. -/
theorem wp_meet (c : Dev nD) (k : Fin 2) (i : Fin 3) (O : CellTallies nD τ sig ℕ) (hO : Above (100 + k.val) O) :
    iprop(records X W K ιs ∗ exchM c k i ∗ OW c O)
      ⊢ WP c (meet k i) (fun a => iprop(⌜shapeCast S8x128 a shapeCasts_S1x1x8x128_S8x128 = amx X W k.val (partner k i c)⌝ ∗ amaxPts c (sh i) (amx X W k.val c) ∗ exch1 c k i ∗ OW c O)) := by
  have hO0 : Above 0 O := fun g i h => ⟨(hO g i h).1, by have := (hO g i h).2; omega⟩
  unfold meet sentM gotM exchM exch1
  simp only [Prog.lift, Prog.bind_op, Prog.bind_ret]
  iintro ⟨#Hrec, ⟨HaS, HaR, HcR, HcS⟩, HO⟩
  iapply (wp_round X W K ιs c (cSendM k i) 0 NM 0 O _ _ (by rw [← amax_credit]; exact wpE_waitDma2_eq 𝒱₀ (c : Thread nD τ) none Set.univ)
    (show NM = Finset.card {0} * NM by rw [Finset.card_singleton, one_mul]) (by decide) hO0) $$ [HcS HO HaS]
  · isplitr; · iexact Hrec
    isplitl [HcS]; · iexact HcS
    isplitl [HO]; · iexact HO
    iexact HaS
  iintro ⟨HO, HaS, -, Hp⟩
  ihave Hp := (Entails.of_eq (show bigSep (dts (cSendM k i) 0) (fun n => pay X W c (cSendM k i) 0 n) = amaxPts c (sh i) (amx X W k.val c) from bigSep_singleton)) $$ Hp
  iapply (wp_round X W K ιs c (cRecvM k i) 0 NM 0 O _ _ (by rw [← stage_credit k i]; exact wpE_waitDma2_eq 𝒱₀ (c : Thread nD τ) none Set.univ)
    (show NM = Finset.card {0} * NM by rw [Finset.card_singleton, one_mul]) (by decide) hO) $$ [HcR HO HaR]
  · isplitr; · iexact Hrec
    isplitl [HcR]; · iexact HcR
    isplitl [HO]; · iexact HO
    iexact HaR
  iintro ⟨HO, HaR, -, Hq⟩
  ihave Hq := (Entails.of_eq (show bigSep (dts (cRecvM k i) 0) (fun n => pay X W c (cRecvM k i) 0 n) = stageIs c k i (amx X W k.val (partner k i c)) from bigSep_singleton)) $$ Hq
  iapply (wp_wand_r Idealize.ShloMosaic.frame (wpE (defs₀ (F := F)) 𝒱₀ (c : Thread nD τ) none) Set.univ)
  isplitl [Hq]; · iapply (wp_readB c k i _) $$ Hq
  iintro %a ⟨%ha, Hq⟩
  isplitr; · ipureintro; exact ha
  isplitl [Hp]; · iexact Hp
  isplitr [HO]
  · isplitl [HaS]; · iexact HaS
    isplitl [HaR]; · iexact HaR
    iexact Hq
  iexact HO

theorem amx_succ (k : Fin 2) (c : Dev nD) :
    amx X W (k.val + 1) c = mx4 (amx X W k.val c) (amx X W k.val (partner k 0 c)) (amx X W k.val (partner k 1 c)) (amx X W k.val (partner k 2 c)) :=
  match k with
  | 0 => by show amx X W 1 c = mx4 (amx X W 0 _) (amx X W 0 _) (amx X W 0 _) (amx X W 0 _); simp only [amx_zero, amx_one]; rfl
  | 1 => by show amx X W 2 c = mx4 (amx X W 1 _) (amx X W 1 _) (amx X W 1 _) (amx X W 1 _); simp only [amx_one, amx_two]; rfl

/-- An exchange. -/
theorem wp_exchange (c : Dev nD) (k : Fin 2) (O : CellTallies nD τ sig ℕ) (hO : Above (100 + k.val) O) :
    iprop(records X W K ιs ∗ heardUp true c 15 ∗ amaxPts c fullShare (amx X W k.val c) ∗ (exch0 c k 0 ∗ exch0 c k 1 ∗ exch0 c k 2) ∗ OW c (O + OM c k))
      ⊢ WP c (exchange c k) (fun _ => iprop(amaxPts c fullShare (amx X W (k.val + 1) c) ∗ (exch1 c k 0 ∗ exch1 c k 1 ∗ exch1 c k 2) ∗ OW c O)) := by
  have e : O + OM c k = O + tallyAt (cell (partner k 2 c) (cRecvM k 2)) 0 NM + tallyAt (cell (partner k 1 c) (cRecvM k 1)) 0 NM
      + tallyAt (cell (partner k 0 c) (cRecvM k 0)) 0 NM := by unfold OM; ac_rfl
  rw [e]
  unfold exchange
  iintro ⟨#Hrec, #Hh, Ha, ⟨H0, H1, H2⟩, HO⟩
  ihave HH := (amax_split c _ _) $$ Ha
  icases HH with ⟨HL, HR⟩
  ihave HH := (amax_split c _ _) $$ HL
  icases HH with ⟨Ha0, Ha1⟩
  ihave HH := (amax_split c _ _) $$ HR
  icases HH with ⟨Ha2, Ha3⟩
  iapply (step (wp_sendM X W K ιs c k 0 _)) $$ [Ha0 H0 HO]
  · isplitr; · iexact Hrec
    isplitr; · iexact Hh
    isplitl [Ha0]; · iexact Ha0
    isplitl [H0]; · iexact H0
    iexact HO
  iintro %u0 ⟨H0, HO⟩
  iapply (step (wp_sendM X W K ιs c k 1 _)) $$ [Ha1 H1 HO]
  · isplitr; · iexact Hrec
    isplitr; · iexact Hh
    isplitl [Ha1]; · iexact Ha1
    isplitl [H1]; · iexact H1
    iexact HO
  iintro %u1 ⟨H1, HO⟩
  iapply (step (wp_sendM X W K ιs c k 2 _)) $$ [Ha2 H2 HO]
  · isplitr; · iexact Hrec
    isplitr; · iexact Hh
    isplitl [Ha2]; · iexact Ha2
    isplitl [H2]; · iexact H2
    iexact HO
  iintro %u2 ⟨H2, HO⟩
  iapply (step (wp_readM c _ _)) $$ Ha3
  iintro %a ⟨%ha, Ha3⟩
  iapply (step (wp_meet X W K ιs c k 0 O hO)) $$ [H0 HO]
  · isplitr; · iexact Hrec
    isplitl [H0]; · iexact H0
    iexact HO
  iintro %b0 ⟨%hb0, Ha0, H0, HO⟩
  iapply (step (wp_meet X W K ιs c k 1 O hO)) $$ [H1 HO]
  · isplitr; · iexact Hrec
    isplitl [H1]; · iexact H1
    iexact HO
  iintro %b1 ⟨%hb1, Ha1, H1, HO⟩
  iapply (step (wp_meet X W K ιs c k 2 O hO)) $$ [H2 HO]
  · isplitr; · iexact Hrec
    isplitl [H2]; · iexact H2
    iexact HO
  iintro %b2 ⟨%hb2, Ha2, H2, HO⟩
  ihave HL := (amax_join c fullShare.left _) $$ [Ha0 Ha1]
  · isplitl [Ha0]; · iexact Ha0
    iexact Ha1
  ihave HR := (amax_join c fullShare.right _) $$ [Ha2 Ha3]
  · isplitl [Ha2]; · iexact Ha2
    iexact Ha3
  ihave Ha := (amax_join c fullShare _) $$ [HL HR]
  · isplitl [HL]; · iexact HL
    iexact HR
  iapply (step (wp_readM c _ _)) $$ Ha
  iintro %a' ⟨-, Ha⟩
  iapply (wp_wand_r Idealize.ShloMosaic.frame (wpE (defs₀ (F := F)) 𝒱₀ (c : Thread nD τ) none) Set.univ)
  isplitl [Ha]; · iapply (wp_writeM c _ _) $$ Ha
  iintro %u3 Ha
  rw [max4_eq a b0 b1 b2 _ _ _ hb0 hb1 hb2, ha, ← amx_succ]
  isplitl [Ha]; · iexact Ha
  isplitr [HO]
  · isplitl [H0]; · iexact H0
    isplitl [H1]; · iexact H1
    iexact H2
  iexact HO

/-! ## The result -/

/-- The staged result at any contents, -/
def oAny (c : Dev nD) : sProp 𝕄 := iprop(∃ f : Vec F S256x2048 .f32, (c : Thread nD τ).loc cc0_stg2_0 ↦{fullShare} f)
/-- and as the kernel leaves it. -/
def oPts (c : Dev nD) : sProp 𝕄 := (c : Thread nD τ).loc cc0_stg2_0 ↦{fullShare} outv X W c
/-- The maximum tile at any contents. -/
def amaxAny (c : Dev nD) : sProp 𝕄 := iprop(∃ v : Vec F S8x128 .f32, amaxPts c fullShare v)

/-- All partners. -/
abbrev all0 (c : Dev nD) : sProp 𝕄 := iprop((exch0 c 0 0 ∗ exch0 c 0 1 ∗ exch0 c 0 2) ∗ (exch0 c 1 0 ∗ exch0 c 1 1 ∗ exch0 c 1 2))
abbrev all1 (c : Dev nD) : sProp 𝕄 := iprop((exch1 c 0 0 ∗ exch1 c 0 1 ∗ exch1 c 0 2) ∗ (exch1 c 1 0 ∗ exch1 c 1 1 ∗ exch1 c 1 2))

theorem wp_finish (c : Dev nD) :
    iprop(records X W K ιs ∗ heardUp true c 15 ∗ amaxAny c ∗ oAny c ∗ all0 c ∗ OW c (OM c 1 + OM c 0))
      ⊢ WP c (finish oM c (yblk X W c)) (fun _ => iprop(amaxAny c ∗ oPts X W c ∗ all1 c ∗ OW c 0)) := by
  unfold finish amaxAny oAny oPts
  iintro ⟨#Hrec, #Hh, ⟨%v, Ha⟩, ⟨%f, Ho⟩, ⟨H0, H1⟩, HO⟩
  iapply (step (wp_readM c _ _)) $$ Ha
  iintro %a ⟨-, Ha⟩
  iapply (step (wp_writeM c _ _)) $$ Ha
  iintro %u Ha
  rw [show blockMax (yblk X W c) = amx X W (0 : Fin 2).val c from ((amx_zero X W c).trans rfl).symm]
  iapply (step (wp_exchange X W K ιs c 0 (OM c 1) (OM_above c 1 (by decide)))) $$ [Ha H0 HO]
  · isplitr; · iexact Hrec
    isplitr; · iexact Hh
    isplitl [Ha]; · iexact Ha
    isplitl [H0]; · iexact H0
    iexact HO
  iintro %u0 ⟨Ha, H0, HO⟩
  iapply (step (wp_exchange X W K ιs c 1 0 (Above.zero _))) $$ [Ha H1 HO]
  · isplitr; · iexact Hrec
    isplitr; · iexact Hh
    isplitl [Ha]; · iexact Ha
    isplitl [H1]; · iexact H1
    rw [zero_add]; iexact HO
  iintro %u1 ⟨Ha, H1, HO⟩
  ihave Ha := (Entails.of_eq (amaxPts_eq c fullShare _)) $$ Ha
  simp only [Prog.lift, Prog.bind_op, Prog.bind_ret]
  iapply (wp_load_rect 𝒱₀ (c : Thread nD τ) none Set.univ (m := amaxM) (r := Rect.unit (s := S8x128) ![0, 0] S1x1.size inb_S8x128_S1x1_0_0) (S := Finset.univ) (f := amx X W 2 c) (Finset.subset_univ _)) $$ [Ha]
  · iexact Ha
  iintro Ha
  iapply (wp_load_rect 𝒱₀ (c : Thread nD τ) none Set.univ (m := oM) (r := Rect.unit (s := S256x2048) ![0, 0] S256x2048.size inb_S256x2048_S256x2048_0_0) (S := Finset.univ) (f := f) (Finset.subset_univ _)) $$ [Ho]
  · iexact Ho
  iintro Ho
  iapply (wp_store 𝒱₀ (c : Thread nD τ) none Set.univ (m := oM) (r := Rect.unit (s := S256x2048) ![0, 0] S256x2048.size inb_S256x2048_S256x2048_0_0) (Mk := Finset.univ) (S := Finset.univ) (f := f) (Finset.subset_univ _)) $$ [Ho]
  · iexact Ho
  have e : (oM.access (Rect.unit (s := S256x2048) ![0, 0] S256x2048.size inb_S256x2048_S256x2048_0_0)).write (Elt F) f (outv X W c) Finset.univ = outv X W c :=
    Memref.write_access_unit_zero_univ (Elt F) cc0_stg2_0 (funext fun a => by revert a; decide) _ f (outv X W c)
  iintro Ho
  ihave Ho := (Entails.of_eq (congrArg (fun v : Vec F S256x2048 .f32 => ((c : Thread nD τ).loc cc0_stg2_0 ↦{fullShare} v : sProp 𝕄)) e)) $$ [Ho]
  · iexact Ho
  simp only [WP, wp_ret]
  imodintro
  isplitl [Ha]
  · iexists _
    iapply (Entails.of_eq (amaxPts_eq c fullShare _).symm) $$ Ha
  isplitl [Ho]; · iexact Ho
  isplitl [H0 H1]
  · isplitl [H0]; · iexact H0
    iexact H1
  iexact HO

/-! ## The body -/

/-- What a device holds when its kernel begins, -/
def begins (c : Dev nD) : sProp 𝕄 := iprop(ini X W c ∗ amaxAny c ∗ oAny c ∗ all0 c)
/-- and when it ends. -/
def ends (c : Dev nD) : sProp 𝕄 :=
  iprop((lanesZ c true ∗ lanesZ c false) ∗ (credSt c true 12 ∗ credSt c false 12) ∗ atPos ER (cell c cBar) 1 ∅ 0 ∗ all1 c
    ∗ xPts X c ∗ wPts W c ∗ wbPts W c ∗ amaxAny c ∗ oPts X W c ∗ OW c 0)

/-- The body of the kernel on any device. -/
theorem wp_body (c : Dev nD) :
    iprop(records X W K ιs ∗ begins X W c) ⊢ WP c (body xM wM oM) (fun _ => iprop(records X W K ιs ∗ ends X W c)) := by
  unfold body begins ends
  simp only [Prog.lift, Prog.bind_op, Prog.bind_ret, WP, wp_deviceId]
  iintro ⟨#Hrec, Hi, Ha, Ho, Hex⟩
  iapply (step (wp_first X W K ιs c)) $$ [Hi]
  · isplitr; · iexact Hrec
    iexact Hi
  iintro %u ⟨#Hk, Ht, Hw, Hb⟩
  iapply (step (wp_turns X W K ιs c)) $$ [Ht]
  · isplitr; · iexact Hk
    iexact Ht
  iintro %u1 Ht
  iapply (step (wp_last X W K ιs c)) $$ [Ht]
  · isplitr; · iexact Hk
    iexact Ht
  iintro %y ⟨%hy, Hl, Hcr, Hx, Hwb, #Hh, HO⟩
  subst hy
  iapply (wp_wand_r Idealize.ShloMosaic.frame (wpE (defs₀ (F := F)) 𝒱₀ (c : Thread nD τ) none) Set.univ)
  isplitl [Ha Ho Hex HO]
  · iapply (wp_finish X W K ιs c)
    isplitr; · iexact Hrec
    isplitr; · iexact Hh
    isplitl [Ha]; · iexact Ha
    isplitl [Ho]; · iexact Ho
    isplitl [Hex]; · iexact Hex
    iexact HO
  iintro %u2 ⟨Ha, Ho, Hex, HO⟩
  isplitr; · iexact Hrec
  isplitl [Hl]; · iexact Hl
  isplitl [Hcr]; · iexact Hcr
  isplitl [Hb]; · iexact Hb
  isplitl [Hex]; · iexact Hex
  isplitl [Hx]; · iexact Hx
  isplitl [Hw]; · iexact Hw
  isplitl [Hwb]; · iexact Hwb
  isplitl [Ha]; · iexact Ha
  isplitl [Ho]; · iexact Ho
  iexact HO

end Cert.KernelIdeal.Body

end
-- ==== Proof.Places.lean ====
/- The buffers cut into the landing places of the tiles and of the maxima, and put together again. -/
module

public import proofs.«01_k».proof.Proof.Finish
public import Idealize.ShloMosaic.Lib.Ring

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- Elements at some contents are elements at any contents; -/
theorem pts_any {ℓ : Loc nD τ sig} {B : Type} [Fintype B] (I : B → Finset (Idx ℓ)) (f : Buf (Elt F) ℓ) :
    (bigSep Finset.univ fun b => (ℓ ↦[I b]{fullShare} f : sProp 𝕄)) ⊢ bigSep Finset.univ fun b => iprop(∃ f : Buf (Elt F) ℓ, ℓ ↦[I b]{fullShare} f) :=
  bigSep_mono fun b _ => show (ℓ ↦[I b]{fullShare} f : sProp 𝕄) ⊢ iprop(∃ f : Buf (Elt F) ℓ, ℓ ↦[I b]{fullShare} f) from by iintro H; iexists f; iexact H
/-- so a buffer is its blocks, each at any contents. -/
theorem blocks_any {ℓ : Loc nD τ sig} {B : Type} [Fintype B] (I : B → Finset (Idx ℓ))
    (hd : ∀ b b', b ≠ b' → Disjoint (I b) (I b')) (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  ihave H := (Entails.of_eq (Ring.pointsTo_blocks I hd hc f)) $$ H
  iapply (pts_any I f) $$ H

/-! ## The tiles of a ring's buffer -/

/-- The elements of tile `j` of slot `σ`. -/
abbrev tset (p : Fin 4 × Fin 4) : Finset S4x4x256x256.Idx := (tileR p.1 p.2).set

theorem mem_tset (p : Fin 4 × Fin 4) (x : S4x4x256x256.Idx) : x ∈ tset p ↔ (x 0).val = p.1.val ∧ (x 1).val = p.2.val := by
  obtain ⟨σ, j⟩ := p
  rw [Rect.mem_set_unit]
  have h2 : (x 2).val < 256 := (x 2).isLt
  have h3 : (x 3).val < 256 := (x 3).isLt
  constructor
  · intro h
    have a0 : σ.val ≤ (x 0).val ∧ (x 0).val < σ.val + 1 := h 0
    have a1 : j.val ≤ (x 1).val ∧ (x 1).val < j.val + 1 := h 1
    exact ⟨by show (x 0).val = σ.val; omega, by show (x 1).val = j.val; omega⟩
  · rintro ⟨e0, e1⟩ a
    change (x 0).val = σ.val at e0
    change (x 1).val = j.val at e1
    match a with
    | ⟨0, _⟩ => exact ⟨Nat.le_of_eq e0.symm, Nat.lt_succ_of_le (Nat.le_of_eq e0)⟩
    | ⟨1, _⟩ => exact ⟨Nat.le_of_eq e1.symm, Nat.lt_succ_of_le (Nat.le_of_eq e1)⟩
    | ⟨2, _⟩ => exact ⟨Nat.zero_le _, Nat.lt_of_lt_of_le h2 (Nat.le_add_left _ _)⟩
    | ⟨3, _⟩ => exact ⟨Nat.zero_le _, Nat.lt_of_lt_of_le h3 (Nat.le_add_left _ _)⟩

theorem tset_disjoint (p p' : Fin 4 × Fin 4) (h : p ≠ p') : Disjoint (tset p) (tset p') := by
  rw [Finset.disjoint_left]
  intro x hx hx'
  rw [mem_tset] at hx hx'
  exact h (Prod.ext (Fin.ext (hx.1.symm.trans hx'.1)) (Fin.ext (hx.2.symm.trans hx'.2)))

theorem tset_cover : Finset.univ.biUnion tset = Finset.univ := by
  ext x
  simp only [Finset.mem_biUnion, Finset.mem_univ, true_and, iff_true]
  exact ⟨(x 0, x 1), (mem_tset _ x).mpr ⟨rfl, rfl⟩⟩

theorem tile_tset (d : Bool) (σ j : Fin 4) : HEq (tile d σ j).view.set (tset (σ, j)) := by
  cases d
  · exact heq_of_eq ((View.set_reshape _ _).trans (View.set_slice_whole cc0_scratch2 (tileR σ j)))
  · exact heq_of_eq ((View.set_reshape _ _).trans (View.set_slice_whole cc0_scratch1 (tileR σ j)))

/-- A ring's buffer, whole at any contents. -/
def ringAny (c : Dev nD) : Bool → sProp 𝕄
  | true => iprop(∃ f : Buf (Elt F) ((c : Thread nD τ).loc cc0_scratch1), ((c : Thread nD τ).loc cc0_scratch1) ↦{fullShare} f)
  | false => iprop(∃ f : Buf (Elt F) ((c : Thread nD τ).loc cc0_scratch2), ((c : Thread nD τ).loc cc0_scratch2) ↦{fullShare} f)

theorem tileAny_true (c : Dev nD) (p : Fin 4 × Fin 4) :
    tileAny (F := F) c true p.1 p.2 = iprop(∃ f : Buf (Elt F) ((c : Thread nD τ).loc cc0_scratch1), ((c : Thread nD τ).loc cc0_scratch1) ↦[tset p]{fullShare} f) := by
  have h : (tile true p.1 p.2).view.set = tset p := eq_of_heq (tile_tset true p.1 p.2)
  unfold tileAny Release.slot; rw [h]; rfl
theorem tileAny_false (c : Dev nD) (p : Fin 4 × Fin 4) :
    tileAny (F := F) c false p.1 p.2 = iprop(∃ f : Buf (Elt F) ((c : Thread nD τ).loc cc0_scratch2), ((c : Thread nD τ).loc cc0_scratch2) ↦[tset p]{fullShare} f) := by
  have h : (tile false p.1 p.2).view.set = tset p := eq_of_heq (tile_tset false p.1 p.2)
  unfold tileAny Release.slot; rw [h]; rfl

/-- A ring's buffer is its sixteen tiles; -/
theorem ring_split (c : Dev nD) (d : Bool) : ringAny (F := F) c d ⊢ bigSep Finset.univ fun p : Fin 4 × Fin 4 => tileAny c d p.1 p.2 := by
  cases d
  · simp only [tileAny_false]; unfold ringAny
    exact blocks_any (ℓ := (c : Thread nD τ).loc cc0_scratch2) tset tset_disjoint tset_cover
  · simp only [tileAny_true]; unfold ringAny
    exact blocks_any (ℓ := (c : Thread nD τ).loc cc0_scratch1) tset tset_disjoint tset_cover
/-- the tiles together are the buffer. -/
theorem ring_join (c : Dev nD) (d : Bool) : (bigSep Finset.univ fun p : Fin 4 × Fin 4 => tileAny c d p.1 p.2) ⊢ ringAny (F := F) c d := by
  cases d
  · simp only [tileAny_false]; unfold ringAny
    exact Ring.pointsTo_blocks_join_exists (ℓ := (c : Thread nD τ).loc cc0_scratch2) tset tset_disjoint tset_cover (fun _ => default)
  · simp only [tileAny_true]; unfold ringAny
    exact Ring.pointsTo_blocks_join_exists (ℓ := (c : Thread nD τ).loc cc0_scratch1) tset tset_disjoint tset_cover (fun _ => default)

/-! ## The landing places of the maxima -/

/-- The elements of the landing place of exchange `k`, partner `i`. -/
abbrev mset (p : Fin 2 × Fin 3) : Finset S2x3x8x128.Idx := (stageR p.1 p.2).set

theorem mem_mset (p : Fin 2 × Fin 3) (x : S2x3x8x128.Idx) : x ∈ mset p ↔ (x 0).val = p.1.val ∧ (x 1).val = p.2.val := by
  obtain ⟨k, i⟩ := p
  rw [Rect.mem_set_unit]
  have h2 : (x 2).val < 8 := (x 2).isLt
  have h3 : (x 3).val < 128 := (x 3).isLt
  constructor
  · intro h
    have a0 : k.val ≤ (x 0).val ∧ (x 0).val < k.val + 1 := h 0
    have a1 : i.val ≤ (x 1).val ∧ (x 1).val < i.val + 1 := h 1
    exact ⟨by show (x 0).val = k.val; omega, by show (x 1).val = i.val; omega⟩
  · rintro ⟨e0, e1⟩ a
    change (x 0).val = k.val at e0
    change (x 1).val = i.val at e1
    match a with
    | ⟨0, _⟩ => exact ⟨Nat.le_of_eq e0.symm, Nat.lt_succ_of_le (Nat.le_of_eq e0)⟩
    | ⟨1, _⟩ => exact ⟨Nat.le_of_eq e1.symm, Nat.lt_succ_of_le (Nat.le_of_eq e1)⟩
    | ⟨2, _⟩ => exact ⟨Nat.zero_le _, Nat.lt_of_lt_of_le h2 (Nat.le_add_left _ _)⟩
    | ⟨3, _⟩ => exact ⟨Nat.zero_le _, Nat.lt_of_lt_of_le h3 (Nat.le_add_left _ _)⟩

theorem mset_disjoint (p p' : Fin 2 × Fin 3) (h : p ≠ p') : Disjoint (mset p) (mset p') := by
  rw [Finset.disjoint_left]
  intro x hx hx'
  rw [mem_mset] at hx hx'
  exact h (Prod.ext (Fin.ext (hx.1.symm.trans hx'.1)) (Fin.ext (hx.2.symm.trans hx'.2)))

theorem mset_cover : Finset.univ.biUnion mset = Finset.univ := by
  ext x
  simp only [Finset.mem_biUnion, Finset.mem_univ, true_and, iff_true]
  exact ⟨(x 0, x 1), (mem_mset _ x).mpr ⟨rfl, rfl⟩⟩

/-- The buffer of the landing places, whole at any contents. -/
def stagesAny (c : Dev nD) : sProp 𝕄 :=
  iprop(∃ f : Buf (Elt F) ((c : Thread nD τ).loc cc0_scratch10), ((c : Thread nD τ).loc cc0_scratch10) ↦{fullShare} f)

theorem stageAny_eq (c : Dev nD) (p : Fin 2 × Fin 3) :
    stageAny (F := F) c p.1 p.2 = iprop(∃ f : Buf (Elt F) ((c : Thread nD τ).loc cc0_scratch10), ((c : Thread nD τ).loc cc0_scratch10) ↦[mset p]{fullShare} f) := by
  have h : (stageM p.1 p.2).view.set = mset p := (View.set_reshape _ _).trans (View.set_slice_whole cc0_scratch10 (stageR p.1 p.2))
  unfold stageAny Release.slot; rw [h]; rfl

/-- It is its six places; -/
theorem stages_split (c : Dev nD) : stagesAny (F := F) c ⊢ bigSep Finset.univ fun p : Fin 2 × Fin 3 => stageAny c p.1 p.2 := by
  simp only [stageAny_eq]; unfold stagesAny
  exact blocks_any (ℓ := (c : Thread nD τ).loc cc0_scratch10) mset mset_disjoint mset_cover
/-- the places together are the buffer. -/
theorem stages_join (c : Dev nD) : (bigSep Finset.univ fun p : Fin 2 × Fin 3 => stageAny c p.1 p.2) ⊢ stagesAny (F := F) c := by
  simp only [stageAny_eq]; unfold stagesAny
  exact Ring.pointsTo_blocks_join_exists (ℓ := (c : Thread nD τ).loc cc0_scratch10) mset mset_disjoint mset_cover (fun _ => default)

end Cert.KernelIdeal.Body

end
-- ==== Proof.Fund.lean ====
/- The start of the protocol: the ghost state dealt to the devices, every duty's right carried to the
   device that has the duty. -/
module

public import proofs.«01_k».proof.Proof.Places

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families -/

/-- A family over the devices and a second index may be carried around the devices, by each second index in its own way. -/
theorem around {P : Type} [Fintype P] (e : P → Dev nD ≃ Dev nD) (Φ : Dev nD → P → sProp 𝕄) :
    (bigSep Finset.univ fun c : Dev nD => bigSep Finset.univ fun p : P => Φ c p)
      = bigSep Finset.univ fun c : Dev nD => bigSep Finset.univ fun p : P => Φ (e p c) p := by
  have sw (Ψ : Dev nD → P → sProp 𝕄) : (bigSep Finset.univ fun c : Dev nD => bigSep Finset.univ fun p : P => Ψ c p)
      = bigSep Finset.univ fun p : P => bigSep Finset.univ fun c : Dev nD => Ψ c p := by
    rw [← bigSep_univ_prod (fun x : Dev nD × P => Ψ x.1 x.2), ← bigSep_univ_prod (fun x : P × Dev nD => Ψ x.2 x.1),
      bigSep_univ_equiv (Equiv.prodComm P (Dev nD))]
    rfl
  rw [sw, sw fun c p => Φ (e p c) p]
  exact congrArg _ (funext fun p => bigSep_univ_equiv (e p) fun c => Φ c p)

/-- A family over the numbers below `n`, as numbers. -/
theorem fin_Ico (n : ℕ) (Φ : ℕ → sProp 𝕄) : (bigSep Finset.univ fun t : Fin n => Φ t.val) = bigSep (Finset.Ico 0 n) Φ := by
  have h : Finset.Ico 0 n = (Finset.univ : Finset (Fin n)).map Fin.valEmbedding := by
    ext t; simp only [Finset.mem_Ico, Nat.zero_le, true_and, Finset.mem_map, Finset.mem_univ, Fin.valEmbedding_apply]
    exact ⟨fun ht => ⟨⟨t, ht⟩, rfl⟩, fun ⟨a, e⟩ => e ▸ a.isLt⟩
  rw [h, bigSep_map]; rfl

/-- A family over rings, tiles and numbers, number by number. -/
theorem fam (n : ℕ) (Φ : Bool → Fin 4 → ℕ → sProp 𝕄) :
    (bigSep Finset.univ fun x : Bool × Fin 4 × Fin n => Φ x.1 x.2.1 x.2.2.val)
      = bigSep Finset.univ fun p : Bool × Fin 4 => bigSep (Finset.Ico 0 n) (Φ p.1 p.2) := by
  rw [bigSep_univ_equiv (Equiv.prodAssoc Bool (Fin 4) (Fin n)), bigSep_univ_prod]
  exact congrArg _ (funext fun p => fin_Ico n (Φ p.1 p.2))

/-- The second and third index of a family exchanged. -/
theorem swap3 {A B C : Type} [Fintype A] [Fintype B] [Fintype C] (Φ : A → B → C → sProp 𝕄) :
    (bigSep Finset.univ fun x : A × B × C => Φ x.1 x.2.1 x.2.2) = bigSep Finset.univ fun x : A × C × B => Φ x.1 x.2.2 x.2.1 := by
  rw [bigSep_univ_equiv (Equiv.prodCongr (Equiv.refl A) (Equiv.prodComm C B))]; rfl

theorem bool2 (Φ : Bool → sProp 𝕄) : bigSep Finset.univ Φ = iprop(Φ true ∗ Φ false) :=
  bigSep_univ_eq_bigSepL [true, false] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over a device's semaphores, kind by kind. -/
theorem kinds (Φ : Cid → sProp 𝕄) : bigSep Finset.univ Φ
    = iprop((bigSep Finset.univ fun x : Bool × Fin 4 × Fin 4 => Φ (cSend x.1 x.2.1 x.2.2))
      ∗ (bigSep Finset.univ fun x : Bool × Fin 4 × Fin 4 => Φ (cRecv x.1 x.2.1 x.2.2))
      ∗ (bigSep Finset.univ fun d : Bool => Φ (cCred d)) ∗ Φ cBar
      ∗ (bigSep Finset.univ fun x : Fin 2 × Fin 3 => Φ (cSendM x.1 x.2)) ∗ bigSep Finset.univ fun x : Fin 2 × Fin 3 => Φ (cRecvM x.1 x.2)) := by
  rw [bigSep_univ_sum, bigSep_univ_sum, bigSep_univ_sum, bigSep_univ_sum, bigSep_univ_sum,
    bigSep_univ_eq_bigSepL [()] (by decide) (by decide) fun a : Unit => Φ (.inr (.inr (.inr (.inl a))))]
  rfl

/-! ## Who does what -/

/-- The neighbour maps as bijections. -/
def nbE (d : Bool) : Dev nD ≃ Dev nD := ⟨nb d, pv d, pv_nb d, nb_pv d⟩
def pvE (d : Bool) : Dev nD ≃ Dev nD := ⟨pv d, nb d, nb_pv d, pv_nb d⟩
def partE (k : Fin 2) (i : Fin 3) : Dev nD ≃ Dev nD := ⟨partner k i, partner k i, partner_partner k i, partner_partner k i⟩

/-- A device's duties: departures and arrivals of the tiles of every message, credits, the barrier,
    departures and arrivals of the maxima. -/
abbrev Du : Type :=
  (Bool × Fin 4 × Fin 15) ⊕ (Bool × Fin 4 × Fin 15) ⊕ (Bool × Fin 12) ⊕ Bool ⊕ (Fin 2 × Fin 3) ⊕ (Fin 2 × Fin 3)

/-- The semaphore of a duty, its round and its number in the round, -/
def duty : Du → Cid × ℕ × ℕ
  | .inl (d, j, t) => (cSend d (slot t.val) j, t.val / 4, 0)
  | .inr (.inl (d, j, t)) => (cRecv d (slot (t.val + 1)) j, t.val / 4, 0)
  | .inr (.inr (.inl (d, k))) => (cCred d, 0, k.val)
  | .inr (.inr (.inr (.inl true))) => (cBar, 0, 0)
  | .inr (.inr (.inr (.inl false))) => (cBar, 0, 1)
  | .inr (.inr (.inr (.inr (.inl (k, i))))) => (cSendM k i, 0, 0)
  | .inr (.inr (.inr (.inr (.inr (k, i))))) => (cRecvM k i, 0, 0)
/-- and the device whose semaphore it is. -/
def whose : Du → Dev nD ≃ Dev nD
  | .inl _ => Equiv.refl _
  | .inr (.inl (d, _, _)) => nbE d
  | .inr (.inr (.inl (d, _))) => pvE d
  | .inr (.inr (.inr (.inl d))) => pvE d
  | .inr (.inr (.inr (.inr (.inl _)))) => Equiv.refl _
  | .inr (.inr (.inr (.inr (.inr (k, i))))) => partE k i

/-- A duty is told by its semaphore, round and number. -/
theorem duty_injective : Function.Injective duty := by
  have hs (t t' : Fin 15) (h : slot t.val = slot t'.val) (h' : t.val / 4 = t'.val / 4) : t = t' := by
    have : t.val % 4 = t'.val % 4 := congrArg Fin.val h
    exact Fin.ext (by omega)
  have hr (t t' : Fin 15) (h : slot (t.val + 1) = slot (t'.val + 1)) (h' : t.val / 4 = t'.val / 4) : t = t' := by
    have : (t.val + 1) % 4 = (t'.val + 1) % 4 := congrArg Fin.val h
    exact Fin.ext (by omega)
  rintro (⟨d, j, t⟩ | ⟨d, j, t⟩ | ⟨d, k⟩ | d | ⟨k, i⟩ | ⟨k, i⟩) (⟨d', j', t'⟩ | ⟨d', j', t'⟩ | ⟨d', k'⟩ | d' | ⟨k', i'⟩ | ⟨k', i'⟩) h <;>
    (try cases d) <;> (try cases d') <;> simp [duty] at h <;> first
    | (obtain ⟨⟨h1, h2⟩, h3⟩ := h; rw [hs _ _ h1 h3, h2])
    | (obtain ⟨⟨h1, h2⟩, h3⟩ := h; rw [hr _ _ h1 h3, h2])
    | (rw [Fin.ext h])
    | (obtain ⟨h1, h2⟩ := h; rw [h1, h2])
    | rfl

/-! ## The ghost state dealt -/

theorem cell_injective : Function.Injective (fun x : Dev nD × Cid => cell x.1 x.2) := by
  rintro ⟨c, x⟩ ⟨c', x'⟩ h
  have h1 : c = c' := congrArg (fun g : GSem nD τ sig => g.1.1) h
  have h2 : csem x = csem x' := congrArg Prod.snd h
  rw [h1, csem_injective h2]
theorem tok_injective : Function.Injective (fun x : Dev nD × Du => (cell x.1 (duty x.2).1, (duty x.2).2.1, (duty x.2).2.2)) := by
  rintro ⟨c, x⟩ ⟨c', x'⟩ h
  have h0 : (c, (duty x).1) = (c', (duty x').1) := cell_injective (congrArg Prod.fst h)
  have h2 : (duty x).2 = (duty x').2 := congrArg (fun y : GSem nD τ sig × ℕ × ℕ => y.2) h
  have h1 : duty x = duty x' := Prod.ext (congrArg Prod.snd h0) h2
  rw [duty_injective h1, show c = c' from congrArg Prod.fst h0]

def cells : Finset (GSem nD τ sig) := Finset.univ.map ⟨_, cell_injective⟩
def toks : Finset (GSem nD τ sig × ℕ × ℕ) := Finset.univ.map ⟨_, tok_injective⟩

variable (X : Dev nD → Vec F S4096x256 .bf16) (W : Dev nD → Vec F S256x2048 .bf16)

/-- The right to a duty. -/
abbrev right (c : Dev nD) (x : Du) : sProp 𝕄 := dutyTok ER (cell c (duty x).1) (duty x).2.1 (duty x).2.2
/-- A semaphore at its start. -/
abbrev atStart (c : Dev nD) (x : Cid) : sProp 𝕄 := iprop(atPos ER (cell c x) 0 ∅ 0 ∗ reached ER (cell c x) 0)

/-- What the launch deals a device: the record of each semaphore, its place in it, and the rights to the duties there; -/
def dealt (c : Dev nD) : sProp 𝕄 :=
  iprop((bigSep Finset.univ fun x : Cid => roundState ER (Rd X W) (cell c x) 0) ∗ (bigSep Finset.univ fun x : Cid => atStart c x)
    ∗ bigSep Finset.univ fun x : Du => right c x)
/-- the first device has the landing places' ghost state. -/
def purse (c : Dev nD) : sProp 𝕄 := if c = 0 then BI.own (ES (Release.initSlots (Finset.univ : Finset Ky) 1)) else iprop(emp)
def G (c : Dev nD) : sProp 𝕄 := iprop(dealt X W c ∗ purse c)

theorem fund_cells : BI.own (ER (initOf cells toks)) ⊢ (|==> bigSep Finset.univ (dealt X W) : sProp 𝕄) := by
  have hX (Φ : GSem nD τ sig → sProp 𝕄) : bigSep cells Φ = bigSep Finset.univ fun c : Dev nD => bigSep Finset.univ fun x : Cid => Φ (cell c x) := by
    unfold cells; rw [bigSep_map, bigSep_univ_prod]; rfl
  have hT : bigSep toks (fun x => (dutyTok ER x.1 x.2.1 x.2.2 : sProp 𝕄)) = bigSep Finset.univ fun c : Dev nD => bigSep Finset.univ fun x : Du => right c x := by
    unfold toks; rw [bigSep_map, bigSep_univ_prod]; rfl
  iintro H
  imod (Rounds.fund ER (Rd X W) cells toks) $$ H with ⟨Hst, Hr, Hat, Htok⟩
  imodintro
  ihave Hst := (Entails.of_eq (hX fun g => roundState ER (Rd X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt atStart; simp only [bigSep_sep']
  isplitl [Hst]; · iexact Hst
  isplitl [Hat Hr]
  · isplitl [Hat] <;> iassumption
  iexact Htok

theorem fund_purse : BI.own (ES (Release.initSlots (Finset.univ : Finset Ky) 1)) ⊢ (bigSep Finset.univ fun c : Dev nD => purse c : sProp 𝕄) := by
  have h0 : purse (F := F) 0 = BI.own (ES (Release.initSlots (Finset.univ : Finset Ky) 1)) := if_pos rfl
  have hr : (iprop(emp) : sProp 𝕄) ⊢ bigSep ((Finset.univ : Finset (Dev nD)).erase 0) fun c => purse (F := F) c :=
    bigSep_intro_persistent fun c hc => by unfold purse; rw [if_neg (Finset.mem_erase.mp hc).1]
  rw [bigSep_univ_at (fun c : Dev nD => purse (F := F) c) 0, h0]
  show _ ⊢ iprop(_ ∗ _)
  iintro H
  isplitl; · iexact H
  iapply hr; iempintro

theorem purse_open : (bigSep Finset.univ fun c : Dev nD => purse c : sProp 𝕄) ⊢ BI.own (ES (Release.initSlots (Finset.univ : Finset Ky) 1)) :=
  (bigSep_elim (Finset.mem_univ (0 : Dev nD))).trans (Entails.of_eq (show purse (F := F) 0 = _ from if_pos rfl))

/-- The launch's ghost state: the pipeline's, the semaphores', the landing places'. -/
def u₀ : UU :=
  (initOf (Pipeline.cells cfgs cellOf_inj) (Pipeline.launchToks cfgs cellOf_inj), (initOf cells toks, Release.initSlots Finset.univ 1))

theorem fund : ownU u₀ ⊢ (|==> iprop(BI.own (EP (initOf (Pipeline.cells cfgs cellOf_inj) (Pipeline.launchToks cfgs cellOf_inj))) ∗ bigSep Finset.univ (G X W)) : sProp 𝕄) := by
  unfold u₀
  iintro Hu
  ihave H := (ownU_pair _ _) $$ Hu
  icases H with ⟨HP, HX⟩
  ihave H := (own_pair_emb embR _ _) $$ HX
  icases H with ⟨HR, HS⟩
  ihave HP := (show (BI.own ((embL : Emb UP 𝕄) (initOf (Pipeline.cells cfgs cellOf_inj) (Pipeline.launchToks cfgs cellOf_inj))) : sProp 𝕄) ⊢ (BI.own (EP (initOf (Pipeline.cells cfgs cellOf_inj) (Pipeline.launchToks cfgs cellOf_inj))) : sProp 𝕄) from Entails.of_eq rfl) $$ HP
  ihave HR := (show (BI.own (((Emb.inl : Emb UB (UB × US)).trans (embR : Emb (UB × US) 𝕄)) (initOf cells toks)) : sProp 𝕄) ⊢ (BI.own (ER (initOf cells toks)) : sProp 𝕄) from Entails.of_eq rfl) $$ HR
  ihave HS := (show (BI.own (((Emb.inr : Emb US (UB × US)).trans (embR : Emb (UB × US) 𝕄)) (Release.initSlots (Finset.univ : Finset Ky) 1)) : sProp 𝕄) ⊢ (BI.own (ES (Release.initSlots (Finset.univ : Finset Ky) 1)) : sProp 𝕄) from Entails.of_eq rfl) $$ HS
  imod (fund_cells X W) $$ HR with HR
  imodintro
  isplitl [HP]; · iexact HP
  unfold G; rw [bigSep_sep']
  isplitl [HR]; · iexact HR
  iapply (fund_purse (F := F)) $$ HS

end Cert.KernelIdeal.Body

end
-- ==== Proof.Deal.lean ====
/- The protocol set up: the records of all semaphores and landing places, and what each device holds of
   the ghost state when its kernel starts. -/
module

public import proofs.«01_k».proof.Proof.Fund

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The kernel's own semaphores -/

/-- The semaphores the kernel allocates: all but the barrier's. -/
abbrev Own : Type := (Bool × Fin 4 × Fin 4) ⊕ (Bool × Fin 4 × Fin 4) ⊕ Bool ⊕ (Fin 2 × Fin 3) ⊕ (Fin 2 × Fin 3)
def ocid : Own → Cid
  | .inl (d, σ, j) => cSend d σ j
  | .inr (.inl (d, σ, j)) => cRecv d σ j
  | .inr (.inr (.inl d)) => cCred d
  | .inr (.inr (.inr (.inl (k, i)))) => cSendM k i
  | .inr (.inr (.inr (.inr (k, i)))) => cRecvM k i
abbrev osem (x : Own) : SemLoc sig := csem (ocid x)

theorem ocid_injective : Function.Injective ocid := by
  rintro (⟨d, σ, j⟩ | ⟨d, σ, j⟩ | d | ⟨k, i⟩ | ⟨k, i⟩) (⟨d', σ', j'⟩ | ⟨d', σ', j'⟩ | d' | ⟨k', i'⟩ | ⟨k', i'⟩) h <;> simp [ocid] at h ⊢ <;> exact h

theorem osem_scoped : ∀ x : Own, (osem x).isScoped .tc = true := by decide +kernel
theorem stage_low : ∀ (w : Fin 3) (s : Fin (spec0 w).nbuf), ((spec0 w).sem s).val < 3 := by decide +kernel
theorem ownSemFacts : Pipeline.OwnSemFacts cfg0.spec osem :=
  ⟨osem_scoped, fun _ _ h => ocid_injective (csem_injective h), fun x w s => csem_stage (ocid x) _ (stage_low w s)⟩

theorem unscoped_bar (c : Dev nD) : (unscopedSems0 c : sProp 𝕄) = semVal (cell c cBar) 0 := by
  unfold unscopedSems0; rw [bigSep_eq_bigSepL_of_eq [SemLoc.reg barS.sem] (by decide +kernel) (by decide +kernel)]; rfl

theorem own_kinds (c : Dev nD) : (Pipeline.ownSems0 (Ix := ℕ) (Name := ℕ) (U := UU) (Lvl := ℕ) (Val := Elt F) (τ := τ) osem c : sProp 𝕄)
    = iprop((bigSep Finset.univ fun x : Bool × Fin 4 × Fin 4 => semVal (cell c (cSend x.1 x.2.1 x.2.2)) 0)
      ∗ (bigSep Finset.univ fun x : Bool × Fin 4 × Fin 4 => semVal (cell c (cRecv x.1 x.2.1 x.2.2)) 0)
      ∗ (bigSep Finset.univ fun d : Bool => semVal (cell c (cCred d)) 0)
      ∗ (bigSep Finset.univ fun x : Fin 2 × Fin 3 => semVal (cell c (cSendM x.1 x.2)) 0) ∗ bigSep Finset.univ fun x : Fin 2 × Fin 3 => semVal (cell c (cRecvM x.1 x.2)) 0) := by
  unfold Pipeline.ownSems0
  rw [bigSep_univ_sum, bigSep_univ_sum, bigSep_univ_sum, bigSep_univ_sum]
  rfl

/-- A device's own semaphores and the barrier's are all its semaphores of the protocol; -/
theorem sems_all (c : Dev nD) :
    iprop(Pipeline.ownSems0 (Ix := ℕ) (Name := ℕ) (U := UU) (Lvl := ℕ) (Val := Elt F) (τ := τ) osem c ∗ unscopedSems0 c)
      ⊢ (bigSep Finset.univ fun x : Cid => semVal (cell c x) 0 : sProp 𝕄) := by
  rw [own_kinds, unscoped_bar, kinds]
  iintro ⟨⟨H1, H2, H3, H4, H5⟩, HB⟩
  isplitl [H1]; · iexact H1
  isplitl [H2]; · iexact H2
  isplitl [H3]; · iexact H3
  isplitl [HB]; · iexact HB
  isplitl [H4] <;> iassumption
/-- and back. -/
theorem all_sems (c : Dev nD) :
    (bigSep Finset.univ fun x : Cid => semVal (cell c x) 0 : sProp 𝕄)
      ⊢ iprop(unscopedSems0 c ∗ Pipeline.ownSems0 (Ix := ℕ) (Name := ℕ) (U := UU) (Lvl := ℕ) (Val := Elt F) (τ := τ) osem c) := by
  rw [own_kinds, unscoped_bar, kinds]
  iintro ⟨H1, H2, H3, HB, H4, H5⟩
  isplitl [HB]; · iexact HB
  isplitl [H1]; · iexact H1
  isplitl [H2]; · iexact H2
  isplitl [H3]; · iexact H3
  isplitl [H4] <;> iassumption

/-! ## The set-up -/

variable (X : Dev nD → Vec F S4096x256 .bf16) (W : Dev nD → Vec F S256x2048 .bf16)

/-- The landing places of a device. -/
abbrev Pl : Type := (Bool × Fin 15 × Fin 4) ⊕ (Fin 2 × Fin 3)
/-- The device whose landing place of a kind a device fills. -/
def lands : Pl → Dev nD ≃ Dev nD
  | .inl (d, _, _) => nbE d
  | .inr (k, i) => partE k i

/-- What a device holds of the ghost state. -/
def mine (c : Dev nD) : sProp 𝕄 :=
  iprop((bigSep Finset.univ fun x : Cid => atStart c x) ∗ (bigSep Finset.univ fun x : Du => right (whose x c) x)
    ∗ (bigSep Finset.univ fun y : Pl => Release.readerAt ES ((c, y) : Ky) 0) ∗ (bigSep Finset.univ fun y : Pl => Release.writeTok ES ((lands y c, y) : Ky) 1))

/-- The records without the levels. -/
def recs0 (K : Dev nD × Cid → ℕ) (ιs : Ky → ℕ) : sProp 𝕄 :=
  iprop((bigSep Finset.univ fun x : Dev nD × Cid => cellInv ER (Rd X W) (K x) (cell x.1 x.2))
    ∗ (bigSep Finset.univ fun x : Dev nD × Cid => reached ER (cell x.1 x.2) 0)
    ∗ (bigSep Finset.univ fun k : Ky => Release.slotInv ES (ιs k) k (slotOf k)))
instance recs0_persistent (K : Dev nD × Cid → ℕ) (ιs : Ky → ℕ) : BI.Persistent (recs0 X W K ιs) := by unfold recs0; infer_instance

/-- What a device starts with, ghost state alone. -/
def G' (c : Dev nD) : sProp 𝕄 := iprop(∃ K ιs, recs0 X W K ιs ∗ mine c)

theorem dev_alloc (c : Dev nD) :
    iprop(Pipeline.ownSems0 (Ix := ℕ) (Name := ℕ) (U := UU) (Lvl := ℕ) (Val := Elt F) (τ := τ) osem c ∗ unscopedSems0 c ∗ dealt X W c)
      ⊢ |={Set.univ}=> iprop((bigSep Finset.univ fun x : Cid => iprop(∃ κ : ℕ, cellInv ER (Rd X W) κ (cell c x)))
          ∗ (bigSep Finset.univ fun x : Cid => atStart c x) ∗ bigSep Finset.univ fun x : Du => right c x) := by
  unfold dealt
  iintro ⟨Hos, Hus, Hst, Hat, Htok⟩
  ihave Hv := (sems_all (F := F) c) $$ [Hos Hus]
  · isplitl [Hos] <;> iassumption
  imod (show iprop((bigSep Finset.univ fun x : Cid => semVal (cell c x) 0) ∗ bigSep Finset.univ fun x : Cid => roundState ER (Rd X W) (cell c x) 0)
      ⊢ (|={Set.univ}=> bigSep Finset.univ fun x : Cid => iprop(∃ κ : ℕ, cellInv ER (Rd X W) κ (cell c x)) : sProp 𝕄) from by
        rw [← bigSep_sep']
        exact (bigSep_mono fun x _ => (Rounds.body_intro ER (Rd X W) (cell c x)).trans inv_alloc).trans (bigSep_fupd _ _)) $$ [Hv Hst] with Hinv
  · isplitl [Hv] <;> iassumption
  imodintro
  isplitl [Hinv]; · iexact Hinv
  isplitl [Hat]; · iexact Hat
  iexact Htok

theorem rights_around : (bigSep Finset.univ fun c : Dev nD => bigSep Finset.univ fun x : Du => (right c x : sProp 𝕄))
    = bigSep Finset.univ fun c : Dev nD => bigSep Finset.univ fun x : Du => right (whose x c) x := around whose right

/-- The landing places' records, readers and writers. -/
theorem places : BI.own (ES (Release.initSlots (Finset.univ : Finset Ky) 1))
    ⊢ (|={Set.univ}=> iprop(∃ ιs : Ky → ℕ, (bigSep Finset.univ fun k : Ky => Release.slotInv ES (ιs k) k (slotOf k))
        ∗ (bigSep Finset.univ fun c : Dev nD => bigSep Finset.univ fun y : Pl => Release.readerAt ES ((c, y) : Ky) 0)
        ∗ (bigSep Finset.univ fun c : Dev nD => bigSep Finset.univ fun y : Pl => Release.writeTok ES ((lands y c, y) : Ky) 1)) : sProp 𝕄) := by
  have hr : (bigSep Finset.univ fun k : Ky => (Release.readerAt ES k 0 : sProp 𝕄)) = bigSep Finset.univ fun c : Dev nD => bigSep Finset.univ fun y : Pl => Release.readerAt ES ((c, y) : Ky) 0 :=
    bigSep_univ_prod _
  have hw : (bigSep ((Finset.univ : Finset Ky) ×ˢ Finset.range 1) fun x => (Release.writeTok ES x.1 (x.2 + 1) : sProp 𝕄))
      = bigSep Finset.univ fun c : Dev nD => bigSep Finset.univ fun y : Pl => Release.writeTok ES ((lands y c, y) : Ky) 1 := by
    rw [Finset.range_one, Finset.product_singleton, bigSep_map, ← around lands fun c y => (Release.writeTok ES ((c, y) : Ky) 1 : sProp 𝕄)]
    exact bigSep_univ_prod _
  iintro H
  imod (Release.slots_init (Name := ℕ) ES (Finset.univ : Finset Ky) 1 (slotOf (F := F))) $$ H with ⟨%ιs, -, HI, HR, HW⟩
  imodintro
  iexists ιs
  isplitl [HI]; · iexact HI
  isplitl [HR]
  · iapply (Entails.of_eq hr) $$ HR
  · iapply (Entails.of_eq hw) $$ HW

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    iprop((bigSep Finset.univ fun c : Dev nD => iprop((bigSep Finset.univ fun x : Cid => iprop(∃ κ : ℕ, cellInv ER (Rd X W) κ (cell c x)))
          ∗ (bigSep Finset.univ fun x : Cid => atStart c x) ∗ bigSep Finset.univ fun x : Du => right c x))
        ∗ bigSep Finset.univ fun c : Dev nD => purse (F := F) c)
      ⊢ |={Set.univ}=> bigSep Finset.univ (G' X W) := by
  have hi : (bigSep Finset.univ fun c : Dev nD => bigSep Finset.univ fun x : Cid => (iprop(∃ κ : ℕ, cellInv ER (Rd X W) κ (cell c x)) : sProp 𝕄))
      = bigSep Finset.univ fun x : Dev nD × Cid => iprop(∃ κ : ℕ, cellInv ER (Rd X W) κ (cell x.1 x.2)) := (bigSep_univ_prod (fun x : Dev nD × Cid => (iprop(∃ κ : ℕ, cellInv ER (Rd X W) κ (cell x.1 x.2)) : sProp 𝕄))).symm
  have hat : (bigSep Finset.univ fun c : Dev nD => bigSep Finset.univ fun x : Cid => (atStart c x : sProp 𝕄))
      ⊢ bigSep Finset.univ fun x : Dev nD × Cid => reached ER (cell x.1 x.2) 0 := by
    rw [← bigSep_univ_prod (fun x : Dev nD × Cid => (atStart x.1 x.2 : sProp 𝕄))]
    exact bigSep_mono fun x _ => show (atStart x.1 x.2 : sProp 𝕄) ⊢ reached ER (cell x.1 x.2) 0 from by iintro ⟨-, H⟩; iexact H
  rw [bigSep_sep', bigSep_sep', hi, rights_around]
  iintro ⟨⟨HI, Hat, Htok⟩, HP⟩
  ihave HP := (purse_open (F := F)) $$ HP
  imod (places (F := F)) $$ HP with ⟨%ιs, #HL, HR, HW⟩
  ihave HK := (BI.bigSep_exists_pi Finset.univ (fun (x : Dev nD × Cid) (κ : ℕ) => (cellInv ER (Rd X W) κ (cell x.1 x.2) : sProp 𝕄))) $$ HI
  icases HK with ⟨%K, #HI⟩
  ihave #Hre := hat $$ Hat
  imodintro
  iapply (with_persistent (R := recs0 X W K ιs) (Φ := mine) fun c _ => show iprop(recs0 X W K ιs ∗ mine c) ⊢ G' X W c from by
    unfold G'; iintro ⟨#H1, H2⟩; iexists K, ιs
    isplitr; · iexact H1
    iexact H2)
  isplitr
  · unfold recs0
    isplitr; · iexact HI
    isplitr; · iexact Hre
    iexact HL
  · unfold mine; simp only [bigSep_sep']
    isplitl [Hat]; · iexact Hat
    isplitl [Htok]; · iexact Htok
    isplitl [HR]; · iexact HR
    iexact HW

/-- The set-up of all devices at once. -/
theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) := by
  have h : (bigSep Finset.univ fun c => iprop(Pipeline.ownSems0 (Ix := ℕ) (Name := ℕ) (U := UU) (Lvl := ℕ) (Val := Elt F) (τ := τ) osem c ∗ unscopedSems0 c ∗ G X W c) : sProp 𝕄)
      ⊢ iprop((bigSep Finset.univ fun c => iprop(Pipeline.ownSems0 (Ix := ℕ) (Name := ℕ) (U := UU) (Lvl := ℕ) (Val := Elt F) (τ := τ) osem c ∗ unscopedSems0 c ∗ dealt X W c))
        ∗ bigSep Finset.univ fun c : Dev nD => purse (F := F) c) := by
    rw [← bigSep_sep']
    refine bigSep_mono fun c _ => ?_
    unfold G
    show iprop(Pipeline.ownSems0 (Ix := ℕ) (Name := ℕ) (U := UU) (Lvl := ℕ) (Val := Elt F) (τ := τ) osem c ∗ unscopedSems0 c ∗ dealt X W c ∗ purse (F := F) c)
      ⊢ iprop((Pipeline.ownSems0 (Ix := ℕ) (Name := ℕ) (U := UU) (Lvl := ℕ) (Val := Elt F) (τ := τ) osem c ∗ unscopedSems0 c ∗ dealt X W c) ∗ purse (F := F) c)
    iintro ⟨H1, H2, H3, H4⟩
    isplitr [H4]
    · isplitl [H1]; · iexact H1
      isplitl [H2] <;> iassumption
    · iexact H4
  have ha : (bigSep Finset.univ fun c => iprop(Pipeline.ownSems0 (Ix := ℕ) (Name := ℕ) (U := UU) (Lvl := ℕ) (Val := Elt F) (τ := τ) osem c ∗ unscopedSems0 c ∗ dealt X W c) : sProp 𝕄)
      ⊢ |={Set.univ}=> bigSep Finset.univ fun c : Dev nD => iprop((bigSep Finset.univ fun x : Cid => iprop(∃ κ : ℕ, cellInv ER (Rd X W) κ (cell c x)))
          ∗ (bigSep Finset.univ fun x : Cid => atStart c x) ∗ bigSep Finset.univ fun x : Du => right c x) := (bigSep_mono (s := (Finset.univ : Finset (Dev nD))) fun c _ => dev_alloc X W c).trans (bigSep_fupd _ _)
  iintro H
  ihave H := h $$ H
  icases H with ⟨H, HP⟩
  imod ha $$ H with H
  iapply (regroup X W)
  isplitl [H]; · iexact H
  iexact HP

end Cert.KernelIdeal.Body

end
-- ==== Proof.Begin.lean ====
/- What a device starts its kernel with, put together, and what it ends with, given back. -/
module

public import proofs.«01_k».proof.Proof.Deal

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The credits of the launch -/

/-- What the devices owe a device for the messages of a tile, -/
theorem cred_OL (c : Dev nD) (p : Bool × Fin 4) :
    (Pipeline.launchCred (fun d => OL d p.1 p.2 0) c : sProp 𝕄) ⊢ bigSep (Finset.Ico 0 15) fun t => cred (tallyAt (gR p.1 c t p.2) t NT) := by
  unfold OL
  rw [Pipeline.launchCred_sum]
  exact bigSep_mono fun t _ => Pipeline.launchCred_tallyAt _ (nb p.1) (pv p.1) (nb_pv p.1) (pv_nb p.1) t NT c
/-- for the credits of a ring, -/
theorem cred_OC (c : Dev nD) (d : Bool) :
    (Pipeline.launchCred (fun e => OC e d 0) c : sProp 𝕄) ⊢ bigSep (Finset.Ico 0 12) fun k => cred (tallyAt (cell c (cCred d)) k 1) := by
  unfold OC
  rw [Pipeline.launchCred_sum]
  exact bigSep_mono fun k _ => Pipeline.launchCred_tallyAt _ (pv d) (nb d) (pv_nb d) (nb_pv d) k 1 c
/-- and for an exchange. -/
theorem cred_OM (c : Dev nD) (k : Fin 2) :
    (Pipeline.launchCred (fun e => OM e k) c : sProp 𝕄)
      ⊢ iprop(cred (tallyAt (cell c (cRecvM k 0)) 0 NM) ∗ cred (tallyAt (cell c (cRecvM k 1)) 0 NM) ∗ cred (tallyAt (cell c (cRecvM k 2)) 0 NM)) := by
  have h (i : Fin 3) : (Pipeline.launchCred (fun e => tallyAt (cell (partner k i e) (cRecvM k i)) 0 NM) c : sProp 𝕄) ⊢ cred (tallyAt (cell c (cRecvM k i)) 0 NM) :=
    Pipeline.launchCred_tallyAt _ (partner k i) (partner k i) (partner_partner k i) (partner_partner k i) 0 NM c
  unfold OM
  rw [Pipeline.launchCred_add (fun e => tallyAt (cell (partner k 0 e) (cRecvM k 0)) 0 NM + tallyAt (cell (partner k 1 e) (cRecvM k 1)) 0 NM) (fun e => tallyAt (cell (partner k 2 e) (cRecvM k 2)) 0 NM),
    Pipeline.launchCred_add (fun e => tallyAt (cell (partner k 0 e) (cRecvM k 0)) 0 NM) (fun e => tallyAt (cell (partner k 1 e) (cRecvM k 1)) 0 NM)]
  iintro ⟨⟨H0, H1⟩, H2⟩
  isplitl [H0]; · iapply (h 0) $$ H0
  isplitl [H1]; · iapply (h 1) $$ H1
  iapply (h 2) $$ H2

/-- All the credits a device waits with. -/
def dues (c : Dev nD) : sProp 𝕄 :=
  iprop((bigSep Finset.univ fun p : Bool × Fin 4 => bigSep (Finset.Ico 0 15) fun t => cred (tallyAt (gR p.1 c t p.2) t NT))
    ∗ (bigSep Finset.univ fun d : Bool => bigSep (Finset.Ico 0 12) fun k => cred (tallyAt (cell c (cCred d)) k 1))
    ∗ cred (tallyAt (cell c cBar) 0 2)
    ∗ (bigSep Finset.univ fun k : Fin 2 × Fin 3 => cred (tallyAt (cell c (cRecvM k.1 k.2)) 0 NM)))

theorem six (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

theorem dues_intro (c : Dev nD) : (Pipeline.launchCred O0 c : sProp 𝕄) ⊢ dues c := by
  have hb (d : Bool) : (Pipeline.launchCred (fun e => tallyAt (cell (pv d e) cBar) 0 1) c : sProp 𝕄) ⊢ cred (tallyAt (cell c cBar) 0 1) :=
    Pipeline.launchCred_tallyAt _ (pv d) (nb d) (pv_nb d) (nb_pv d) 0 1 c
  have e : (O0 : Dev nD → CellTallies nD τ sig ℕ) = fun e => ((((OM e 0 + OM e 1) + ∑ d : Bool, OC e d 0) + ∑ p : Bool × Fin 4, OL e p.1 p.2 0)
      + tallyAt (cell (pv false e) cBar) 0 1) + tallyAt (cell (pv true e) cBar) 0 1 := rfl
  have hs : (Pipeline.launchCred (fun e => ∑ p : Bool × Fin 4, OL e p.1 p.2 0) c : sProp 𝕄)
      ⊢ bigSep Finset.univ fun p : Bool × Fin 4 => bigSep (Finset.Ico 0 15) fun t => cred (tallyAt (gR p.1 c t p.2) t NT) := by
    rw [Pipeline.launchCred_sum Finset.univ (fun (p : Bool × Fin 4) e => OL e p.1 p.2 0)]
    exact bigSep_mono fun p _ => cred_OL c p
  have hc : (Pipeline.launchCred (fun e => ∑ d : Bool, OC e d 0) c : sProp 𝕄)
      ⊢ bigSep Finset.univ fun d : Bool => bigSep (Finset.Ico 0 12) fun k => cred (tallyAt (cell c (cCred d)) k 1) := by
    rw [Pipeline.launchCred_sum Finset.univ (fun (d : Bool) e => OC e d 0)]
    exact bigSep_mono fun d _ => cred_OC c d
  have h2 : iprop(cred (tallyAt (cell c cBar) 0 1) ∗ cred (tallyAt (cell c cBar) 0 1)) ⊢ (cred (tallyAt (cell c cBar) 0 2) : sProp 𝕄) := by
    rw [show (2 : ℕ) = 1 + 1 from rfl, ← tallyAt_add]; exact (cred_add _ _).2
  rw [e, Pipeline.launchCred_add (fun e => (((OM e 0 + OM e 1) + ∑ d : Bool, OC e d 0) + ∑ p : Bool × Fin 4, OL e p.1 p.2 0) + tallyAt (cell (pv false e) cBar) 0 1)
      (fun e => tallyAt (cell (pv true e) cBar) 0 1),
    Pipeline.launchCred_add (fun e => ((OM e 0 + OM e 1) + ∑ d : Bool, OC e d 0) + ∑ p : Bool × Fin 4, OL e p.1 p.2 0) (fun e => tallyAt (cell (pv false e) cBar) 0 1),
    Pipeline.launchCred_add (fun e => (OM e 0 + OM e 1) + ∑ d : Bool, OC e d 0) (fun e => ∑ p : Bool × Fin 4, OL e p.1 p.2 0),
    Pipeline.launchCred_add (fun e => OM e 0 + OM e 1) (fun e => ∑ d : Bool, OC e d 0),
    Pipeline.launchCred_add (fun e => OM e 0) (fun e => OM e 1)]
  unfold dues
  iintro ⟨⟨⟨⟨⟨HM0, HM1⟩, HC⟩, HL⟩, Hf⟩, Ht⟩
  ihave HM0 := (cred_OM c 0) $$ HM0
  ihave HM1 := (cred_OM c 1) $$ HM1
  icases HM0 with ⟨H00, H01, H02⟩
  icases HM1 with ⟨H10, H11, H12⟩
  isplitl [HL]; · iapply hs $$ HL
  isplitl [HC]; · iapply hc $$ HC
  isplitl [Hf Ht]
  · iapply h2
    isplitl [Hf]; · iapply (hb false) $$ Hf
    iapply (hb true) $$ Ht
  rw [six]
  isplitl [H00]; · iexact H00
  isplitl [H01]; · iexact H01
  isplitl [H02]; · iexact H02
  isplitl [H10]; · iexact H10
  isplitl [H11] <;> iassumption

/-! ## The ghost state by tiles -/

theorem slot_val (σ : Fin 4) : slot σ.val = σ := Fin.ext (Nat.mod_eq_of_lt σ.isLt)
theorem slot_succ_inj : Function.Bijective (fun σ : Fin 4 => slot (σ.val + 1)) := by decide

/-- The departure semaphores at their start, message by message; -/
theorem start_send (c : Dev nD) : (bigSep Finset.univ fun x : Bool × Fin 4 × Fin 4 => (atStart c (cSend x.1 x.2.1 x.2.2) : sProp 𝕄))
    ⊢ bigSep Finset.univ fun p : Bool × Fin 4 => bigSep (Finset.Ico 0 4) fun t => posS c p.1 p.2 t := by
  rw [swap3 fun d σ j => (atStart c (cSend d σ j) : sProp 𝕄), ← fam 4 fun d j t => posS (F := F) c d j t]
  refine Entails.of_eq (congrArg _ (funext fun x => ?_))
  unfold posS
  rw [show gS x.1 c x.2.2.val x.2.1 = cell c (cSend x.1 x.2.2 x.2.1) by show cell c (cSend x.1 (slot x.2.2.val) x.2.1) = _; rw [slot_val],
    show x.2.2.val / 4 = 0 from Nat.div_eq_of_lt x.2.2.isLt]

/-- the arrival semaphores likewise. -/
theorem start_recv (c : Dev nD) : (bigSep Finset.univ fun x : Bool × Fin 4 × Fin 4 => (atStart c (cRecv x.1 x.2.1 x.2.2) : sProp 𝕄))
    ⊢ bigSep Finset.univ fun p : Bool × Fin 4 => bigSep (Finset.Ico 0 4) fun t => posR c p.1 p.2 t := by
  rw [swap3 fun d σ j => (atStart c (cRecv d σ j) : sProp 𝕄), ← fam 4 fun d j t => posR (F := F) c d j t,
    bigSep_univ_equiv (Equiv.prodCongr (Equiv.refl Bool) (Equiv.prodCongr (Equiv.refl (Fin 4)) (Equiv.ofBijective _ slot_succ_inj)))]
  refine Entails.of_eq (congrArg _ (funext fun x => ?_))
  unfold posR
  rw [show x.2.2.val / 4 = 0 from Nat.div_eq_of_lt x.2.2.isLt]
  rfl

/-- The rights of a device, kind by kind. -/
theorem duties (Φ : Du → sProp 𝕄) : bigSep Finset.univ Φ
    = iprop((bigSep Finset.univ fun x : Bool × Fin 4 × Fin 15 => Φ (.inl x)) ∗ (bigSep Finset.univ fun x : Bool × Fin 4 × Fin 15 => Φ (.inr (.inl x)))
      ∗ (bigSep Finset.univ fun x : Bool × Fin 12 => Φ (.inr (.inr (.inl x)))) ∗ (Φ (.inr (.inr (.inr (.inl true)))) ∗ Φ (.inr (.inr (.inr (.inl false)))))
      ∗ (bigSep Finset.univ fun x : Fin 2 × Fin 3 => Φ (.inr (.inr (.inr (.inr (.inl x)))))) ∗ bigSep Finset.univ fun x : Fin 2 × Fin 3 => Φ (.inr (.inr (.inr (.inr (.inr x)))))) := by
  rw [bigSep_univ_sum, bigSep_univ_sum, bigSep_univ_sum, bigSep_univ_sum, bigSep_univ_sum, bool2 fun d => Φ (.inr (.inr (.inr (.inl d))))]
  rfl

theorem keyT_val (d : Bool) (c : Dev nD) (t : Fin 15) (j : Fin 4) : keyT d c t.val j = (c, .inl (d, t, j)) := by
  have e : (⟨t.val % 15, Nat.mod_lt _ (by decide)⟩ : Fin 15) = t := Fin.ext (Nat.mod_eq_of_lt t.isLt)
  exact congrArg (fun s : Fin 15 => ((c, .inl (d, s, j)) : Ky)) e

/-- The rights to send. -/
theorem start_tosend (c : Dev nD) :
    iprop((bigSep Finset.univ fun x : Bool × Fin 4 × Fin 15 => (right (whose (.inl x) c) (.inl x) : sProp 𝕄))
        ∗ (bigSep Finset.univ fun x : Bool × Fin 4 × Fin 15 => right (whose (.inr (.inl x)) c) (.inr (.inl x)))
        ∗ (bigSep Finset.univ fun x : Bool × Fin 15 × Fin 4 => Release.writeTok ES ((lands (.inl x) c, .inl x) : Ky) 1))
      ⊢ bigSep Finset.univ fun p : Bool × Fin 4 => bigSep (Finset.Ico 0 15) fun t => tosend c p.1 p.2 t := by
  rw [swap3 fun d t j => (Release.writeTok ES ((lands (.inl (d, t, j)) c, .inl (d, t, j)) : Ky) 1 : sProp 𝕄), ← fam 15 fun d j t => tosend (F := F) c d j t]
  rw [← bigSep_sep', ← bigSep_sep']
  refine Entails.of_eq (congrArg _ (funext fun x => ?_))
  obtain ⟨d, j, t⟩ := x
  show (iprop(dutyTok ER (gS d c t.val j) (t.val / 4) 0 ∗ dutyTok ER (gR d (nb d c) t.val j) (t.val / 4) 0 ∗ Release.writeTok ES ((nb d c, .inl (d, t, j)) : Ky) 1) : sProp 𝕄)
    = iprop(dutyTok ER (gS d c t.val j) (t.val / 4) 0 ∗ dutyTok ER (gR d (nb d c) t.val j) (t.val / 4) 0 ∗ Release.writeTok ES (keyT d (nb d c) t.val j) 1)
  rw [keyT_val]

/-- The counts of the landing places. -/
theorem start_read (c : Dev nD) :
    (bigSep Finset.univ fun x : Bool × Fin 15 × Fin 4 => (Release.readerAt ES ((c, .inl x) : Ky) 0 : sProp 𝕄))
      ⊢ bigSep Finset.univ fun p : Bool × Fin 4 => bigSep (Finset.Ico 0 15) fun t => Release.readerAt ES (keyT p.1 c t p.2) 0 := by
  rw [swap3 fun d t j => (Release.readerAt ES ((c, .inl (d, t, j)) : Ky) 0 : sProp 𝕄), ← fam 15 fun d j t => (Release.readerAt ES (keyT d c t j) 0 : sProp 𝕄)]
  refine Entails.of_eq (congrArg _ (funext fun x => ?_))
  obtain ⟨d, j, t⟩ := x
  show (Release.readerAt ES ((c, .inl (d, t, j)) : Ky) 0 : sProp 𝕄) = Release.readerAt ES (keyT d c t.val j) 0
  rw [keyT_val]

/-- The tiles of both rings, tile by tile. -/
theorem start_tiles (c : Dev nD) :
    iprop(ringAny (F := F) c true ∗ ringAny (F := F) c false)
      ⊢ bigSep Finset.univ fun p : Bool × Fin 4 => iprop(tileAny c p.1 0 p.2 ∗ tileAny c p.1 1 p.2 ∗ tileAny c p.1 2 p.2 ∗ tileAny c p.1 3 p.2) := by
  have e (d : Bool) : (bigSep Finset.univ fun p : Fin 4 × Fin 4 => tileAny (F := F) c d p.1 p.2)
      = bigSep Finset.univ fun j : Fin 4 => iprop(tileAny c d 0 j ∗ tileAny c d 1 j ∗ tileAny c d 2 j ∗ tileAny c d 3 j) := by
    rw [bigSep_univ_equiv (Equiv.prodComm (Fin 4) (Fin 4)), bigSep_univ_prod]
    exact congrArg _ (funext fun j => four fun σ => tileAny c d σ j)
  rw [bigSep_univ_prod, bool2]
  exact BIClass.sep_mono ((ring_split c true).trans (Entails.of_eq (e true))) ((ring_split c false).trans (Entails.of_eq (e false)))

/-- A device's tiles, complete. -/
theorem start_lanes (c : Dev nD) :
    iprop((bigSep Finset.univ fun p : Bool × Fin 4 => bigSep (Finset.Ico 0 4) fun t => posS (F := F) c p.1 p.2 t)
        ∗ (bigSep Finset.univ fun p : Bool × Fin 4 => bigSep (Finset.Ico 0 4) fun t => posR (F := F) c p.1 p.2 t)
        ∗ (bigSep Finset.univ fun p : Bool × Fin 4 => bigSep (Finset.Ico 0 15) fun t => tosend (F := F) c p.1 p.2 t)
        ∗ (bigSep Finset.univ fun p : Bool × Fin 4 => bigSep (Finset.Ico 0 15) fun t => cred (tallyAt (gR p.1 c t p.2) t NT))
        ∗ (bigSep Finset.univ fun p : Bool × Fin 4 => bigSep (Finset.Ico 0 15) fun t => Release.readerAt ES (keyT p.1 c t p.2) 0)
        ∗ bigSep Finset.univ fun p : Bool × Fin 4 => iprop(tileAny c p.1 0 p.2 ∗ tileAny c p.1 1 p.2 ∗ tileAny c p.1 2 p.2 ∗ tileAny c p.1 3 p.2))
      ⊢ iprop((bigSep Finset.univ fun j : Fin 4 => lane0 (F := F) c true j) ∗ (bigSep Finset.univ fun j : Fin 4 => lane0 (F := F) c false j)) := by
  have e : (bigSep Finset.univ fun p : Bool × Fin 4 => lane0 (F := F) c p.1 p.2)
      = iprop((bigSep Finset.univ fun j : Fin 4 => lane0 (F := F) c true j) ∗ (bigSep Finset.univ fun j : Fin 4 => lane0 (F := F) c false j)) := by
    rw [bigSep_univ_prod, bool2]
  rw [← e]
  unfold lane0
  rw [← bigSep_sep', ← bigSep_sep', ← bigSep_sep', ← bigSep_sep', ← bigSep_sep']

/-! ## The start -/

variable (X : Dev nD → Vec F S4096x256 .bf16) (W : Dev nD → Vec F S256x2048 .bf16)

/-- The buffers a device starts with: its scratch, its staged arguments and its result's place, at any contents where
    nothing is said. -/
def buffers (c : Dev nD) : sProp 𝕄 :=
  iprop((ringAny (F := F) c true ∗ ringAny (F := F) c false) ∗ stagesAny (F := F) c ∗ wbAny (F := F) c ∗ amaxAny (F := F) c ∗ oAny (F := F) c ∗ xPts X c ∗ wPts W c)

/-- A ring's credits at the start, -/
theorem start_credSt (c : Dev nD) :
    iprop((bigSep Finset.univ fun d : Bool => (atStart c (cCred d) : sProp 𝕄)) ∗ bigSep Finset.univ fun d : Bool => bigSep (Finset.Ico 0 12) fun k => cred (tallyAt (cell c (cCred d)) k 1))
      ⊢ iprop(credSt (F := F) c true 0 ∗ credSt (F := F) c false 0) := by
  have h (d : Bool) : iprop((atStart c (cCred d) : sProp 𝕄) ∗ bigSep (Finset.Ico 0 12) fun k => cred (tallyAt (cell c (cCred d)) k 1)) ⊢ credSt (F := F) c d 0 := by
    unfold credSt
    rw [if_pos (by decide)]
    iintro ⟨⟨Ha, -⟩, Hc⟩
    isplitl [Ha]
    · iexists (∅ : Finset ℕ)
      isplitl; · iexact Ha
      rw [bigSep_empty]; iempintro
    iexact Hc
  rw [bool2, bool2]
  iintro ⟨⟨Ht, Hf⟩, Hct, Hcf⟩
  isplitl [Ht Hct]
  · iapply (h true); isplitl [Ht] <;> iassumption
  · iapply (h false); isplitl [Hf] <;> iassumption
/-- the rights to give them, -/
theorem start_sigT (c : Dev nD) :
    (bigSep Finset.univ fun x : Bool × Fin 12 => (right (whose (.inr (.inr (.inl x))) c) (.inr (.inr (.inl x))) : sProp 𝕄))
      ⊢ iprop(sigT (F := F) c true 0 ∗ sigT (F := F) c false 0) := by
  have h (d : Bool) : (bigSep Finset.univ fun k : Fin 12 => (right (whose (.inr (.inr (.inl (d, k)))) c) (.inr (.inr (.inl (d, k)))) : sProp 𝕄)) = sigT (F := F) c d 0 :=
    fin_Ico 12 fun k => (dutyTok ER (cell (pv d c) (cCred d)) 0 k : sProp 𝕄)
  rw [bigSep_univ_prod, bool2, h, h]
/-- and the exchanges. -/
theorem start_exch (c : Dev nD) :
    iprop((bigSep Finset.univ fun x : Fin 2 × Fin 3 => (atStart c (cSendM x.1 x.2) : sProp 𝕄)) ∗ (bigSep Finset.univ fun x : Fin 2 × Fin 3 => atStart c (cRecvM x.1 x.2))
        ∗ (bigSep Finset.univ fun x : Fin 2 × Fin 3 => cred (tallyAt (cell c (cRecvM x.1 x.2)) 0 NM))
        ∗ (bigSep Finset.univ fun x : Fin 2 × Fin 3 => right (whose (.inr (.inr (.inr (.inr (.inl x))))) c) (.inr (.inr (.inr (.inr (.inl x))))))
        ∗ (bigSep Finset.univ fun x : Fin 2 × Fin 3 => right (whose (.inr (.inr (.inr (.inr (.inr x))))) c) (.inr (.inr (.inr (.inr (.inr x))))))
        ∗ bigSep Finset.univ fun x : Fin 2 × Fin 3 => Release.writeTok ES ((lands (.inr x) c, .inr x) : Ky) 1)
      ⊢ all0 (F := F) c := by
  have h (x : Fin 2 × Fin 3) : iprop((atStart c (cSendM x.1 x.2) : sProp 𝕄) ∗ atStart c (cRecvM x.1 x.2) ∗ cred (tallyAt (cell c (cRecvM x.1 x.2)) 0 NM)
        ∗ right (whose (.inr (.inr (.inr (.inr (.inl x))))) c) (.inr (.inr (.inr (.inr (.inl x)))))
        ∗ right (whose (.inr (.inr (.inr (.inr (.inr x))))) c) (.inr (.inr (.inr (.inr (.inr x)))))
        ∗ Release.writeTok ES ((lands (.inr x) c, .inr x) : Ky) 1) ⊢ exch0 (F := F) c x.1 x.2 := by
    obtain ⟨k, i⟩ := x
    unfold exch0
    iintro ⟨⟨Ha, -⟩, ⟨Hb, -⟩, Hc, Hd, He, Hf⟩
    isplitl [Ha]; · iexact Ha
    isplitl [Hb]; · iexact Hb
    isplitl [Hc]; · iexact Hc
    isplitl [Hd]; · iexact Hd
    isplitl [He]; · iexact He
    iexact Hf
  have e : iprop(exch0 (F := F) c 0 0 ∗ exch0 c 0 1 ∗ exch0 c 0 2 ∗ exch0 c 1 0 ∗ exch0 c 1 1 ∗ exch0 c 1 2) ⊢ all0 (F := F) c := by
    iintro ⟨H1, H2, H3, H4, H5, H6⟩
    isplitl [H1 H2 H3]
    · isplitl [H1]; · iexact H1
      isplitl [H2] <;> iassumption
    · isplitl [H4]; · iexact H4
      isplitl [H5] <;> iassumption
  rw [← bigSep_sep', ← bigSep_sep', ← bigSep_sep', ← bigSep_sep', ← bigSep_sep']
  refine BIBase.Entails.trans (bigSep_mono fun x _ => h x) ?_
  rw [six]
  exact e

/-- All together. -/
theorem begins_intro (c : Dev nD) : iprop(mine c ∗ dues c ∗ buffers X W c ∗ OW c (O0 c)) ⊢ begins X W c := by
  unfold mine dues buffers begins ini
  rw [kinds, duties, bigSep_univ_sum (fun y : Pl => (Release.readerAt ES ((c, y) : Ky) 0 : sProp 𝕄)),
    bigSep_univ_sum (fun y : Pl => (Release.writeTok ES ((lands y c, y) : Ky) 1 : sProp 𝕄)), bigSep_sep' Finset.univ (fun k : Fin 2 × Fin 3 => stageAny (F := F) c k.1 k.2)]
  show iprop((_ ∗ _ ∗ _ ∗ _ ∗ _ ∗ _) ∗ (_ ∗ _ ∗ _ ∗ (_ ∗ _) ∗ _ ∗ _) ∗ (_ ∗ _) ∗ (_ ∗ _)) ∗ _ ⊢ _
  iintro ⟨⟨⟨Hs, Hr, Hc, ⟨Hb, -⟩, HsM, HrM⟩, ⟨HdS, HdR, HdC, ⟨HdT, HdF⟩, HdSM, HdRM⟩, ⟨HrdT, HrdM⟩, ⟨HwT, HwM⟩⟩, ⟨HcL, HcC, HcB, HcM⟩,
    ⟨Hrings, Hst, Hwb, Ham, Ho, Hx, Hw⟩, HO⟩
  ihave Hs := (start_send (F := F) c) $$ Hs
  ihave Hr := (start_recv (F := F) c) $$ Hr
  ihave Hts := (start_tosend (F := F) c) $$ [HdS HdR HwT]
  · isplitl [HdS]; · iexact HdS
    isplitl [HdR] <;> iassumption
  ihave HrdT := (start_read (F := F) c) $$ HrdT
  ihave Htl := (start_tiles (F := F) c) $$ Hrings
  isplitr [Ham Ho HsM HrM HcM HdSM HdRM HwM]
  · isplitl [Hs Hr Hts HrdT Htl HcL]
    · iapply (start_lanes (F := F) c)
      isplitl [Hs]; · iexact Hs
      isplitl [Hr]; · iexact Hr
      isplitl [Hts]; · iexact Hts
      isplitl [HcL]; · iexact HcL
      isplitl [HrdT] <;> iassumption
    isplitl [Hst HrdM]
    · isplitl [Hst]
      · iapply (stages_split (F := F) c) $$ Hst
      · iexact HrdM
    isplitl [HdT HdF HcB Hb]
    · isplitl [HdT]; · iexact HdT
      isplitl [HdF]; · iexact HdF
      isplitl [HcB] <;> iassumption
    isplitl [Hc HcC]
    · iapply (start_credSt (F := F) c)
      isplitl [Hc] <;> iassumption
    isplitl [HdC]
    · iapply (start_sigT (F := F) c) $$ HdC
    isplitl [Hx]; · iexact Hx
    isplitl [Hw]; · iexact Hw
    isplitl [Hwb] <;> iassumption
  · isplitl [Ham]; · iexact Ham
    isplitl [Ho]; · iexact Ho
    iapply (start_exch (F := F) c)
    isplitl [HsM]; · iexact HsM
    isplitl [HrM]; · iexact HrM
    isplitl [HcM]; · iexact HcM
    isplitl [HdSM]; · iexact HdSM
    isplitl [HdRM] <;> iassumption

end Cert.KernelIdeal.Body

end
-- ==== Proof.End.lean ====
/- What a device ends its kernel with, given back: every semaphore closed at zero and the scratch
   buffers whole. -/
module

public import proofs.«01_k».proof.Proof.Begin

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x256 .bf16) (W : Dev nD → Vec F S256x2048 .bf16)
variable (K : Dev nD × Cid → ℕ) (ιs : Ky → ℕ)

/-- A semaphore past its last round closes at zero. -/
theorem close (c : Dev nD) (x : Cid) (R : ℕ) (h : ∀ r, R ≤ r → dts x r = ∅) :
    iprop(records X W K ιs ∗ atPos ER (cell c x) R ∅ 0) ⊢ (|={Set.univ}=> semVal (cell c x) 0 : sProp 𝕄) := by
  iintro ⟨#Hrec, Hat⟩
  ihave #Hi := (rec_cell X W K ιs c x) $$ Hrec
  imod (Rounds.cell_close ER (Rd X W) (Set.mem_univ (K (c, x))) (fun h => h) (R := R) (fun r hr => (Rd_duties X W c x r).trans (h r hr))) $$ [Hat] with Hz
  · isplitr; · iexact Hi
    iexact Hat
  imodintro; iexact Hz

theorem send_over (d : Bool) (j : Fin 4) (t : ℕ) (ht : 15 ≤ t) (r : ℕ) (hr : t / 4 ≤ r) : dts (cSend d (slot t) j) r = ∅ := by
  have : (slot t).val = t % 4 := rfl
  show (if 4 * r + (slot t).val < 15 then {0} else ∅) = _
  rw [if_neg (by omega)]
theorem recv_over (d : Bool) (j : Fin 4) (t : ℕ) (ht : 15 ≤ t) (r : ℕ) (hr : t / 4 ≤ r) : dts (cRecv d (slot (t + 1)) j) r = ∅ := by
  have : (slot (t + 1)).val = (t + 1) % 4 := rfl
  show (if 4 * r + ((slot (t + 1)).val + 3) % 4 < 15 then {0} else ∅) = _
  rw [if_neg (by omega)]
theorem once_over {S : Finset ℕ} (r : ℕ) (hr : 1 ≤ r) : (if r = 0 then S else ∅) = ∅ := if_neg (by omega)

theorem four_last (Φ : ℕ → sProp 𝕄) : bigSep (Finset.Ico 15 19) Φ = iprop(Φ 15 ∗ Φ 16 ∗ Φ 17 ∗ Φ 18) :=
  bigSep_eq_bigSepL_of_eq [15, 16, 17, 18] (by decide) (by decide) Φ
theorem three_last (Φ : ℕ → sProp 𝕄) : bigSep (Finset.Ico 12 15) Φ = iprop(Φ 12 ∗ Φ 13 ∗ Φ 14) :=
  bigSep_eq_bigSepL_of_eq [12, 13, 14] (by decide) (by decide) Φ

/-- A tile given back: its semaphores at zero and its place in every slot. -/
def laneBack (c : Dev nD) (d : Bool) (j : Fin 4) : sProp 𝕄 :=
  iprop((bigSep Finset.univ fun σ : Fin 4 => semVal (cell c (cSend d σ j)) 0) ∗ (bigSep Finset.univ fun σ : Fin 4 => semVal (cell c (cRecv d σ j)) 0)
    ∗ bigSep Finset.univ fun σ : Fin 4 => tileAny c d σ j)

theorem lane_close (c : Dev nD) (d : Bool) (j : Fin 4) : iprop(records X W K ιs ∗ laneZ c d j) ⊢ (|={Set.univ}=> laneBack c d j : sProp 𝕄) := by
  have hs (t : ℕ) (ht : 15 ≤ t) : iprop(records X W K ιs ∗ posS c d j t) ⊢ (|={Set.univ}=> semVal (cell c (cSend d (slot t) j)) 0 : sProp 𝕄) := by
    unfold posS
    iintro ⟨#Hrec, Hat, -⟩
    iapply (close X W K ιs c (cSend d (slot t) j) (t / 4) (send_over d j t ht))
    isplitr; · iexact Hrec
    iexact Hat
  have hr (t : ℕ) (ht : 15 ≤ t) : iprop(records X W K ιs ∗ posR c d j t) ⊢ (|={Set.univ}=> semVal (cell c (cRecv d (slot (t + 1)) j)) 0 : sProp 𝕄) := by
    unfold posR
    iintro ⟨#Hrec, Hat, -⟩
    iapply (close X W K ιs c (cRecv d (slot (t + 1)) j) (t / 4) (recv_over d j t ht))
    isplitr; · iexact Hrec
    iexact Hat
  unfold laneZ lb laneBack
  rw [show 15 + 4 = 19 from rfl, four_last, four_last, three_last, four, four, four]
  iintro ⟨#Hrec, ⟨⟨S0, S1, S2, S3⟩, ⟨R0, R1, R2, R3⟩, -, -, -, ⟨T0, T1, T2⟩⟩, T3⟩
  imod (hs 15 (by decide)) $$ [S0] with S0
  · isplitr; · iexact Hrec
    iexact S0
  imod (hs 16 (by decide)) $$ [S1] with S1
  · isplitr; · iexact Hrec
    iexact S1
  imod (hs 17 (by decide)) $$ [S2] with S2
  · isplitr; · iexact Hrec
    iexact S2
  imod (hs 18 (by decide)) $$ [S3] with S3
  · isplitr; · iexact Hrec
    iexact S3
  imod (hr 15 (by decide)) $$ [R0] with R0
  · isplitr; · iexact Hrec
    iexact R0
  imod (hr 16 (by decide)) $$ [R1] with R1
  · isplitr; · iexact Hrec
    iexact R1
  imod (hr 17 (by decide)) $$ [R2] with R2
  · isplitr; · iexact Hrec
    iexact R2
  imod (hr 18 (by decide)) $$ [R3] with R3
  · isplitr; · iexact Hrec
    iexact R3
  imodintro
  isplitl [S0 S1 S2 S3]
  · isplitl [S1]; · iexact S1
    isplitl [S2]; · iexact S2
    isplitl [S3]; · iexact S3
    iexact S0
  isplitl [R0 R1 R2 R3]
  · isplitl [R0]; · iexact R0
    isplitl [R1]; · iexact R1
    isplitl [R2]; · iexact R2
    iexact R3
  isplitl [T0]; · iexact T0
  isplitl [T1]; · iexact T1
  isplitl [T2]; · iexact T2
  iexact T3

/-- All tiles. -/
theorem lanes_close (c : Dev nD) :
    iprop(records X W K ιs ∗ lanesZ c true ∗ lanesZ c false)
      ⊢ (|={Set.univ}=> iprop((bigSep Finset.univ fun x : Bool × Fin 4 × Fin 4 => semVal (cell c (cSend x.1 x.2.1 x.2.2)) 0)
          ∗ (bigSep Finset.univ fun x : Bool × Fin 4 × Fin 4 => semVal (cell c (cRecv x.1 x.2.1 x.2.2)) 0)
          ∗ ringAny (F := F) c true ∗ ringAny (F := F) c false) : sProp 𝕄) := by
  have e : iprop(lanesZ (F := F) c true ∗ lanesZ c false) = bigSep Finset.univ fun p : Bool × Fin 4 => laneZ (F := F) c p.1 p.2 := by
    rw [bigSep_univ_prod, bool2, four, four]
  have h : iprop(records X W K ιs ∗ bigSep Finset.univ fun p : Bool × Fin 4 => laneZ (F := F) c p.1 p.2)
      ⊢ (|={Set.univ}=> bigSep Finset.univ fun p : Bool × Fin 4 => laneBack (F := F) c p.1 p.2 : sProp 𝕄) :=
    BIBase.Entails.trans (with_persistent fun p _ => lane_close X W K ιs c p.1 p.2) (bigSep_fupd _ _)
  have fam' (Φ : Bool → Fin 4 → Fin 4 → sProp 𝕄) : (bigSep Finset.univ fun p : Bool × Fin 4 => bigSep Finset.univ fun σ : Fin 4 => Φ p.1 σ p.2)
      = bigSep Finset.univ fun x : Bool × Fin 4 × Fin 4 => Φ x.1 x.2.1 x.2.2 := by
    rw [swap3 fun d σ j => Φ d σ j, bigSep_univ_equiv (Equiv.prodAssoc Bool (Fin 4) (Fin 4)),
      bigSep_univ_prod fun y : (Bool × Fin 4) × Fin 4 => (fun x : Bool × Fin 4 × Fin 4 => Φ x.1 x.2.2 x.2.1) (Equiv.prodAssoc Bool (Fin 4) (Fin 4) y)]
    rfl
  have ht : (bigSep Finset.univ fun x : Bool × Fin 4 × Fin 4 => tileAny (F := F) c x.1 x.2.1 x.2.2) ⊢ iprop(ringAny (F := F) c true ∗ ringAny (F := F) c false) := by
    rw [bigSep_univ_prod, bool2]
    exact BIClass.sep_mono (ring_join c true) (ring_join c false)
  rw [e]
  iintro H
  imod h $$ H with H
  imodintro
  ihave H := (show (bigSep Finset.univ fun p : Bool × Fin 4 => laneBack (F := F) c p.1 p.2) ⊢ iprop((bigSep Finset.univ fun x : Bool × Fin 4 × Fin 4 => semVal (cell c (cSend x.1 x.2.1 x.2.2)) 0)
          ∗ (bigSep Finset.univ fun x : Bool × Fin 4 × Fin 4 => semVal (cell c (cRecv x.1 x.2.1 x.2.2)) 0)
          ∗ (bigSep Finset.univ fun x : Bool × Fin 4 × Fin 4 => tileAny (F := F) c x.1 x.2.1 x.2.2)) from by
      unfold laneBack
      rw [bigSep_sep', bigSep_sep', fam' fun d σ j => (semVal (cell c (cSend d σ j)) 0 : sProp 𝕄), fam' fun d σ j => (semVal (cell c (cRecv d σ j)) 0 : sProp 𝕄),
        fam' fun d σ j => tileAny (F := F) c d σ j]) $$ H
  icases H with ⟨HS, HR, HT⟩
  isplitl [HS]; · iexact HS
  isplitl [HR]; · iexact HR
  iapply ht $$ HT

/-- The exchanges given back. -/
theorem exch_close (c : Dev nD) :
    iprop(records X W K ιs ∗ all1 c)
      ⊢ (|={Set.univ}=> iprop((bigSep Finset.univ fun x : Fin 2 × Fin 3 => semVal (cell c (cSendM x.1 x.2)) 0)
          ∗ (bigSep Finset.univ fun x : Fin 2 × Fin 3 => semVal (cell c (cRecvM x.1 x.2)) 0) ∗ stagesAny (F := F) c) : sProp 𝕄) := by
  have e : all1 (F := F) c ⊢ bigSep Finset.univ fun x : Fin 2 × Fin 3 => exch1 (F := F) c x.1 x.2 := by
    rw [six]
    iintro ⟨⟨H1, H2, H3⟩, H4, H5, H6⟩
    isplitl [H1]; · iexact H1
    isplitl [H2]; · iexact H2
    isplitl [H3]; · iexact H3
    isplitl [H4]; · iexact H4
    isplitl [H5] <;> iassumption
  have h1 (x : Fin 2 × Fin 3) : iprop(records X W K ιs ∗ exch1 c x.1 x.2)
      ⊢ (|={Set.univ}=> iprop(semVal (cell c (cSendM x.1 x.2)) 0 ∗ semVal (cell c (cRecvM x.1 x.2)) 0 ∗ stageAny (F := F) c x.1 x.2) : sProp 𝕄) := by
    unfold exch1
    iintro ⟨#Hrec, Ha, Hb, Hs⟩
    imod (close X W K ιs c (cSendM x.1 x.2) 1 fun r hr => once_over r hr) $$ [Ha] with Ha
    · isplitr; · iexact Hrec
      iexact Ha
    imod (close X W K ιs c (cRecvM x.1 x.2) 1 fun r hr => once_over r hr) $$ [Hb] with Hb
    · isplitr; · iexact Hrec
      iexact Hb
    imodintro
    isplitl [Ha]; · iexact Ha
    isplitl [Hb] <;> iassumption
  have h : iprop(records X W K ιs ∗ bigSep Finset.univ fun x : Fin 2 × Fin 3 => exch1 (F := F) c x.1 x.2)
      ⊢ (|={Set.univ}=> bigSep Finset.univ fun x : Fin 2 × Fin 3 => iprop(semVal (cell c (cSendM x.1 x.2)) 0 ∗ semVal (cell c (cRecvM x.1 x.2)) 0 ∗ stageAny (F := F) c x.1 x.2) : sProp 𝕄) :=
    BIBase.Entails.trans (with_persistent fun x _ => h1 x) (bigSep_fupd _ _)
  rw [bigSep_sep', bigSep_sep'] at h
  iintro ⟨#Hrec, H⟩
  ihave H := e $$ H
  imod h $$ [H] with ⟨HS, HR, HT⟩
  · isplitr; · iexact Hrec
    iexact H
  imodintro
  isplitl [HS]; · iexact HS
  isplitl [HR]; · iexact HR
  iapply (stages_join (F := F) c) $$ HT

/-- What is left at the end: all semaphores at zero, the scratch whole, the arguments and the result. -/
def left (c : Dev nD) : sProp 𝕄 :=
  iprop((bigSep Finset.univ fun x : Cid => semVal (cell c x) 0) ∗ (wbAny (F := F) c ∗ ringAny (F := F) c true ∗ ringAny (F := F) c false ∗ amaxAny (F := F) c ∗ stagesAny (F := F) c)
    ∗ xPts X c ∗ wPts W c ∗ oPts X W c ∗ OW c 0)

theorem ends_elim (c : Dev nD) : iprop(records X W K ιs ∗ ends X W c) ⊢ (|={Set.univ}=> left X W c : sProp 𝕄) := by
  have hc (d : Bool) : credSt (F := F) c d 12 ⊢ atPos ER (cell c (cCred d)) 1 ∅ 0 := by
    unfold credSt; rw [if_neg (by decide)]
    iintro ⟨H, -⟩; iexact H
  unfold ends
  iintro ⟨#Hrec, HL, ⟨Hct, Hcf⟩, Hb, HM, Hx, Hw, Hwb, Ham, Ho, HO⟩
  imod (lanes_close X W K ιs c) $$ [HL] with ⟨HS, HR, Hrt, Hrf⟩
  · isplitr; · iexact Hrec
    iexact HL
  imod (exch_close X W K ιs c) $$ [HM] with ⟨HSM, HRM, Hst⟩
  · isplitr; · iexact Hrec
    iexact HM
  ihave Hct := (hc true) $$ Hct
  ihave Hcf := (hc false) $$ Hcf
  imod (close X W K ιs c (cCred true) 1 fun r hr => once_over r hr) $$ [Hct] with Hct
  · isplitr; · iexact Hrec
    iexact Hct
  imod (close X W K ιs c (cCred false) 1 fun r hr => once_over r hr) $$ [Hcf] with Hcf
  · isplitr; · iexact Hrec
    iexact Hcf
  imod (close X W K ιs c cBar 1 fun r hr => once_over r hr) $$ [Hb] with Hb
  · isplitr; · iexact Hrec
    iexact Hb
  imodintro
  unfold left
  isplitl [HS HR Hct Hcf Hb HSM HRM]
  · rw [kinds, bool2]
    isplitl [HS]; · iexact HS
    isplitl [HR]; · iexact HR
    isplitl [Hct Hcf]
    · isplitl [Hct] <;> iassumption
    isplitl [Hb]; · iexact Hb
    isplitl [HSM] <;> iassumption
  isplitl [Hwb Hrt Hrf Ham Hst]
  · isplitl [Hwb]
    · unfold wbPts wbAny; iexists (W c); iexact Hwb
    isplitl [Hrt]; · iexact Hrt
    isplitl [Hrf]; · iexact Hrf
    isplitl [Ham] <;> iassumption
  isplitl [Hx]; · iexact Hx
  isplitl [Hw]; · iexact Hw
  isplitl [Ho] <;> iassumption

end Cert.KernelIdeal.Body

end
-- ==== Proof.Run.lean ====
/- The kernel on the mesh: the launch, and what every run ends with. -/
module

public import proofs.«01_k».proof.Proof.End
public import proofs.«01_k».proof.Proof.Gen.KernelIdeal.Points
public import Idealize.ShloMosaic.Lib.Pipeline.CollectiveSegs

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory the run starts from. -/
abbrev from₀ : MemSt nD τ sig (Elt F) := ⟨m, fun _ => 0, ρ⟩

/-- A device's block of the left factor, as staged, -/
def xin (c : Dev nD) : Vec F S4096x256 .bf16 := (win0_0.blk (0 : Fin 1)).view.read (Elt F) (m ((c : Thread nD τ).loc main_arg0))
/-- and of the right factor. -/
def win (c : Dev nD) : Vec F S256x2048 .bf16 := (win0_1.blk (0 : Fin 1)).view.read (Elt F) (m ((c : Thread nD τ).loc main_arg1))

/-- Each device starts knowing the protocol, holding its part of it and its credits. -/
def begun (c : Dev nD) : sProp 𝕄 :=
  iprop((∃ K ιs, records (xin m) (win m) K ιs ∗ mine c) ∗ dues c)
/-- The scratch buffers at any contents. -/
def scratch (c : Dev nD) : sProp 𝕄 :=
  iprop(wbAny (F := F) c ∗ ringAny (F := F) c true ∗ ringAny (F := F) c false ∗ amaxAny (F := F) c ∗ stagesAny (F := F) c)
def before₀ (c : Dev nD) : sProp 𝕄 := iprop(begun m c ∗ scratch (F := F) c)
def after₀ (c : Dev nD) : sProp 𝕄 :=
  iprop((bigSep Finset.univ fun x : Cid => semVal (cell c x) 0) ∗ scratch (F := F) c)

def dats (_ : Fin 1) (c : Dev nD) : Dat τ (Elt F) ℕ ℕ UU ℕ cfg0 c where
  A w := m ((cfg0.win w).arr.view.loc (c : Thread nD τ))
  after w _ := match w with
    | ⟨0, _⟩ => xin m c
    | ⟨1, _⟩ => win m c
    | ⟨2, _⟩ => outv (xin m) (win m) c
  Φ t := match t with
    | ⟨0, _⟩ => before₀ m c
    | ⟨_ + 1, _⟩ => after₀ (F := F) c
  q _ := fullShare
  owed t := match t with
    | ⟨0, _⟩ => O0 c
    | ⟨_ + 1, _⟩ => 0

theorem share_eq (c : Dev nD) (w : Fin cfg0.W) : (dats m 0 c).share w = fullShare := by unfold Dat.share; split <;> rfl

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A staging buffer at given contents. -/
abbrev held (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

/-- A program's end, with an update done there. -/
theorem wp_after (c : Dev nD) {p : Pg F PUnit} {P R R' : sProp 𝕄} (h : P ⊢ WP c p (fun _ => R)) (hR : R ⊢ (|={Set.univ}=> R' : sProp 𝕄)) :
    P ⊢ WP c p (fun _ => R') :=
  h.trans ((wp_mono Idealize.ShloMosaic.frame (wpE (defs₀ (F := F)) 𝒱₀ (c : Thread nD τ) none) Set.univ fun _ => hR).trans
    (wp_fupd Idealize.ShloMosaic.frame (wpE (defs₀ (F := F)) 𝒱₀ (c : Thread nD τ) none) Set.univ _ _))

/-- The body with its update. -/
theorem wp_whole (c : Dev nD) : iprop(begun m c ∗ scratch (F := F) c ∗ xPts (xin m) c ∗ wPts (win m) c ∗ oAny (F := F) c ∗ OW c (O0 c))
    ⊢ WP c (body xM wM oM) (fun _ => left (xin m) (win m) c) := by
  unfold begun scratch
  iintro ⟨⟨⟨%K, %ιs, #Hrec, Hm⟩, Hd⟩, ⟨Hwb, Hrt, Hrf, Ham, Hst⟩, Hx, Hw, Ho, HO⟩
  have hb := begins_intro (xin m) (win m) c
  unfold buffers at hb
  ihave Hb := hb $$ [Hm Hd Hwb Hrt Hrf Ham Hst Hx Hw Ho HO]
  · isplitl [Hm]; · iexact Hm
    isplitl [Hd]; · iexact Hd
    isplitr [HO]
    · isplitl [Hrt Hrf]
      · isplitl [Hrt] <;> iassumption
      isplitl [Hst]; · iexact Hst
      isplitl [Hwb]; · iexact Hwb
      isplitl [Ham]; · iexact Ham
      isplitl [Ho]; · iexact Ho
      isplitl [Hx] <;> iassumption
    iexact HO
  have hw : iprop(records (xin m) (win m) K ιs ∗ begins (xin m) (win m) c) ⊢ WP c (body xM wM oM) (fun _ => left (xin m) (win m) c) :=
    wp_after c (wp_body (xin m) (win m) K ιs c) (ends_elim (xin m) (win m) K ιs c)
  iapply hw
  isplitr; · iexact Hrec
  iexact Hb

set_option maxRecDepth 4000 in
def pre (c : Dev nD) : sProp 𝕄 :=
  iprop(before₀ m c ∗ (dats m 0 c).owesAt 0 t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))
set_option maxRecDepth 4000 in
def post (c : Dev nD) : sProp 𝕄 :=
  iprop(after₀ (F := F) c ∗ (dats m 0 c).owesAt 0 t0_0.succ ∗ held c cc0_stg0_0 (xin m c) ∗ held c cc0_stg1_0 (win m c)
    ∗ held c cc0_stg2_0 (outv (xin m) (win m) c))

theorem before_0 (c : Dev nD) (d) : (dats m 0 c).before (0 : Fin 3) t0_0 d = xin m c := by
  unfold Dat.before; rw [if_pos (fetch_0 t0_0)]; rfl
theorem before_1 (c : Dev nD) (d) : (dats m 0 c).before (1 : Fin 3) t0_0 d = win m c := by
  unfold Dat.before; rw [if_pos (fetch_1 t0_0)]; rfl

theorem wp_all (c : Dev nD) : pre m c ⊢ WP c (body xM wM oM) (fun _ => post m c) := by
  unfold pre before₀
  iintro ⟨⟨Hs, Hscr⟩, Ho, ⟨%d0, %f0, %e0, Hx⟩, ⟨%d1, %f1, %e1, Hw⟩, ⟨%d2, %f2, %e2, Hout⟩⟩
  rw [before_0] at e0
  rw [before_1] at e1
  subst e0 e1
  unfold Dat.owesAt Pipeline.owesWithin
  icases Ho with ⟨%V, %hV, HO⟩
  rw [show (dats m 0 c).owed t0_0.castSucc = O0 c from rfl]
  have h : iprop(begun m c ∗ scratch (F := F) c ∗ xPts (xin m) c ∗ wPts (win m) c ∗ oAny (F := F) c ∗ OW c (O0 c))
      ⊢ WP c (body xM wM oM) (fun _ => post m c) := by
    refine wp_after c (wp_whole m c) (BIBase.Entails.trans ?_ fupd_intro)
    unfold left post after₀ xPts wPts oPts OW Dat.owesAt Pipeline.owesWithin
    iintro ⟨Hz, Hscr, Hx, Hw, Ho, ⟨%V', HO⟩⟩
    isplitl [Hz Hscr]
    · isplitl [Hz]; · iexact Hz
      unfold scratch
      iexact Hscr
    isplitl [HO]
    · iexists V'
      isplitr; · (ipureintro; exact fun _ _ => Or.inl trivial)
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho
  iapply h
  isplitl [Hs]; · iexact Hs
  isplitl [Hscr]; · iexact Hscr
  isplitl [Hx]; · unfold xPts; iexact Hx
  isplitl [Hw]; · unfold wPts; iexact Hw
  isplitl [Hout]; · unfold oAny; iexists f2; iexact Hout
  unfold OW
  iexists V; iexact HO

/-- The body the launch runs. -/
theorem row : defs₀ (F := F) .tc cfg0.body (cfg0.bodyArgs t0_0 (cfg0.slots t0_0)) = body xM wM oM :=
  (show defs₀ (F := F) .tc cfg0.body (cfg0.bodyArgs t0_0 (cfg0.slots t0_0)) = bodyAt0 t0_0 from by unfold defs₀; rw [Defs.onTc_tc]).trans (body_eq xM (Memref.isWhole_whole _) wM (Memref.isWhole_whole _) oM (Memref.isWhole_whole _))

attribute [local irreducible] cc0_body body

set_option maxRecDepth 4000 in
/-- The body on any device, as the launch asks for it. -/
theorem body_obligation (c : Dev nD) : BodyObligation (dats (F := F) m 0 c) (defs₀ (F := F)) 𝒱₀ (0 : ℕ) Set.univ := fun t => by
  rw [fin_N0 t]
  rw [bigSep_W, bigSep_W, row]
  simp only [owns_whole]
  exact wp_all m c

/-! ## The launch -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' (xin m) (win m) c)
      ⊢ |={Set.univ}=> iprop(begun m c ∗ emp) := by
  iintro ⟨-, Hlev, Hcr, -, HG⟩
  ihave Hc := (dues_intro (F := F) c) $$ Hcr
  imodintro
  unfold begun G'
  icases HG with ⟨%K, %ιs, HR, Hm⟩
  unfold recs0
  icases HR with ⟨H1, H2, H3⟩
  isplitl
  · isplitr [Hc]
    · iexists K; iexists ιs
      isplitr [Hm]
      · unfold records levs
        isplitl [H1]; · iexact H1
        isplitl [H2]; · iexact H2
        isplitl [H3]; · iexact H3
        iexact Hlev
      iexact Hm
    iexact Hc
  · iempintro

theorem scratch_eq (c : Dev nD) : (Pipeline.scopedRest (Ix := ℕ) (Name := ℕ) (U := UU) (Lvl := ℕ) (Val := Elt F) spec0 c : sProp 𝕄) = scratch (F := F) c := by
  rw [scopedRest0_eq]
  unfold scratch wbAny amaxAny stagesAny
  simp only [amaxPts_eq]
  rfl

theorem phi0_intro (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl]
  unfold before₀
  rw [← scratch_eq]
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ (F := F) c from rfl]
  unfold after₀
  rw [← scratch_eq]
  iintro ⟨Hz, Hr⟩
  ihave Hz := (all_sems (F := F) c) $$ Hz
  icases Hz with ⟨Hu, Ho⟩
  isplitl [Hu]; · iexact Hu
  isplitl [Ho] <;> iassumption

theorem waits (c : Dev nD) : (levAts L lv : sProp 𝕄) ⊢ Pipeline.cellsWaits cfgs (dats m) 0 0 c :=
  Pipeline.cellsWaits_intro cfgs (dats m) 0 0 c fun w s t => by
    have hl : lv ((c : Thread nD τ), .dma ((cfg0.win w).sem s)) 0 = 0 := by
      unfold lv; rw [dec_none fun x => csem_stage x _ (stage_low w s)]
    have hO : Above 0 ((dats m 0 c).owed t) := by
      rcases t with ⟨_ | _, ht⟩
      · refine ((OT_above c _ _ (by decide) (fun _ => by decide) fun _ => by decide).add (Above.tally _ _ _ (by decide) ?_)).add (Above.tally _ _ _ (by decide) ?_)
        · decide
        · decide
      · exact Above.zero 0
    have h := Above.mayWait (F := F) c (.dma ((cfg0.win w).sem s)) 0 (by decide) (by rw [hl]; exact hO)
    unfold levs at h
    exact h

/-! ### The run -/

/-- What a window's array ends with. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On sixteen devices, for any float values and from any memory with its counters at zero: every fair run of the
    program ends, with each array at the contents said and every semaphore at zero. -/
theorem run_main : θ_run defs (onTc (τ := τ) (main (F := F))) (from₀ m ρ) (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O0) (howed₀ := fun _ => rfl) (howedN := fun _ => rfl)
    (L := L) (lv := lv) (hL := L_of_ne) (hwaits := waits m)
    (G := G (xin m) (win m)) (G' := G' (xin m) (win m)) (u₀ := u₀)
    (hu₀ := by
      iintro Hu
      imod (fund (xin m) (win m)) $$ Hu with H
      imodintro
      iexact H)
    (hglob := glob (xin m) (win m))
    (hA := fun _ _ => rfl) (hpf := fun _ k => k.elim0)
    (X := begun m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held, -/
theorem final_0 (c : Dev nD) : finalA m c (0 : Fin 3) = m ((c : Thread nD τ).loc main_arg0) := (dats (F := F) m 0 c).arrAt_in (0 : Fin 3) rfl _
theorem final_1 (c : Dev nD) : finalA m c (1 : Fin 3) = m ((c : Thread nD τ).loc main_arg1) := (dats (F := F) m 0 c).arrAt_in (1 : Fin 3) rfl _

end Cert.KernelIdeal.Body

end
-- ==== Proof.Whole.lean ====
/- The one block of each array is the whole array: what the run reads and leaves, as whole arrays. -/
module

public import proofs.«01_k».proof.Proof.Run
public import Idealize.ShloMosaic.Lib.Pipeline.Value

@[expose] public section

noncomputable section

namespace Cert.KernelIdeal.Body

open Cert.KernelIdeal.Gen
open Idealize.ShloMosaic Idealize.ShloMosaic.TcCoe Idealize.SL.Sem
open Idealize.ShloMosaic.Pipeline (Dat Cfg Window)

variable {F : FTy → Type} [FloatOps F]

/-- The block of `x` a device stages is all it holds. -/
theorem blk_0 (v : (main_arg0).ty.Contents (Elt F)) : (win0_0.blk (0 : Fin 1)).view.read (Elt F) v = v := by
  funext i
  refine congrArg v ?_
  funext a
  exact Fin.ext (Window.rect_emb_val_of_index_zero win0_0 (0 : Fin 1) a (by revert a; decide +kernel) i)
/-- The block of the weights a device stages is all it holds. -/
theorem blk_1 (v : (main_arg1).ty.Contents (Elt F)) : (win0_1.blk (0 : Fin 1)).view.read (Elt F) v = v := by
  funext i
  refine congrArg v ?_
  funext a
  exact Fin.ext (Window.rect_emb_val_of_index_zero win0_1 (0 : Fin 1) a (by revert a; decide +kernel) i)
/-- The block of the result a device writes is all it holds. -/
theorem blk_2 (v : (main_v1).ty.Contents (Elt F)) : (win0_2.blk (0 : Fin 1)).view.read (Elt F) v = v := by
  funext i
  refine congrArg v ?_
  funext a
  exact Fin.ext (Window.rect_emb_val_of_index_zero win0_2 (0 : Fin 1) a (by revert a; decide +kernel) i)

variable (m : (ℓ : Loc nD τ sig) → Buf (Elt F) ℓ)

theorem xin_eq (c : Dev nD) : xin m c = m ((c : Thread nD τ).loc main_arg0) := blk_0 _
theorem win_eq (c : Dev nD) : win m c = m ((c : Thread nD τ).loc main_arg1) := blk_1 _

/-- What a device writes back. -/
theorem flushed_2 (c : Dev nD) : (dats m 0 c).flushed (2 : Fin 3) t0_0 = outv (xin m) (win m) c := by
  have ha : (dats m 0 c).after (2 : Fin 3) t0_0 = outv (xin m) (win m) c := by dsimp only [dats]
  unfold Pipeline.Dat.flushed
  rw [ha]
  rfl

/-- The result array at the end. -/
theorem final_2 (c : Dev nD) : finalA m c (2 : Fin 3) = outv (xin m) (win m) c := by
  have h := (dats m 0 c).read_blk_arrAt (2 : Fin 3) (outv (xin m) (win m) c)
    (fun t _ => by obtain rfl := fin_N0 t; exact (flushed_2 m c).trans (blk_2 (outv (xin m) (win m) c)).symm) t0_0 (flush0_2 _)
  exact (blk_2 (finalA m c (2 : Fin 3))).symm.trans (h.trans (blk_2 _))

end Cert.KernelIdeal.Body

end
-- ==== Proof.Sums.lean ====
/- Over the reals: each device's block of the product, as one sum over the whole arrays. -/
module

public import proofs.«01_k».proof.Proof.Vals
public import Idealize.ShloMosaic.Lib.Pointwise
public import Idealize.ShloMosaic.Lib.Layout
public import Idealize.ShloMosaic.PureOps.Ideal.Laws

@[expose] public section

noncomputable section

namespace Cert.KernelIdeal.Body

open Idealize.ShloMosaic Idealize.ShloMosaic.TcCoe Idealize.SL.Sem
open Cert.KernelIdeal.Gen
open scoped BigOperators

/-! ## The pieces, entry by entry -/

/-- An entry of a product of 256 rows with half of the weights. -/
theorem part_at (xb : Vec Ideal S256x256 .bf16) (wh : Vec Ideal S256x1024 .bf16) (r : Fin 256) (q : Fin 1024) :
    part xb wh (ix2 r q) = ∑ k : Fin 256, xb (ix2 r k) * wh (ix2 k q) := by
  pointwise [part]

/-- An entry of the `b`th 256 rows. -/
theorem rows_at (X : Vec Ideal S4096x256 .bf16) (b : Fin 16) (r k : Fin 256) :
    rows X b (ix2 r k) = X (ix2 (⟨256 * b.val + r.val, by omega⟩ : Fin 4096) k) := by
  refine congrArg X ?_
  funext a
  match a with
  | ⟨0, _⟩ => exact Fin.ext (by show 256 * b.val + 1 * r.val = 256 * b.val + r.val; omega)
  | ⟨1, _⟩ => exact Fin.ext (by show 0 + 1 * k.val = k.val; omega)

/-- Where a ring's half of the columns begins. -/
def lo (d : Bool) : ℕ := if d then 0 else 1024
theorem lo_le (d : Bool) : lo d ≤ 1024 := by cases d <;> decide

/-- An entry of a ring's half of the weights. -/
theorem half_at (W : Vec Ideal S256x2048 .bf16) (d : Bool) (k : Fin 256) (q : Fin 1024) :
    half d W (ix2 k q) = W (ix2 k (⟨lo d + q.val, by have := lo_le d; omega⟩ : Fin 2048)) := by
  refine congrArg W ?_
  funext a
  match a with
  | ⟨0, _⟩ => exact Fin.ext (by show 0 + 1 * k.val = k.val; omega)
  | ⟨1, _⟩ => exact Fin.ext (by cases d <;> (show _ + 1 * q.val = _; simp [lo]))

/-- An entry of a tile cut from a product. -/
theorem cut_at (j : Fin 4) (p : FVec Ideal S256x1024 .f32) (r k : Fin 256) :
    cut j p (ix2 r k) = p (ix2 r (⟨256 * j.val + k.val, by omega⟩ : Fin 1024)) := by
  pointwise [cut]

/-! ## The sum that travels a ring -/

variable (X : Dev nD → Vec Ideal S4096x256 .bf16) (W : Dev nD → Vec Ideal S256x2048 .bf16)

/-- The device `s` places back on a ring. -/
def back (d : Bool) : ℕ → Dev nD → Dev nD
  | 0, c => c
  | s + 1, c => back d s (pv d c)

/-- Message `t` holds the products of the last `t + 1` devices. -/
theorem acc_at (d : Bool) (t : ℕ) : ∀ (c : Dev nD) (j : Fin 4) (r k : Fin 256),
    acc X W d t c j (ix2 r k) = ∑ s ∈ Finset.range (t + 1), pr X W d (back d s c) (t - s) (ix2 r (⟨256 * j.val + k.val, by omega⟩ : Fin 1024)) := by
  induction t with
  | zero => intro c j r k; rw [Finset.sum_range_one]; refine Eq.trans ?_ (cut_at j (pr X W d c 0) r k); pointwise [acc]
  | succ t ih =>
    intro c j r k
    rw [Finset.sum_range_succ']
    have h : acc X W d (t + 1) c j (ix2 r k) = acc X W d t (pv d c) j (ix2 r k) + cut j (pr X W d c (t + 1)) (ix2 r k) := by
      pointwise [acc]
    rw [h, ih, cut_at]
    refine congrArg₂ (· + ·) (Finset.sum_congr rfl fun s _ => ?_) rfl
    show _ = pr X W d (back d s (pv d c)) (t + 1 - (s + 1)) _
    rw [Nat.add_sub_add_right]

/-- A ring's half of the sum holds the products of all devices. -/
theorem yhalf_at (d : Bool) (c : Dev nD) (r : Fin 256) (q : Fin 1024) :
    yhalf X W d c (ix2 r q) = ∑ s ∈ Finset.range 16, pr X W d (back d s c) (15 - s) (ix2 r q) := by
  rw [Finset.sum_range_succ']
  have hq : q.val < 1024 := q.isLt
  have h : ∀ j : Fin 4, ∀ k : Fin 256, q.val = 256 * j.val + k.val →
      acc X W d 14 (pv d c) j (ix2 r k) = ∑ s ∈ Finset.range 15, pr X W d (back d (s + 1) c) (15 - (s + 1)) (ix2 r q) := by
    intro j k e
    rw [acc_at]
    refine Finset.sum_congr rfl fun s _ => ?_
    show pr X W d (back d s (pv d c)) (14 - s) _ = pr X W d (back d s (pv d c)) (15 - (s + 1)) _
    rw [show 15 - (s + 1) = 14 - s by omega]
    exact congrArg (fun q' => pr X W d (back d s (pv d c)) (14 - s) (ix2 r q')) (Fin.ext e.symm)
  have e : yhalf X W d c (ix2 r q) = (∑ s ∈ Finset.range 15, pr X W d (back d (s + 1) c) (15 - (s + 1)) (ix2 r q)) + pr X W d c 15 (ix2 r q) := by
    pointwise [yhalf]
    refine congrArg (· + _) ?_
    split
    · exact h 0 _ (by show q.val = 256 * 0 + q.val; omega)
    split
    · exact h 1 _ (by show q.val = 256 * 1 + (q.val - 256); omega)
    split
    · exact h 2 _ (by show q.val = 256 * 2 + (q.val - 256 - 256); omega)
    · exact h 3 _ (by show q.val = 256 * 3 + (q.val - 256 - 256 - 256); omega)
  exact e

/-- Where `s` places back on a ring is, in numbers. -/
theorem back_val (d : Bool) (s : ℕ) : ∀ c : Dev nD, (back d s c).val = (c.val + if d then 15 * s else s) % 16 := by
  induction s with
  | zero => intro c; have : c.val < 16 := c.isLt; cases d <;> (show c.val = _; simp; omega)
  | succ s ih =>
    intro c
    show (back d s (pv d c)).val = _
    rw [ih]
    cases d
    · have h := nb_val true c; rw [if_pos rfl] at h
      show ((nb true c).val + s) % 16 = (c.val + (s + 1)) % 16
      omega
    · have h := nb_val false c; rw [if_neg Bool.false_ne_true] at h
      show ((nb false c).val + 15 * s) % 16 = (c.val + 15 * (s + 1)) % 16
      omega

/-- Each of the 16 devices is reached once. -/
theorem back_bijective (d : Bool) (c : Dev nD) : Function.Bijective fun s : Fin 16 => back d s.val c := by
  refine (Finite.injective_iff_bijective (α := Fin 16)).mp fun s s' h => Fin.ext ?_
  have h' : (back d s.val c).val = (back d s'.val c).val := congrArg Fin.val h
  have e := back_val d s.val c
  have e' := back_val d s'.val c
  have hs : s.val < 16 := s.isLt
  have hs' : s'.val < 16 := s'.isLt
  cases d <;> simp only [if_true, Bool.false_eq_true, if_false] at e e' <;> omega

/-- The products of a message are of the rows of the device that keeps the sum. -/
theorem chunk_back (d : Bool) (c : Dev nD) (s : Fin 16) : (chunk d (back d s.val c) (15 - s.val)).val = c.val := by
  have e := back_val d s.val c
  have hc : c.val < 16 := c.isLt
  have hs : s.val < 16 := s.isLt
  unfold chunk
  cases d <;> simp only [if_true, Bool.false_eq_true, if_false] at e ⊢ <;> omega

/-- Row `256 c + r` of device `e`'s columns of `x` against column `q` of its rows of the weights. -/
def term (e : Dev nD) (p : Fin 4096) (q : Fin 2048) : EReal := ∑ k : Fin 256, X e (ix2 p k) * W e (ix2 k q)

/-- Row `r` of device `c`'s block, in the whole array. -/
def rowOf (c : Dev nD) (r : Fin 256) : Fin 4096 := ⟨256 * c.val + r.val, by have : c.val < 16 := c.isLt; omega⟩

/-- A ring's half of the sum, as a sum over the devices. -/
theorem yhalf_sum (d : Bool) (c : Dev nD) (r : Fin 256) (q : Fin 1024) (q' : Fin 2048) (hq : q'.val = lo d + q.val) :
    yhalf X W d c (ix2 r q) = ∑ e : Dev nD, term X W e (rowOf c r) q' := by
  rw [yhalf_at, ← Fin.sum_univ_eq_sum_range (fun s => pr X W d (back d s c) (15 - s) (ix2 r q)) 16]
  refine Fintype.sum_bijective _ (back_bijective d c) _ _ fun s => ?_
  unfold pr
  rw [part_at]
  refine Finset.sum_congr rfl fun k _ => ?_
  rw [rows_at, half_at]
  refine congrArg₂ (· * ·) (congrArg (fun p => X (back d s.val c) (ix2 p k)) (Fin.ext ?_)) (congrArg (fun p => W (back d s.val c) (ix2 k p)) (Fin.ext hq.symm))
  show 256 * (chunk d (back d s.val c) (15 - s.val)).val + r.val = 256 * c.val + r.val
  rw [chunk_back]

/-- Device `c`'s block before rounding. -/
theorem yblk_at (c : Dev nD) (r : Fin 256) (q : Fin 2048) :
    yblk X W c (ix2 r q) = max (∑ e : Dev nD, term X W e (rowOf c r) q) 0 := by
  pointwise [yblk, relu]
  refine congrArg (max · 0) ?_
  split
  · exact yhalf_sum X W true c r _ q (by show q.val = 0 + q.val; omega)
  · exact yhalf_sum X W false c r _ q (by show q.val = 1024 + (q.val - 1024); omega)

end Cert.KernelIdeal.Body

end
-- ==== Proof.Wanted.lean ====
/- The reference's result over the reals, entry by entry. -/
module

public import proofs.«01_k».proof.Proof.Gen.ReferenceIdeal
public import Idealize.ShloMosaic.Lib.Pointwise
public import Idealize.ShloMosaic.PureOps.Ideal.Laws

@[expose] public section

noncomputable section

namespace Cert.ReferenceIdeal.Wanted

open Cert.ReferenceIdeal Cert.ReferenceIdeal.Gen Idealize.ShloMosaic
open scoped BigOperators

/-- The product with its negative entries set to zero. -/
def prod (A : FVec Ideal S4096x4096 .bf16) (B : FVec Ideal S4096x2048 .bf16) : FVec Ideal S4096x2048 .f32 :=
  maximumf (Host.dotGeneral dot_S4096x4096_S4096x2048_S4096x2048_1_0_0_1_n_n none A B)
    (broadcastInDim S4096x2048 ![] bcast_S_S4096x2048 (constant S_ .f32 0x00000000#32))
/-- The largest absolute value of an array. -/
def top (Y : FVec Ideal S4096x2048 .f32) : FVec Ideal S_ .f32 :=
  Host.reduce FloatOps.maximumf (Host.absf Y) (constant S_ .f32 0xFF800000#32) reducesTo_S4096x2048_S_d0_1 h_S_
/-- The step of the quantiser, from the largest absolute value. -/
def step (a : FVec Ideal S_ .f32) : FVec Ideal S_ .f32 := Host.divf a (constant S_ .f32 0x42FE0000#32)
/-- The rounded array, from the array and the step. -/
def rounded (Y : FVec Ideal S4096x2048 .f32) (s : FVec Ideal S_ .f32) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf Y (broadcastInDim S4096x2048 ![] bcast_S_S4096x2048 s)))))
    (broadcastInDim S4096x2048 ![] bcast_S_S4096x2048 s)
/-- The reference's result. -/
def result (A : FVec Ideal S4096x4096 .bf16) (B : FVec Ideal S4096x2048 .bf16) : FVec Ideal S4096x2048 .f32 :=
  rounded (prod A B) (step (top (prod A B)))

/-- The step quantised with, for a largest absolute value `a`. -/
def level (a : Ideal .f32) : Ideal .f32 := FloatOps.hostDivf a (FloatOps.ofBits .f32 0x42FE0000#32)
/-- One entry, quantised with step `s`. -/
def snap (y s : Ideal .f32) : Ideal .f32 :=
  FloatOps.mulf (FloatOps.minimumf (FloatOps.ofBits .f32 0x42FE0000#32)
    (FloatOps.maximumf (FloatOps.ofBits .f32 0xC2FE0000#32) (Ideal.liftRound Ideal.roundHalfEven (FloatOps.hostDivf y s)))) s

theorem prod_at (A : FVec Ideal S4096x4096 .bf16) (B : FVec Ideal S4096x2048 .bf16) (p : Fin 4096) (q : Fin 2048) :
    prod A B (ix2 p q) = max (∑ k : Fin 4096, A (ix2 p k) * B (ix2 k q)) 0 := by
  pointwise [prod]

theorem result_at (A : FVec Ideal S4096x4096 .bf16) (B : FVec Ideal S4096x2048 .bf16) (p : Fin 4096) (q : Fin 2048) :
    result A B (ix2 p q) = snap (prod A B (ix2 p q)) (level (top (prod A B) ix0)) := by
  unfold result
  generalize prod A B = Y
  generalize top Y = a
  pointwise [rounded, step, snap, level]
  rfl

/-- An array without negative entries: its largest absolute value is at most `x` when its entries are. -/
theorem top_le (Y : FVec Ideal S4096x2048 .f32) (h0 : ∀ p q, 0 ≤ (Y (ix2 p q) : EReal)) (x : EReal) :
    (top Y ix0 : EReal) ≤ x ↔ ∀ p q, (Y (ix2 p q) : EReal) ≤ x := by
  unfold top
  rw [Host.reduce_eq_fold]
  have e : ∀ i, (Host.absf Y i : EReal) = Y i := fun i => by
    obtain ⟨p, q, rfl⟩ : ∃ p q, i = ix2 p q := ⟨i 0, i 1, eq_ix2 i⟩
    show max (Y (ix2 p q) : EReal) (-(Y (ix2 p q) : EReal)) = Y (ix2 p q)
    exact max_eq_left ((EReal.neg_le_zero.mpr (h0 p q)).trans (h0 p q))
  refine (Finset.fold_max_le (f := fun i => (Host.absf Y i : EReal)) x).trans ⟨fun h p q => ?_, fun h => ⟨?_, fun i _ => ?_⟩⟩
  · have := h.2 (ix2 p q) (Finset.mem_filter.mpr ⟨Finset.mem_univ _, funext fun a => a.elim0⟩)
    rwa [e] at this
  · show Ideal.ofBits .f32 0xFF800000#32 ≤ x
    simp [Ideal.ofBits, Ideal.ieee]
  · rw [e, eq_ix2 i]; exact h _ _

end Cert.ReferenceIdeal.Wanted

end
-- ==== Proof.Match.lean ====
/- Over the reals: each device's rounded block is its block of the reference's result. -/
module

public import proofs.«01_k».proof.Proof.Sums
public import proofs.«01_k».proof.Proof.Wanted

@[expose] public section

noncomputable section

namespace Cert.KernelIdeal.Body

open Idealize.ShloMosaic Idealize.ShloMosaic.TcCoe Idealize.SL.Sem
open Cert.KernelIdeal.Gen
open Cert.ReferenceIdeal.Wanted
open scoped BigOperators

variable (X : Dev nD → Vec Ideal S4096x256 .bf16) (W : Dev nD → Vec Ideal S256x2048 .bf16)

/-! ## The largest entry of all -/

/-- The maximum of an array is at most `x` when its entries are. -/
theorem maxOf_le (v : FVec Ideal S1x256x2048 .f32) (hφ : FKind.Formats .f32) (hacc : (0xFF800000#32 : BitVec 32) = FKind.maximumf.neutral .f32 hφ)
    (j : S1.Idx) (x : EReal) :
    (multiReduction .maximumf [1, 2] S1 v 0xFF800000#32 reduces_S1x256x2048_S1 hφ hacc j : EReal) ≤ x ↔ ∀ i, (v i : EReal) ≤ x := by
  rw [multiReduction_maximumf_eq_fold]
  refine (Finset.fold_max_le (f := fun i => (v i : EReal)) x).trans ⟨fun h i => ?_, fun h => ⟨?_, fun i _ => h i⟩⟩
  · exact h.2 i (Finset.mem_filter.mpr ⟨Finset.mem_univ _, funext fun d => by
      match d with | ⟨0, _⟩ => exact Subsingleton.elim (α := Fin 1) _ _⟩)
  · show Ideal.ofBits .f32 0xFF800000#32 ≤ x
    simp [Ideal.ofBits, Ideal.ieee]

/-- A single entry repeated over a tile. -/
theorem spread_at (g : FVec Ideal S1 .f32) (i : S8x128.Idx) :
    shapeCast S8x128 (broadcast S8x128 (extractAt ![0, 0, 0] (shapeCast S1x1x1 g shapeCasts_S1_S1x1x1) inpos_S1x1x1_p0_0_0)) shapeCasts_S8x128_S8x128 i
      = g (ix1 (0 : Fin 1)) := by
  refine congrArg g ?_
  funext d; match d with | ⟨0, _⟩ => exact Subsingleton.elim (α := Fin 1) _ _

/-- The largest entry of a block is at most `x` when its entries are. -/
theorem blockMax_le (y : FVec Ideal S256x2048 .f32) (a : Fin 8) (b : Fin 128) (x : EReal) :
    (blockMax y (ix2 a b) : EReal) ≤ x ↔ ∀ r q, (y (ix2 r q) : EReal) ≤ x := by
  unfold blockMax
  refine (iff_of_eq (congrArg (fun z : EReal => z ≤ x) (spread_at _ _))).trans ?_
  refine (maxOf_le (shapeCast S1x256x2048 y shapeCasts_S256x2048_S1x256x2048) (.inl rfl) rfl (ix1 (0 : Fin 1)) x).trans ⟨fun h r q => ?_, fun h i => ?_⟩
  · refine le_of_eq_of_le ?_ (h (ix3 (0 : Fin 1) r q))
    pointwise
  · show (y (Shape.reshapeEquiv _ i) : EReal) ≤ x
    rw [eq_ix2 (Shape.reshapeEquiv _ i)]; exact h _ _

/-- Every device is a partner of a partner. -/
theorem partners_all (c e : Dev nD) : ∃ c', (c' = c ∨ c' = partner 1 0 c ∨ c' = partner 1 1 c ∨ c' = partner 1 2 c) ∧
    (e = c' ∨ e = partner 0 0 c' ∨ e = partner 0 1 c' ∨ e = partner 0 2 c') := by
  revert c e; decide +kernel

/-- After both exchanges every device has the largest entry of all. -/
theorem amx_le (c : Dev nD) (a : Fin 8) (b : Fin 128) (x : EReal) :
    (amx X W 2 c (ix2 a b) : EReal) ≤ x ↔ ∀ e r q, (yblk X W e (ix2 r q) : EReal) ≤ x := by
  have h4 : ∀ (v w0 w1 w2 : Vec Ideal S8x128 .f32), (mx4 v w0 w1 w2 (ix2 a b) : EReal) ≤ x ↔
      (v (ix2 a b) : EReal) ≤ x ∧ (w0 (ix2 a b) : EReal) ≤ x ∧ (w1 (ix2 a b) : EReal) ≤ x ∧ (w2 (ix2 a b) : EReal) ≤ x := by
    intro v w0 w1 w2
    show max (max (max (v (ix2 a b) : EReal) (w0 (ix2 a b))) (w1 (ix2 a b))) (w2 (ix2 a b)) ≤ x ↔ _
    simp only [max_le_iff, and_assoc]
  have h1 : ∀ c' : Dev nD, (amx1 X W c' (ix2 a b) : EReal) ≤ x ↔ ∀ e : Dev nD, (e = c' ∨ e = partner 0 0 c' ∨ e = partner 0 1 c' ∨ e = partner 0 2 c') →
      ∀ r q, (yblk X W e (ix2 r q) : EReal) ≤ x := by
    intro c'
    unfold amx1 amx0
    rw [h4]
    simp only [blockMax_le, forall_eq_or_imp, forall_eq]
  rw [amx_two]
  unfold amx2
  rw [h4]
  simp only [h1]
  refine ⟨fun ⟨k0, k1, k2, k3⟩ e => ?_, fun h => ⟨fun e _ => h e, fun e _ => h e, fun e _ => h e, fun e _ => h e⟩⟩
  obtain ⟨c', h', he⟩ := partners_all c e
  rcases h' with rfl | rfl | rfl | rfl
  · exact k0 e he
  · exact k1 e he
  · exact k2 e he
  · exact k3 e he

/-- The corner of a tile. -/
theorem corner_at (v : Vec Ideal S8x128 .f32) : corner v (ix2 (0 : Fin 1) (0 : Fin 1)) = v (ix2 (0 : Fin 8) (0 : Fin 128)) := by
  refine congrArg v ?_
  funext d
  match d with
  | ⟨0, _⟩ => rfl
  | ⟨1, _⟩ => rfl
/-- One entry of a block, rounded. -/
theorem quant_at (y : FVec Ideal S256x2048 .f32) (m : Vec Ideal S1x1 .f32) (r : Fin 256) (q : Fin 2048) :
    quant y m (ix2 r q) = snap (y (ix2 r q)) (level (m (ix2 (0 : Fin 1) (0 : Fin 1)))) := by
  pointwise [quant, snap, level]
/-- One entry of a device's result. -/
theorem outv_at (c : Dev nD) (r : Fin 256) (q : Fin 2048) :
    outv X W c (ix2 r q) = snap (yblk X W c (ix2 r q)) (level (amx X W 2 c (ix2 (0 : Fin 8) (0 : Fin 128)))) := by
  unfold outv
  rw [quant_at, corner_at]

/-! ## The blocks of the arguments -/

variable {X W} {A : Cert.ReferenceIdeal.S4096x4096.Idx → EReal} {B : Cert.ReferenceIdeal.S4096x2048.Idx → EReal}

/-- How the arrays are cut into blocks. -/
theorem tiles_cols : Layout.Tiles ⟨2, ![4096, 256]⟩ ⟨2, ![4096, 4096]⟩ 1 16 := by decide
theorem tiles_rows : Layout.Tiles ⟨2, ![256, 2048]⟩ ⟨2, ![4096, 2048]⟩ 0 16 := by decide

section Blocks
variable (hX : ∀ c : Dev nD, X c = Layout.block ⟨2, ![4096, 256]⟩ ⟨2, ![4096, 4096]⟩ 1 16 c A tiles_cols)
  (hW : ∀ c : Dev nD, W c = Layout.block ⟨2, ![256, 2048]⟩ ⟨2, ![4096, 2048]⟩ 0 16 c B tiles_rows)
include hX hW

/-- A device's block before rounding is its block of the reference's. -/
theorem yblk_prod (c : Dev nD) (r : Fin 256) (q : Fin 2048) : yblk X W c (ix2 r q) = prod A B (ix2 (rowOf c r) q) := by
  rw [yblk_at, prod_at]
  refine congrArg (max · 0) ?_
  unfold term
  rw [← Fintype.sum_prod_type' (f := fun (e : Fin 16) (k : Fin 256) => (X e (ix2 (rowOf c r) k) * W e (ix2 k q) : EReal))]
  refine Fintype.sum_equiv (finProdFinEquiv (m := 16) (n := 256)) _ (fun k : Fin 4096 => A (ix2 (rowOf c r) k) * B (ix2 k q)) fun ek => ?_
  obtain ⟨e, k⟩ := ek
  have e1 : X e (ix2 (rowOf c r) k) = A (ix2 (rowOf c r) (finProdFinEquiv (m := 16) (n := 256) (e, k))) := by
    rw [hX e]
    refine congrArg A ?_
    funext d
    match d with
    | ⟨0, _⟩ => exact Fin.ext rfl
    | ⟨1, _⟩ => exact Fin.ext (by show e.val * 256 + k.val = k.val + 256 * e.val; omega)
  have e2 : W e (ix2 k q) = B (ix2 (finProdFinEquiv (m := 16) (n := 256) (e, k)) q) := by
    rw [hW e]
    refine congrArg B ?_
    funext d
    match d with
    | ⟨0, _⟩ => exact Fin.ext (by show e.val * 256 + k.val = k.val + 256 * e.val; omega)
    | ⟨1, _⟩ => exact Fin.ext rfl
  exact congrArg₂ (· * ·) e1 e2

/-- The largest entry of all is the reference's. -/
theorem amx_top (c : Dev nD) : amx X W 2 c (ix2 (0 : Fin 8) (0 : Fin 128)) = top (prod A B) ix0 := by
  refine eq_of_forall_ge_iff (α := EReal) fun x => ?_
  rw [amx_le, top_le _ (fun p q => by rw [prod_at]; exact le_max_right _ _)]
  refine ⟨fun h p q => ?_, fun h e r q => ?_⟩
  · have := h (⟨p.val / 256, by show p.val / 256 < 16; omega⟩ : Dev nD) (⟨p.val % 256, by omega⟩ : Fin 256) q
    rw [yblk_prod hX hW] at this
    have hp : rowOf (⟨p.val / 256, by show p.val / 256 < 16; omega⟩ : Dev nD) (⟨p.val % 256, by omega⟩ : Fin 256) = p :=
      Fin.ext (by show 256 * (p.val / 256) + p.val % 256 = p.val; omega)
    rwa [hp] at this
  · rw [yblk_prod hX hW]; exact h _ _

/-- A device's result is its block of the reference's. -/
theorem outv_block (c : Dev nD) : outv X W c = Layout.block ⟨2, ![256, 2048]⟩ ⟨2, ![4096, 2048]⟩ 0 16 c (result A B) tiles_rows := by
  funext i
  obtain ⟨r, q, rfl⟩ : ∃ (r : Fin 256) (q : Fin 2048), i = ix2 r q := ⟨i 0, i 1, eq_ix2 i⟩
  rw [Layout.block_apply, outv_at, yblk_prod hX hW, amx_top hX hW, ← result_at]
  refine congrArg (result A B) ?_
  funext d
  match d with
  | ⟨0, _⟩ => exact Fin.ext (by show 256 * c.val + r.val = c.val * 256 + r.val; omega)
  | ⟨1, _⟩ => exact Fin.ext rfl

end Blocks

end Cert.KernelIdeal.Body

end
-- ==== Proof.lean ====
/- The proof of the claims: the three frames and the agreement of the kernel with the reference over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Whole
public import proofs.«01_k».proof.Proof.Match
public import Idealize.ShloMosaic.Lib.Pipeline.Regions
public import Idealize.ShloMosaic.Adequacy
public import Idealize.ShloMosaic.Init

@[expose] public section

noncomputable section

namespace Cert.Proof

open Idealize.ShloMosaic Idealize.ShloMosaic.TcCoe Idealize.SL.Sem

/-- From the final memory of the run, the arguments unchanged and the semaphores at zero. -/
theorem frame_ideal {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.Body.final_0 m c), (h.1 c (1 : Fin 3)).trans (Cert.KernelIdeal.Body.final_1 m c)⟩, h.2⟩)
    (Cert.KernelIdeal.Body.run_main m ρ)

/-- The frame of the idealized program. -/
theorem frame_kernel_ideal : Cert.quiescent_KernelIdeal := fun m ρ _ => frame_ideal (F := Ideal) m ρ

/-- The two programs have the same text. -/
theorem same_text : Cert.quiescent_Kernel = (∀ (m : (ℓ : Loc Cert.KernelIdeal.nD Cert.KernelIdeal.τ Cert.KernelIdeal.sig) → Buf (Elt Bits) ℓ)
    (ρ : Dev Cert.KernelIdeal.nD → PrngReg), True →
    θ_run Cert.KernelIdeal.defs (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by chain_rfl

/-- The frame of the program as it runs. -/
theorem frame_kernel : Cert.quiescent_Kernel := same_text.mpr fun m ρ _ => frame_ideal (F := Bits) m ρ
/-- The frame of the reference. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

/-- What the kernel leaves on each device, over the reals, is the device's block of the reference's result. -/
theorem left_block
    (m : (ℓ : Loc Cert.KernelIdeal.nD Cert.KernelIdeal.τ Cert.KernelIdeal.sig) → Buf (Elt Ideal) ℓ)
    (A : FVec Ideal Cert.ReferenceIdeal.S4096x4096 .bf16) (B : FVec Ideal Cert.ReferenceIdeal.S4096x2048 .bf16)
    (h : ∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c A
      ∧ m ((c.tc : Thread Cert.KernelIdeal.nD Cert.KernelIdeal.τ).loc Cert.KernelIdeal.main_arg1) = Layout.block ⟨2, ![256, 2048]⟩ ⟨2, ![4096, 2048]⟩ 0 16 c B)
    (c : Dev Cert.KernelIdeal.nD) :
    Cert.KernelIdeal.Body.finalA m c (2 : Fin 3) = Layout.block ⟨2, ![256, 2048]⟩ ⟨2, ![4096, 2048]⟩ 0 16 c (Cert.ReferenceIdeal.Wanted.result A B) :=
  (Cert.KernelIdeal.Body.final_2 m c).trans (Cert.KernelIdeal.Body.outv_block
    (fun c => (Cert.KernelIdeal.Body.xin_eq m c).trans (h c).1) (fun c => (Cert.KernelIdeal.Body.win_eq m c).trans (h c).2) c)

/-- The kernel agrees with the reference over the reals. -/
theorem agrees : Cert.algebraic_KernelIdeal_ReferenceIdeal := fun m g m' g' _ h =>
  ⟨Cert.ReferenceIdeal.Wanted.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ k c => ⟨(k.1 c (2 : Fin 3)).trans (left_block m _ _ h c), (k.1 c (0 : Fin 3)).trans (Cert.KernelIdeal.Body.final_0 m c),
        (k.1 c (1 : Fin 3)).trans (Cert.KernelIdeal.Body.final_1 m c)⟩)
      (Cert.KernelIdeal.Body.run_main m g),
    (θ_run Cert.ReferenceIdeal.defs _ _).mono (fun _ k => k 0) (Cert.ReferenceIdeal.Value.run m' g')⟩

theorem claim : Cert.Claim := ⟨Cert.Kernel.Gen.facts, Cert.KernelIdeal.Gen.facts, Cert.ReferenceIdeal.Gen.facts,
  frame_kernel, frame_kernel_ideal, frame_reference, trivial, agrees⟩

end Cert.Proof

end
